-- ==== Defs.lean ====
def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_KernelScanIdeal_finite [hPre_finite : Cert.Pre_finite.Facts] (m : (ℓ : Loc Cert.KernelScanIdeal.nD Cert.KernelScanIdeal.τ Cert.KernelScanIdeal.sig) → Buf (Elt Ideal) ℓ) : Prop :=
  ∀ c : Dev Cert.KernelScanIdeal.nD,
    (Cert.Pre_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8))) = (fun _ => 1#1)

def Pre_ReferenceScanIdeal (m : (ℓ : Loc Cert.ReferenceScanIdeal.nD Cert.ReferenceScanIdeal.τ Cert.ReferenceScanIdeal.sig) → Buf (Elt Ideal) ℓ) : Prop :=
  True

def Pre_ReferenceScanIdeal_finite [hPre_finite : Cert.Pre_finite.Facts] (m : (ℓ : Loc Cert.ReferenceScanIdeal.nD Cert.ReferenceScanIdeal.τ Cert.ReferenceScanIdeal.sig) → Buf (Elt Ideal) ℓ) : Prop :=
  ∀ c : Dev Cert.ReferenceScanIdeal.nD,
    (Cert.Pre_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelHyena (m : (ℓ : Loc Cert.KernelHyena.nD Cert.KernelHyena.τ Cert.KernelHyena.sig) → Buf (Elt Bits) ℓ) : Prop :=
  True

def Pre_KernelHyenaIdeal (m : (ℓ : Loc Cert.KernelHyenaIdeal.nD Cert.KernelHyenaIdeal.τ Cert.KernelHyenaIdeal.sig) → Buf (Elt Ideal) ℓ) : Prop :=
  True

def Pre_ReferenceHyenaIdeal (m : (ℓ : Loc Cert.ReferenceHyenaIdeal.nD Cert.ReferenceHyenaIdeal.τ Cert.ReferenceHyenaIdeal.sig) → Buf (Elt Ideal) ℓ) : Prop :=
  True

def Pre_KernelLru (m : (ℓ : Loc Cert.KernelLru.nD Cert.KernelLru.τ Cert.KernelLru.sig) → Buf (Elt Bits) ℓ) : Prop :=
  True

def Pre_KernelLruIdeal (m : (ℓ : Loc Cert.KernelLruIdeal.nD Cert.KernelLruIdeal.τ Cert.KernelLruIdeal.sig) → Buf (Elt Ideal) ℓ) : Prop :=
  True

def Pre_ReferenceLruIdeal (m : (ℓ : Loc Cert.ReferenceLruIdeal.nD Cert.ReferenceLruIdeal.τ Cert.ReferenceLruIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_KernelModIdeal_finite_mod [hPre_finite_mod : Cert.Pre_finite_mod.Facts] (m : (ℓ : Loc Cert.KernelModIdeal.nD Cert.KernelModIdeal.τ Cert.KernelModIdeal.sig) → Buf (Elt Ideal) ℓ) : Prop :=
  ∀ c : Dev Cert.KernelModIdeal.nD,
    (Cert.Pre_finite_mod.fn (F := Ideal) (m ((c.tc : Thread Cert.KernelModIdeal.nD Cert.KernelModIdeal.τ).loc Cert.KernelModIdeal.main_arg0)) (m ((c.tc : Thread Cert.KernelModIdeal.nD Cert.KernelModIdeal.τ).loc Cert.KernelModIdeal.main_arg1)) (m ((c.tc : Thread Cert.KernelModIdeal.nD Cert.KernelModIdeal.τ).loc Cert.KernelModIdeal.main_arg2)) (m ((c.tc : Thread Cert.KernelModIdeal.nD Cert.KernelModIdeal.τ).loc Cert.KernelModIdeal.main_arg3))) = (fun _ => 1#1)

def Pre_ReferenceModIdeal (m : (ℓ : Loc Cert.ReferenceModIdeal.nD Cert.ReferenceModIdeal.τ Cert.ReferenceModIdeal.sig) → Buf (Elt Ideal) ℓ) : Prop :=
  True

def Pre_ReferenceModIdeal_finite_mod [hPre_finite_mod : Cert.Pre_finite_mod.Facts] (m : (ℓ : Loc Cert.ReferenceModIdeal.nD Cert.ReferenceModIdeal.τ Cert.ReferenceModIdeal.sig) → Buf (Elt Ideal) ℓ) : Prop :=
  ∀ c : Dev Cert.ReferenceModIdeal.nD,
    (Cert.Pre_finite_mod.fn (F := Ideal) (m ((c.tc : Thread Cert.ReferenceModIdeal.nD Cert.ReferenceModIdeal.τ).loc Cert.ReferenceModIdeal.main_arg0)) (m ((c.tc : Thread Cert.ReferenceModIdeal.nD Cert.ReferenceModIdeal.τ).loc Cert.ReferenceModIdeal.main_arg1)) (m ((c.tc : Thread Cert.ReferenceModIdeal.nD Cert.ReferenceModIdeal.τ).loc Cert.ReferenceModIdeal.main_arg2)) (m ((c.tc : Thread Cert.ReferenceModIdeal.nD Cert.ReferenceModIdeal.τ).loc Cert.ReferenceModIdeal.main_arg3))) = (fun _ => 1#1)

def Pre_KernelNormCtx (m : (ℓ : Loc Cert.KernelNormCtx.nD Cert.KernelNormCtx.τ Cert.KernelNormCtx.sig) → Buf (Elt Bits) ℓ) : Prop :=
  True

def Pre_KernelNormCtxIdeal (m : (ℓ : Loc Cert.KernelNormCtxIdeal.nD Cert.KernelNormCtxIdeal.τ Cert.KernelNormCtxIdeal.sig) → Buf (Elt Ideal) ℓ) : Prop :=
  True

def Pre_ReferenceNormCtxIdeal (m : (ℓ : Loc Cert.ReferenceNormCtxIdeal.nD Cert.ReferenceNormCtxIdeal.τ Cert.ReferenceNormCtxIdeal.sig) → Buf (Elt Ideal) ℓ) : Prop :=
  True

def Pre_KernelLruCtx (m : (ℓ : Loc Cert.KernelLruCtx.nD Cert.KernelLruCtx.τ Cert.KernelLruCtx.sig) → Buf (Elt Bits) ℓ) : Prop :=
  True

def Pre_KernelLruCtxIdeal (m : (ℓ : Loc Cert.KernelLruCtxIdeal.nD Cert.KernelLruCtxIdeal.τ Cert.KernelLruCtxIdeal.sig) → Buf (Elt Ideal) ℓ) : Prop :=
  True

def Pre_ReferenceLruCtxIdeal (m : (ℓ : Loc Cert.ReferenceLruCtxIdeal.nD Cert.ReferenceLruCtxIdeal.τ Cert.ReferenceLruCtxIdeal.sig) → Buf (Elt Ideal) ℓ) : Prop :=
  True

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3)
      ∧ r.2.mem ((c.tc : Thread Cert.KernelScan.nD Cert.KernelScan.τ).loc Cert.KernelScan.main_arg4) = m ((c.tc : Thread Cert.KernelScan.nD Cert.KernelScan.τ).loc Cert.KernelScan.main_arg4)
      ∧ r.2.mem ((c.tc : Thread Cert.KernelScan.nD Cert.KernelScan.τ).loc Cert.KernelScan.main_arg5) = m ((c.tc : Thread Cert.KernelScan.nD Cert.KernelScan.τ).loc Cert.KernelScan.main_arg5)
      ∧ r.2.mem ((c.tc : Thread Cert.KernelScan.nD Cert.KernelScan.τ).loc Cert.KernelScan.main_arg6) = m ((c.tc : Thread Cert.KernelScan.nD Cert.KernelScan.τ).loc Cert.KernelScan.main_arg6)
      ∧ r.2.mem ((c.tc : Thread Cert.KernelScan.nD Cert.KernelScan.τ).loc Cert.KernelScan.main_arg7) = m ((c.tc : Thread Cert.KernelScan.nD Cert.KernelScan.τ).loc Cert.KernelScan.main_arg7)
      ∧ r.2.mem ((c.tc : Thread Cert.KernelScan.nD Cert.KernelScan.τ).loc Cert.KernelScan.main_arg8) = m ((c.tc : Thread Cert.KernelScan.nD Cert.KernelScan.τ).loc Cert.KernelScan.main_arg8))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8))
      ∧ r.2.sem = fun _ => 0)

def quiescent_KernelScanIdeal_pre_finite [hKernelScanIdeal : Cert.KernelScanIdeal.Facts] [hPre_finite : Cert.Pre_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal_finite m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8))
      ∧ r.2.sem = fun _ => 0)

def quiescent_ReferenceScanIdeal_pre_finite [hReferenceScanIdeal : Cert.ReferenceScanIdeal.Facts] [hPre_finite : Cert.Pre_finite.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal_finite m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelHyena [hKernelHyena : Cert.KernelHyena.Facts] : Prop :=
  ∀ (m : (ℓ : Loc Cert.KernelHyena.nD Cert.KernelHyena.τ Cert.KernelHyena.sig) → Buf (Elt Bits) ℓ) (g : Dev Cert.KernelHyena.nD → PrngReg), Pre_KernelHyena m →
    θ_run (Cert.KernelHyena.defs (F := Bits)) (onTc (τ := Cert.KernelHyena.τ) (Cert.KernelHyena.main (F := Bits))) ⟨m, fun _ => 0, g⟩ (fun r => (∀ c : Dev Cert.KernelHyena.nD,
      r.2.mem ((c.tc : Thread Cert.KernelHyena.nD Cert.KernelHyena.τ).loc Cert.KernelHyena.main_arg0) = m ((c.tc : Thread Cert.KernelHyena.nD Cert.KernelHyena.τ).loc Cert.KernelHyena.main_arg0)
      ∧ r.2.mem ((c.tc : Thread Cert.KernelHyena.nD Cert.KernelHyena.τ).loc Cert.KernelHyena.main_arg1) = m ((c.tc : Thread Cert.KernelHyena.nD Cert.KernelHyena.τ).loc Cert.KernelHyena.main_arg1)
      ∧ r.2.mem ((c.tc : Thread Cert.KernelHyena.nD Cert.KernelHyena.τ).loc Cert.KernelHyena.main_arg2) = m ((c.tc : Thread Cert.KernelHyena.nD Cert.KernelHyena.τ).loc Cert.KernelHyena.main_arg2)
      ∧ r.2.mem ((c.tc : Thread Cert.KernelHyena.nD Cert.KernelHyena.τ).loc Cert.KernelHyena.main_arg3) = m ((c.tc : Thread Cert.KernelHyena.nD Cert.KernelHyena.τ).loc Cert.KernelHyena.main_arg3)
      ∧ r.2.mem ((c.tc : Thread Cert.KernelHyena.nD Cert.KernelHyena.τ).loc Cert.KernelHyena.main_arg4) = m ((c.tc : Thread Cert.KernelHyena.nD Cert.KernelHyena.τ).loc Cert.KernelHyena.main_arg4))
      ∧ r.2.sem = fun _ => 0)

def quiescent_KernelHyenaIdeal [hKernelHyenaIdeal : Cert.KernelHyenaIdeal.Facts] : Prop :=
  ∀ (m : (ℓ : Loc Cert.KernelHyenaIdeal.nD Cert.KernelHyenaIdeal.τ Cert.KernelHyenaIdeal.sig) → Buf (Elt Ideal) ℓ) (g : Dev Cert.KernelHyenaIdeal.nD → PrngReg), Pre_KernelHyenaIdeal m →
    θ_run (Cert.KernelHyenaIdeal.defs (F := Ideal)) (onTc (τ := Cert.KernelHyenaIdeal.τ) (Cert.KernelHyenaIdeal.main (F := Ideal))) ⟨m, fun _ => 0, g⟩ (fun r => (∀ c : Dev Cert.KernelHyenaIdeal.nD,
      r.2.mem ((c.tc : Thread Cert.KernelHyenaIdeal.nD Cert.KernelHyenaIdeal.τ).loc Cert.KernelHyenaIdeal.main_arg0) = m ((c.tc : Thread Cert.KernelHyenaIdeal.nD Cert.KernelHyenaIdeal.τ).loc Cert.KernelHyenaIdeal.main_arg0)
      ∧ r.2.mem ((c.tc : Thread Cert.KernelHyenaIdeal.nD Cert.KernelHyenaIdeal.τ).loc Cert.KernelHyenaIdeal.main_arg1) = m ((c.tc : Thread Cert.KernelHyenaIdeal.nD Cert.KernelHyenaIdeal.τ).loc Cert.KernelHyenaIdeal.main_arg1)
      ∧ r.2.mem ((c.tc : Thread Cert.KernelHyenaIdeal.nD Cert.KernelHyenaIdeal.τ).loc Cert.KernelHyenaIdeal.main_arg2) = m ((c.tc : Thread Cert.KernelHyenaIdeal.nD Cert.KernelHyenaIdeal.τ).loc Cert.KernelHyenaIdeal.main_arg2)
      ∧ r.2.mem ((c.tc : Thread Cert.KernelHyenaIdeal.nD Cert.KernelHyenaIdeal.τ).loc Cert.KernelHyenaIdeal.main_arg3) = m ((c.tc : Thread Cert.KernelHyenaIdeal.nD Cert.KernelHyenaIdeal.τ).loc Cert.KernelHyenaIdeal.main_arg3)
      ∧ r.2.mem ((c.tc : Thread Cert.KernelHyenaIdeal.nD Cert.KernelHyenaIdeal.τ).loc Cert.KernelHyenaIdeal.main_arg4) = m ((c.tc : Thread Cert.KernelHyenaIdeal.nD Cert.KernelHyenaIdeal.τ).loc Cert.KernelHyenaIdeal.main_arg4))
      ∧ r.2.sem = fun _ => 0)

def quiescent_ReferenceHyenaIdeal [hReferenceHyenaIdeal : Cert.ReferenceHyenaIdeal.Facts] : Prop :=
  ∀ (m : (ℓ : Loc Cert.ReferenceHyenaIdeal.nD Cert.ReferenceHyenaIdeal.τ Cert.ReferenceHyenaIdeal.sig) → Buf (Elt Ideal) ℓ) (g : Dev Cert.ReferenceHyenaIdeal.nD → PrngReg), Pre_ReferenceHyenaIdeal m →
    θ_run (Cert.ReferenceHyenaIdeal.defs (F := Ideal)) (onTc (τ := Cert.ReferenceHyenaIdeal.τ) (Cert.ReferenceHyenaIdeal.main (F := Ideal))) ⟨m, fun _ => 0, g⟩ (fun r => (∀ c : Dev Cert.ReferenceHyenaIdeal.nD,
      r.2.mem ((c.tc : Thread Cert.ReferenceHyenaIdeal.nD Cert.ReferenceHyenaIdeal.τ).loc Cert.ReferenceHyenaIdeal.main_arg0) = m ((c.tc : Thread Cert.ReferenceHyenaIdeal.nD Cert.ReferenceHyenaIdeal.τ).loc Cert.ReferenceHyenaIdeal.main_arg0)
      ∧ r.2.mem ((c.tc : Thread Cert.ReferenceHyenaIdeal.nD Cert.ReferenceHyenaIdeal.τ).loc Cert.ReferenceHyenaIdeal.main_arg1) = m ((c.tc : Thread Cert.ReferenceHyenaIdeal.nD Cert.ReferenceHyenaIdeal.τ).loc Cert.ReferenceHyenaIdeal.main_arg1)
      ∧ r.2.mem ((c.tc : Thread Cert.ReferenceHyenaIdeal.nD Cert.ReferenceHyenaIdeal.τ).loc Cert.ReferenceHyenaIdeal.main_arg2) = m ((c.tc : Thread Cert.ReferenceHyenaIdeal.nD Cert.ReferenceHyenaIdeal.τ).loc Cert.ReferenceHyenaIdeal.main_arg2)
      ∧ r.2.mem ((c.tc : Thread Cert.ReferenceHyenaIdeal.nD Cert.ReferenceHyenaIdeal.τ).loc Cert.ReferenceHyenaIdeal.main_arg3) = m ((c.tc : Thread Cert.ReferenceHyenaIdeal.nD Cert.ReferenceHyenaIdeal.τ).loc Cert.ReferenceHyenaIdeal.main_arg3)
      ∧ r.2.mem ((c.tc : Thread Cert.ReferenceHyenaIdeal.nD Cert.ReferenceHyenaIdeal.τ).loc Cert.ReferenceHyenaIdeal.main_arg4) = m ((c.tc : Thread Cert.ReferenceHyenaIdeal.nD Cert.ReferenceHyenaIdeal.τ).loc Cert.ReferenceHyenaIdeal.main_arg4))
      ∧ r.2.sem = fun _ => 0)

def quiescent_KernelLru [hKernelLru : Cert.KernelLru.Facts] : Prop :=
  ∀ (m : (ℓ : Loc Cert.KernelLru.nD Cert.KernelLru.τ Cert.KernelLru.sig) → Buf (Elt Bits) ℓ) (g : Dev Cert.KernelLru.nD → PrngReg), Pre_KernelLru m →
    θ_run (Cert.KernelLru.defs (F := Bits)) (onTc (τ := Cert.KernelLru.τ) (Cert.KernelLru.main (F := Bits))) ⟨m, fun _ => 0, g⟩ (fun r => (∀ c : Dev Cert.KernelLru.nD,
      r.2.mem ((c.tc : Thread Cert.KernelLru.nD Cert.KernelLru.τ).loc Cert.KernelLru.main_arg0) = m ((c.tc : Thread Cert.KernelLru.nD Cert.KernelLru.τ).loc Cert.KernelLru.main_arg0)
      ∧ r.2.mem ((c.tc : Thread Cert.KernelLru.nD Cert.KernelLru.τ).loc Cert.KernelLru.main_arg1) = m ((c.tc : Thread Cert.KernelLru.nD Cert.KernelLru.τ).loc Cert.KernelLru.main_arg1)
      ∧ r.2.mem ((c.tc : Thread Cert.KernelLru.nD Cert.KernelLru.τ).loc Cert.KernelLru.main_arg2) = m ((c.tc : Thread Cert.KernelLru.nD Cert.KernelLru.τ).loc Cert.KernelLru.main_arg2))
      ∧ r.2.sem = fun _ => 0)

def quiescent_KernelLruIdeal [hKernelLruIdeal : Cert.KernelLruIdeal.Facts] : Prop :=
  ∀ (m : (ℓ : Loc Cert.KernelLruIdeal.nD Cert.KernelLruIdeal.τ Cert.KernelLruIdeal.sig) → Buf (Elt Ideal) ℓ) (g : Dev Cert.KernelLruIdeal.nD → PrngReg), Pre_KernelLruIdeal m →
    θ_run (Cert.KernelLruIdeal.defs (F := Ideal)) (onTc (τ := Cert.KernelLruIdeal.τ) (Cert.KernelLruIdeal.main (F := Ideal))) ⟨m, fun _ => 0, g⟩ (fun r => (∀ c : Dev Cert.KernelLruIdeal.nD,
      r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
      ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1)
      ∧ r.2.mem ((c.tc : Thread Cert.KernelLruIdeal.nD Cert.KernelLruIdeal.τ).loc Cert.KernelLruIdeal.main_arg2) = m ((c.tc : Thread Cert.KernelLruIdeal.nD Cert.KernelLruIdeal.τ).loc Cert.KernelLruIdeal.main_arg2))
      ∧ r.2.sem = fun _ => 0)

def quiescent_ReferenceLruIdeal [hReferenceLruIdeal : Cert.ReferenceLruIdeal.Facts] : Prop :=
  ∀ (m : (ℓ : Loc Cert.ReferenceLruIdeal.nD Cert.ReferenceLruIdeal.τ Cert.ReferenceLruIdeal.sig) → Buf (Elt Ideal) ℓ) (g : Dev Cert.ReferenceLruIdeal.nD → PrngReg), Pre_ReferenceLruIdeal m →
    θ_run (Cert.ReferenceLruIdeal.defs (F := Ideal)) (onTc (τ := Cert.ReferenceLruIdeal.τ) (Cert.ReferenceLruIdeal.main (F := Ideal))) ⟨m, fun _ => 0, g⟩ (fun r => (∀ c : Dev Cert.ReferenceLruIdeal.nD,
      r.2.mem ((c.tc : Thread Cert.ReferenceLruIdeal.nD Cert.ReferenceLruIdeal.τ).loc Cert.ReferenceLruIdeal.main_arg0) = m ((c.tc : Thread Cert.ReferenceLruIdeal.nD Cert.ReferenceLruIdeal.τ).loc Cert.ReferenceLruIdeal.main_arg0)
      ∧ r.2.mem ((c.tc : Thread Cert.ReferenceLruIdeal.nD Cert.ReferenceLruIdeal.τ).loc Cert.ReferenceLruIdeal.main_arg1) = m ((c.tc : Thread Cert.ReferenceLruIdeal.nD Cert.ReferenceLruIdeal.τ).loc Cert.ReferenceLruIdeal.main_arg1)
      ∧ r.2.mem ((c.tc : Thread Cert.ReferenceLruIdeal.nD Cert.ReferenceLruIdeal.τ).loc Cert.ReferenceLruIdeal.main_arg2) = m ((c.tc : Thread Cert.ReferenceLruIdeal.nD Cert.ReferenceLruIdeal.τ).loc Cert.ReferenceLruIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_KernelModIdeal_pre_finite_mod [hKernelModIdeal : Cert.KernelModIdeal.Facts] [hPre_finite_mod : Cert.Pre_finite_mod.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal_finite_mod m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_ReferenceModIdeal_pre_finite_mod [hReferenceModIdeal : Cert.ReferenceModIdeal.Facts] [hPre_finite_mod : Cert.Pre_finite_mod.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal_finite_mod m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelNormCtx [hKernelNormCtx : Cert.KernelNormCtx.Facts] : Prop :=
  ∀ (m : (ℓ : Loc Cert.KernelNormCtx.nD Cert.KernelNormCtx.τ Cert.KernelNormCtx.sig) → Buf (Elt Bits) ℓ) (g : Dev Cert.KernelNormCtx.nD → PrngReg), Pre_KernelNormCtx m →
    θ_run (Cert.KernelNormCtx.defs (F := Bits)) (onTc (τ := Cert.KernelNormCtx.τ) (Cert.KernelNormCtx.main (F := Bits))) ⟨m, fun _ => 0, g⟩ (fun r => (∀ c : Dev Cert.KernelNormCtx.nD,
      r.2.mem ((c.tc : Thread Cert.KernelNormCtx.nD Cert.KernelNormCtx.τ).loc Cert.KernelNormCtx.main_arg0) = m ((c.tc : Thread Cert.KernelNormCtx.nD Cert.KernelNormCtx.τ).loc Cert.KernelNormCtx.main_arg0)
      ∧ r.2.mem ((c.tc : Thread Cert.KernelNormCtx.nD Cert.KernelNormCtx.τ).loc Cert.KernelNormCtx.main_arg1) = m ((c.tc : Thread Cert.KernelNormCtx.nD Cert.KernelNormCtx.τ).loc Cert.KernelNormCtx.main_arg1)
      ∧ r.2.mem ((c.tc : Thread Cert.KernelNormCtx.nD Cert.KernelNormCtx.τ).loc Cert.KernelNormCtx.main_arg2) = m ((c.tc : Thread Cert.KernelNormCtx.nD Cert.KernelNormCtx.τ).loc Cert.KernelNormCtx.main_arg2)
      ∧ r.2.mem ((c.tc : Thread Cert.KernelNormCtx.nD Cert.KernelNormCtx.τ).loc Cert.KernelNormCtx.main_arg3) = m ((c.tc : Thread Cert.KernelNormCtx.nD Cert.KernelNormCtx.τ).loc Cert.KernelNormCtx.main_arg3))
      ∧ r.2.sem = fun _ => 0)

def quiescent_KernelNormCtxIdeal [hKernelNormCtxIdeal : Cert.KernelNormCtxIdeal.Facts] : Prop :=
  ∀ (m : (ℓ : Loc Cert.KernelNormCtxIdeal.nD Cert.KernelNormCtxIdeal.τ Cert.KernelNormCtxIdeal.sig) → Buf (Elt Ideal) ℓ) (g : Dev Cert.KernelNormCtxIdeal.nD → PrngReg), Pre_KernelNormCtxIdeal m →
    θ_run (Cert.KernelNormCtxIdeal.defs (F := Ideal)) (onTc (τ := Cert.KernelNormCtxIdeal.τ) (Cert.KernelNormCtxIdeal.main (F := Ideal))) ⟨m, fun _ => 0, g⟩ (fun r => (∀ c : Dev Cert.KernelNormCtxIdeal.nD,
      r.2.mem ((c.tc : Thread Cert.KernelNormCtxIdeal.nD Cert.KernelNormCtxIdeal.τ).loc Cert.KernelNormCtxIdeal.main_arg0) = m ((c.tc : Thread Cert.KernelNormCtxIdeal.nD Cert.KernelNormCtxIdeal.τ).loc Cert.KernelNormCtxIdeal.main_arg0)
      ∧ r.2.mem ((c.tc : Thread Cert.KernelNormCtxIdeal.nD Cert.KernelNormCtxIdeal.τ).loc Cert.KernelNormCtxIdeal.main_arg1) = m ((c.tc : Thread Cert.KernelNormCtxIdeal.nD Cert.KernelNormCtxIdeal.τ).loc Cert.KernelNormCtxIdeal.main_arg1)
      ∧ r.2.mem ((c.tc : Thread Cert.KernelNormCtxIdeal.nD Cert.KernelNormCtxIdeal.τ).loc Cert.KernelNormCtxIdeal.main_arg2) = m ((c.tc : Thread Cert.KernelNormCtxIdeal.nD Cert.KernelNormCtxIdeal.τ).loc Cert.KernelNormCtxIdeal.main_arg2)
      ∧ r.2.mem ((c.tc : Thread Cert.KernelNormCtxIdeal.nD Cert.KernelNormCtxIdeal.τ).loc Cert.KernelNormCtxIdeal.main_arg3) = m ((c.tc : Thread Cert.KernelNormCtxIdeal.nD Cert.KernelNormCtxIdeal.τ).loc Cert.KernelNormCtxIdeal.main_arg3))
      ∧ r.2.sem = fun _ => 0)

def quiescent_ReferenceNormCtxIdeal [hReferenceNormCtxIdeal : Cert.ReferenceNormCtxIdeal.Facts] : Prop :=
  ∀ (m : (ℓ : Loc Cert.ReferenceNormCtxIdeal.nD Cert.ReferenceNormCtxIdeal.τ Cert.ReferenceNormCtxIdeal.sig) → Buf (Elt Ideal) ℓ) (g : Dev Cert.ReferenceNormCtxIdeal.nD → PrngReg), Pre_ReferenceNormCtxIdeal m →
    θ_run (Cert.ReferenceNormCtxIdeal.defs (F := Ideal)) (onTc (τ := Cert.ReferenceNormCtxIdeal.τ) (Cert.ReferenceNormCtxIdeal.main (F := Ideal))) ⟨m, fun _ => 0, g⟩ (fun r => (∀ c : Dev Cert.ReferenceNormCtxIdeal.nD,
      r.2.mem ((c.tc : Thread Cert.ReferenceNormCtxIdeal.nD Cert.ReferenceNormCtxIdeal.τ).loc Cert.ReferenceNormCtxIdeal.main_arg0) = m ((c.tc : Thread Cert.ReferenceNormCtxIdeal.nD Cert.ReferenceNormCtxIdeal.τ).loc Cert.ReferenceNormCtxIdeal.main_arg0)
      ∧ r.2.mem ((c.tc : Thread Cert.ReferenceNormCtxIdeal.nD Cert.ReferenceNormCtxIdeal.τ).loc Cert.ReferenceNormCtxIdeal.main_arg1) = m ((c.tc : Thread Cert.ReferenceNormCtxIdeal.nD Cert.ReferenceNormCtxIdeal.τ).loc Cert.ReferenceNormCtxIdeal.main_arg1)
      ∧ r.2.mem ((c.tc : Thread Cert.ReferenceNormCtxIdeal.nD Cert.ReferenceNormCtxIdeal.τ).loc Cert.ReferenceNormCtxIdeal.main_arg2) = m ((c.tc : Thread Cert.ReferenceNormCtxIdeal.nD Cert.ReferenceNormCtxIdeal.τ).loc Cert.ReferenceNormCtxIdeal.main_arg2)
      ∧ r.2.mem ((c.tc : Thread Cert.ReferenceNormCtxIdeal.nD Cert.ReferenceNormCtxIdeal.τ).loc Cert.ReferenceNormCtxIdeal.main_arg3) = m ((c.tc : Thread Cert.ReferenceNormCtxIdeal.nD Cert.ReferenceNormCtxIdeal.τ).loc Cert.ReferenceNormCtxIdeal.main_arg3))
      ∧ r.2.sem = fun _ => 0)

def quiescent_KernelLruCtx [hKernelLruCtx : Cert.KernelLruCtx.Facts] : Prop :=
  ∀ (m : (ℓ : Loc Cert.KernelLruCtx.nD Cert.KernelLruCtx.τ Cert.KernelLruCtx.sig) → Buf (Elt Bits) ℓ) (g : Dev Cert.KernelLruCtx.nD → PrngReg), Pre_KernelLruCtx m →
    θ_run (Cert.KernelLruCtx.defs (F := Bits)) (onTc (τ := Cert.KernelLruCtx.τ) (Cert.KernelLruCtx.main (F := Bits))) ⟨m, fun _ => 0, g⟩ (fun r => (∀ c : Dev Cert.KernelLruCtx.nD,
      r.2.mem ((c.tc : Thread Cert.KernelLruCtx.nD Cert.KernelLruCtx.τ).loc Cert.KernelLruCtx.main_arg0) = m ((c.tc : Thread Cert.KernelLruCtx.nD Cert.KernelLruCtx.τ).loc Cert.KernelLruCtx.main_arg0)
      ∧ r.2.mem ((c.tc : Thread Cert.KernelLruCtx.nD Cert.KernelLruCtx.τ).loc Cert.KernelLruCtx.main_arg1) = m ((c.tc : Thread Cert.KernelLruCtx.nD Cert.KernelLruCtx.τ).loc Cert.KernelLruCtx.main_arg1)
      ∧ r.2.mem ((c.tc : Thread Cert.KernelLruCtx.nD Cert.KernelLruCtx.τ).loc Cert.KernelLruCtx.main_arg2) = m ((c.tc : Thread Cert.KernelLruCtx.nD Cert.KernelLruCtx.τ).loc Cert.KernelLruCtx.main_arg2))
      ∧ r.2.sem = fun _ => 0)

def quiescent_KernelLruCtxIdeal [hKernelLruCtxIdeal : Cert.KernelLruCtxIdeal.Facts] : Prop :=
  ∀ (m : (ℓ : Loc Cert.KernelLruCtxIdeal.nD Cert.KernelLruCtxIdeal.τ Cert.KernelLruCtxIdeal.sig) → Buf (Elt Ideal) ℓ) (g : Dev Cert.KernelLruCtxIdeal.nD → PrngReg), Pre_KernelLruCtxIdeal m →
    θ_run (Cert.KernelLruCtxIdeal.defs (F := Ideal)) (onTc (τ := Cert.KernelLruCtxIdeal.τ) (Cert.KernelLruCtxIdeal.main (F := Ideal))) ⟨m, fun _ => 0, g⟩ (fun r => (∀ c : Dev Cert.KernelLruCtxIdeal.nD,
      r.2.mem ((c.tc : Thread Cert.KernelLruCtxIdeal.nD Cert.KernelLruCtxIdeal.τ).loc Cert.KernelLruCtxIdeal.main_arg0) = m ((c.tc : Thread Cert.KernelLruCtxIdeal.nD Cert.KernelLruCtxIdeal.τ).loc Cert.KernelLruCtxIdeal.main_arg0)
      ∧ r.2.mem ((c.tc : Thread Cert.KernelLruCtxIdeal.nD Cert.KernelLruCtxIdeal.τ).loc Cert.KernelLruCtxIdeal.main_arg1) = m ((c.tc : Thread Cert.KernelLruCtxIdeal.nD Cert.KernelLruCtxIdeal.τ).loc Cert.KernelLruCtxIdeal.main_arg1)
      ∧ r.2.mem ((c.tc : Thread Cert.KernelLruCtxIdeal.nD Cert.KernelLruCtxIdeal.τ).loc Cert.KernelLruCtxIdeal.main_arg2) = m ((c.tc : Thread Cert.KernelLruCtxIdeal.nD Cert.KernelLruCtxIdeal.τ).loc Cert.KernelLruCtxIdeal.main_arg2))
      ∧ r.2.sem = fun _ => 0)

def quiescent_ReferenceLruCtxIdeal [hReferenceLruCtxIdeal : Cert.ReferenceLruCtxIdeal.Facts] : Prop :=
  ∀ (m : (ℓ : Loc Cert.ReferenceLruCtxIdeal.nD Cert.ReferenceLruCtxIdeal.τ Cert.ReferenceLruCtxIdeal.sig) → Buf (Elt Ideal) ℓ) (g : Dev Cert.ReferenceLruCtxIdeal.nD → PrngReg), Pre_ReferenceLruCtxIdeal m →
    θ_run (Cert.ReferenceLruCtxIdeal.defs (F := Ideal)) (onTc (τ := Cert.ReferenceLruCtxIdeal.τ) (Cert.ReferenceLruCtxIdeal.main (F := Ideal))) ⟨m, fun _ => 0, g⟩ (fun r => (∀ c : Dev Cert.ReferenceLruCtxIdeal.nD,
      r.2.mem ((c.tc : Thread Cert.ReferenceLruCtxIdeal.nD Cert.ReferenceLruCtxIdeal.τ).loc Cert.ReferenceLruCtxIdeal.main_arg0) = m ((c.tc : Thread Cert.ReferenceLruCtxIdeal.nD Cert.ReferenceLruCtxIdeal.τ).loc Cert.ReferenceLruCtxIdeal.main_arg0)
      ∧ r.2.mem ((c.tc : Thread Cert.ReferenceLruCtxIdeal.nD Cert.ReferenceLruCtxIdeal.τ).loc Cert.ReferenceLruCtxIdeal.main_arg1) = m ((c.tc : Thread Cert.ReferenceLruCtxIdeal.nD Cert.ReferenceLruCtxIdeal.τ).loc Cert.ReferenceLruCtxIdeal.main_arg1)
      ∧ r.2.mem ((c.tc : Thread Cert.ReferenceLruCtxIdeal.nD Cert.ReferenceLruCtxIdeal.τ).loc Cert.ReferenceLruCtxIdeal.main_arg2) = m ((c.tc : Thread Cert.ReferenceLruCtxIdeal.nD Cert.ReferenceLruCtxIdeal.τ).loc Cert.ReferenceLruCtxIdeal.main_arg2))
      ∧ r.2.sem = fun _ => 0)

def preserves_KernelScan_KernelScanIdeal : Prop :=
  True

def algebraic_KernelScanIdeal_ReferenceScanIdeal_pre_finite [hKernelScanIdeal : Cert.KernelScanIdeal.Facts] [hReferenceScanIdeal : Cert.ReferenceScanIdeal.Facts] [hPre_finite : Cert.Pre_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal_finite m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)
      ∧ m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)
      ∧ m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)
      ∧ m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)
      ∧ m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)
      ∧ m' ((c.tc : Thread Cert.ReferenceScanIdeal.nD Cert.ReferenceScanIdeal.τ).loc Cert.ReferenceScanIdeal.main_arg6) = m ((c.tc : Thread Cert.KernelScanIdeal.nD Cert.KernelScanIdeal.τ).loc Cert.KernelScanIdeal.main_arg6)
      ∧ m' ((c.tc : Thread Cert.ReferenceScanIdeal.nD Cert.ReferenceScanIdeal.τ).loc Cert.ReferenceScanIdeal.main_arg7) = m ((c.tc : Thread Cert.KernelScanIdeal.nD Cert.KernelScanIdeal.τ).loc Cert.KernelScanIdeal.main_arg7)
      ∧ m' ((c.tc : Thread Cert.ReferenceScanIdeal.nD Cert.ReferenceScanIdeal.τ).loc Cert.ReferenceScanIdeal.main_arg8) = m ((c.tc : Thread Cert.KernelScanIdeal.nD Cert.KernelScanIdeal.τ).loc Cert.KernelScanIdeal.main_arg8)) →
    ∃ (v0 : (c : Dev Cert.KernelScanIdeal.nD) → Buf (Elt Ideal) ((c.tc : Thread Cert.KernelScanIdeal.nD Cert.KernelScanIdeal.τ).loc Cert.KernelScanIdeal.main_v40_0)) (v1 : (c : Dev Cert.KernelScanIdeal.nD) → Buf (Elt Ideal) ((c.tc : Thread Cert.KernelScanIdeal.nD Cert.KernelScanIdeal.τ).loc Cert.KernelScanIdeal.main_v40_1)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v40_0) = v0 c
          ∧ r.2.mem ((c.tc : Thread Cert.KernelScanIdeal.nD Cert.KernelScanIdeal.τ).loc Cert.KernelScanIdeal.main_v40_1) = v1 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
          ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
          ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
          ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
          ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
          ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v171) = v0 c
          ∧ r.2.mem ((c.tc : Thread Cert.ReferenceScanIdeal.nD Cert.ReferenceScanIdeal.τ).loc Cert.ReferenceScanIdeal.main_v174) = v1 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1)
          ∧ r.2.mem ((c.tc : Thread Cert.ReferenceScanIdeal.nD Cert.ReferenceScanIdeal.τ).loc Cert.ReferenceScanIdeal.main_arg2) = m' ((c.tc : Thread Cert.ReferenceScanIdeal.nD Cert.ReferenceScanIdeal.τ).loc Cert.ReferenceScanIdeal.main_arg2)
          ∧ r.2.mem ((c.tc : Thread Cert.ReferenceScanIdeal.nD Cert.ReferenceScanIdeal.τ).loc Cert.ReferenceScanIdeal.main_arg3) = m' ((c.tc : Thread Cert.ReferenceScanIdeal.nD Cert.ReferenceScanIdeal.τ).loc Cert.ReferenceScanIdeal.main_arg3)
          ∧ r.2.mem ((c.tc : Thread Cert.ReferenceScanIdeal.nD Cert.ReferenceScanIdeal.τ).loc Cert.ReferenceScanIdeal.main_arg4) = m' ((c.tc : Thread Cert.ReferenceScanIdeal.nD Cert.ReferenceScanIdeal.τ).loc Cert.ReferenceScanIdeal.main_arg4)
          ∧ r.2.mem ((c.tc : Thread Cert.ReferenceScanIdeal.nD Cert.ReferenceScanIdeal.τ).loc Cert.ReferenceScanIdeal.main_arg5) = m' ((c.tc : Thread Cert.ReferenceScanIdeal.nD Cert.ReferenceScanIdeal.τ).loc Cert.ReferenceScanIdeal.main_arg5)
          ∧ r.2.mem ((c.tc : Thread Cert.ReferenceScanIdeal.nD Cert.ReferenceScanIdeal.τ).loc Cert.ReferenceScanIdeal.main_arg6) = m' ((c.tc : Thread Cert.ReferenceScanIdeal.nD Cert.ReferenceScanIdeal.τ).loc Cert.ReferenceScanIdeal.main_arg6)
          ∧ r.2.mem ((c.tc : Thread Cert.ReferenceScanIdeal.nD Cert.ReferenceScanIdeal.τ).loc Cert.ReferenceScanIdeal.main_arg7) = m' ((c.tc : Thread Cert.ReferenceScanIdeal.nD Cert.ReferenceScanIdeal.τ).loc Cert.ReferenceScanIdeal.main_arg7)
          ∧ r.2.mem ((c.tc : Thread Cert.ReferenceScanIdeal.nD Cert.ReferenceScanIdeal.τ).loc Cert.ReferenceScanIdeal.main_arg8) = m' ((c.tc : Thread Cert.ReferenceScanIdeal.nD Cert.ReferenceScanIdeal.τ).loc Cert.ReferenceScanIdeal.main_arg8))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelHyena_KernelHyenaIdeal : Prop :=
  True

def algebraic_KernelHyenaIdeal_ReferenceHyenaIdeal [hKernelHyenaIdeal : Cert.KernelHyenaIdeal.Facts] [hReferenceHyenaIdeal : Cert.ReferenceHyenaIdeal.Facts] : Prop :=
  ∀ (m : (ℓ : Loc Cert.KernelHyenaIdeal.nD Cert.KernelHyenaIdeal.τ Cert.KernelHyenaIdeal.sig) → Buf (Elt Ideal) ℓ) (g : Dev Cert.KernelHyenaIdeal.nD → PrngReg)
    (m' : (ℓ : Loc Cert.ReferenceHyenaIdeal.nD Cert.ReferenceHyenaIdeal.τ Cert.ReferenceHyenaIdeal.sig) → Buf (Elt Ideal) ℓ) (g' : Dev Cert.ReferenceHyenaIdeal.nD → PrngReg), Pre_KernelHyenaIdeal m →
    (∀ c : Dev Cert.KernelHyenaIdeal.nD,
      m' ((c.tc : Thread Cert.ReferenceHyenaIdeal.nD Cert.ReferenceHyenaIdeal.τ).loc Cert.ReferenceHyenaIdeal.main_arg0) = m ((c.tc : Thread Cert.KernelHyenaIdeal.nD Cert.KernelHyenaIdeal.τ).loc Cert.KernelHyenaIdeal.main_arg0)
      ∧ m' ((c.tc : Thread Cert.ReferenceHyenaIdeal.nD Cert.ReferenceHyenaIdeal.τ).loc Cert.ReferenceHyenaIdeal.main_arg1) = m ((c.tc : Thread Cert.KernelHyenaIdeal.nD Cert.KernelHyenaIdeal.τ).loc Cert.KernelHyenaIdeal.main_arg1)
      ∧ m' ((c.tc : Thread Cert.ReferenceHyenaIdeal.nD Cert.ReferenceHyenaIdeal.τ).loc Cert.ReferenceHyenaIdeal.main_arg2) = m ((c.tc : Thread Cert.KernelHyenaIdeal.nD Cert.KernelHyenaIdeal.τ).loc Cert.KernelHyenaIdeal.main_arg2)
      ∧ m' ((c.tc : Thread Cert.ReferenceHyenaIdeal.nD Cert.ReferenceHyenaIdeal.τ).loc Cert.ReferenceHyenaIdeal.main_arg3) = m ((c.tc : Thread Cert.KernelHyenaIdeal.nD Cert.KernelHyenaIdeal.τ).loc Cert.KernelHyenaIdeal.main_arg3)
      ∧ m' ((c.tc : Thread Cert.ReferenceHyenaIdeal.nD Cert.ReferenceHyenaIdeal.τ).loc Cert.ReferenceHyenaIdeal.main_arg4) = m ((c.tc : Thread Cert.KernelHyenaIdeal.nD Cert.KernelHyenaIdeal.τ).loc Cert.KernelHyenaIdeal.main_arg4)) →
    ∃ (v0 : (c : Dev Cert.KernelHyenaIdeal.nD) → Buf (Elt Ideal) ((c.tc : Thread Cert.KernelHyenaIdeal.nD Cert.KernelHyenaIdeal.τ).loc Cert.KernelHyenaIdeal.main_v5_0)) (v1 : (c : Dev Cert.KernelHyenaIdeal.nD) → Buf (Elt Ideal) ((c.tc : Thread Cert.KernelHyenaIdeal.nD Cert.KernelHyenaIdeal.τ).loc Cert.KernelHyenaIdeal.main_v5_1)),
      θ_run (Cert.KernelHyenaIdeal.defs (F := Ideal)) (onTc (τ := Cert.KernelHyenaIdeal.τ) (Cert.KernelHyenaIdeal.main (F := Ideal))) ⟨m, fun _ => 0, g⟩ (fun r => ∀ c : Dev Cert.KernelHyenaIdeal.nD,
          r.2.mem ((c.tc : Thread Cert.KernelHyenaIdeal.nD Cert.KernelHyenaIdeal.τ).loc Cert.KernelHyenaIdeal.main_v5_0) = v0 c
          ∧ r.2.mem ((c.tc : Thread Cert.KernelHyenaIdeal.nD Cert.KernelHyenaIdeal.τ).loc Cert.KernelHyenaIdeal.main_v5_1) = v1 c
          ∧ r.2.mem ((c.tc : Thread Cert.KernelHyenaIdeal.nD Cert.KernelHyenaIdeal.τ).loc Cert.KernelHyenaIdeal.main_arg0) = m ((c.tc : Thread Cert.KernelHyenaIdeal.nD Cert.KernelHyenaIdeal.τ).loc Cert.KernelHyenaIdeal.main_arg0)
          ∧ r.2.mem ((c.tc : Thread Cert.KernelHyenaIdeal.nD Cert.KernelHyenaIdeal.τ).loc Cert.KernelHyenaIdeal.main_arg1) = m ((c.tc : Thread Cert.KernelHyenaIdeal.nD Cert.KernelHyenaIdeal.τ).loc Cert.KernelHyenaIdeal.main_arg1)
          ∧ r.2.mem ((c.tc : Thread Cert.KernelHyenaIdeal.nD Cert.KernelHyenaIdeal.τ).loc Cert.KernelHyenaIdeal.main_arg2) = m ((c.tc : Thread Cert.KernelHyenaIdeal.nD Cert.KernelHyenaIdeal.τ).loc Cert.KernelHyenaIdeal.main_arg2)
          ∧ r.2.mem ((c.tc : Thread Cert.KernelHyenaIdeal.nD Cert.KernelHyenaIdeal.τ).loc Cert.KernelHyenaIdeal.main_arg3) = m ((c.tc : Thread Cert.KernelHyenaIdeal.nD Cert.KernelHyenaIdeal.τ).loc Cert.KernelHyenaIdeal.main_arg3)
          ∧ r.2.mem ((c.tc : Thread Cert.KernelHyenaIdeal.nD Cert.KernelHyenaIdeal.τ).loc Cert.KernelHyenaIdeal.main_arg4) = m ((c.tc : Thread Cert.KernelHyenaIdeal.nD Cert.KernelHyenaIdeal.τ).loc Cert.KernelHyenaIdeal.main_arg4))
      ∧ θ_run (Cert.ReferenceHyenaIdeal.defs (F := Ideal)) (onTc (τ := Cert.ReferenceHyenaIdeal.τ) (Cert.ReferenceHyenaIdeal.main (F := Ideal))) ⟨m', fun _ => 0, g'⟩ (fun r => ∀ c : Dev Cert.ReferenceHyenaIdeal.nD,
          r.2.mem ((c.tc : Thread Cert.ReferenceHyenaIdeal.nD Cert.ReferenceHyenaIdeal.τ).loc Cert.ReferenceHyenaIdeal.main_v34) = v0 c
          ∧ r.2.mem ((c.tc : Thread Cert.ReferenceHyenaIdeal.nD Cert.ReferenceHyenaIdeal.τ).loc Cert.ReferenceHyenaIdeal.main_v36) = v1 c
          ∧ r.2.mem ((c.tc : Thread Cert.ReferenceHyenaIdeal.nD Cert.ReferenceHyenaIdeal.τ).loc Cert.ReferenceHyenaIdeal.main_arg0) = m' ((c.tc : Thread Cert.ReferenceHyenaIdeal.nD Cert.ReferenceHyenaIdeal.τ).loc Cert.ReferenceHyenaIdeal.main_arg0)
          ∧ r.2.mem ((c.tc : Thread Cert.ReferenceHyenaIdeal.nD Cert.ReferenceHyenaIdeal.τ).loc Cert.ReferenceHyenaIdeal.main_arg1) = m' ((c.tc : Thread Cert.ReferenceHyenaIdeal.nD Cert.ReferenceHyenaIdeal.τ).loc Cert.ReferenceHyenaIdeal.main_arg1)
          ∧ r.2.mem ((c.tc : Thread Cert.ReferenceHyenaIdeal.nD Cert.ReferenceHyenaIdeal.τ).loc Cert.ReferenceHyenaIdeal.main_arg2) = m' ((c.tc : Thread Cert.ReferenceHyenaIdeal.nD Cert.ReferenceHyenaIdeal.τ).loc Cert.ReferenceHyenaIdeal.main_arg2)
          ∧ r.2.mem ((c.tc : Thread Cert.ReferenceHyenaIdeal.nD Cert.ReferenceHyenaIdeal.τ).loc Cert.ReferenceHyenaIdeal.main_arg3) = m' ((c.tc : Thread Cert.ReferenceHyenaIdeal.nD Cert.ReferenceHyenaIdeal.τ).loc Cert.ReferenceHyenaIdeal.main_arg3)
          ∧ r.2.mem ((c.tc : Thread Cert.ReferenceHyenaIdeal.nD Cert.ReferenceHyenaIdeal.τ).loc Cert.ReferenceHyenaIdeal.main_arg4) = m' ((c.tc : Thread Cert.ReferenceHyenaIdeal.nD Cert.ReferenceHyenaIdeal.τ).loc Cert.ReferenceHyenaIdeal.main_arg4))

def preserves_KernelLru_KernelLruIdeal : Prop :=
  True

def algebraic_KernelLruIdeal_ReferenceLruIdeal [hKernelLruIdeal : Cert.KernelLruIdeal.Facts] [hReferenceLruIdeal : Cert.ReferenceLruIdeal.Facts] : Prop :=
  ∀ (m : (ℓ : Loc Cert.KernelLruIdeal.nD Cert.KernelLruIdeal.τ Cert.KernelLruIdeal.sig) → Buf (Elt Ideal) ℓ) (g : Dev Cert.KernelLruIdeal.nD → PrngReg)
    (m' : (ℓ : Loc Cert.ReferenceLruIdeal.nD Cert.ReferenceLruIdeal.τ Cert.ReferenceLruIdeal.sig) → Buf (Elt Ideal) ℓ) (g' : Dev Cert.ReferenceLruIdeal.nD → PrngReg), Pre_KernelLruIdeal m →
    (∀ c : Dev Cert.KernelLruIdeal.nD,
      m' ((c.tc : Thread Cert.ReferenceLruIdeal.nD Cert.ReferenceLruIdeal.τ).loc Cert.ReferenceLruIdeal.main_arg0) = m ((c.tc : Thread Cert.KernelLruIdeal.nD Cert.KernelLruIdeal.τ).loc Cert.KernelLruIdeal.main_arg0)
      ∧ m' ((c.tc : Thread Cert.ReferenceLruIdeal.nD Cert.ReferenceLruIdeal.τ).loc Cert.ReferenceLruIdeal.main_arg1) = m ((c.tc : Thread Cert.KernelLruIdeal.nD Cert.KernelLruIdeal.τ).loc Cert.KernelLruIdeal.main_arg1)
      ∧ m' ((c.tc : Thread Cert.ReferenceLruIdeal.nD Cert.ReferenceLruIdeal.τ).loc Cert.ReferenceLruIdeal.main_arg2) = m ((c.tc : Thread Cert.KernelLruIdeal.nD Cert.KernelLruIdeal.τ).loc Cert.KernelLruIdeal.main_arg2)) →
    ∃ (v0 : (c : Dev Cert.KernelLruIdeal.nD) → Buf (Elt Ideal) ((c.tc : Thread Cert.KernelLruIdeal.nD Cert.KernelLruIdeal.τ).loc Cert.KernelLruIdeal.main_v4)),
      θ_run (Cert.KernelLruIdeal.defs (F := Ideal)) (onTc (τ := Cert.KernelLruIdeal.τ) (Cert.KernelLruIdeal.main (F := Ideal))) ⟨m, fun _ => 0, g⟩ (fun r => ∀ c : Dev Cert.KernelLruIdeal.nD,
          r.2.mem ((c.tc : Thread Cert.KernelLruIdeal.nD Cert.KernelLruIdeal.τ).loc Cert.KernelLruIdeal.main_v4) = v0 c
          ∧ r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
          ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1)
          ∧ r.2.mem ((c.tc : Thread Cert.KernelLruIdeal.nD Cert.KernelLruIdeal.τ).loc Cert.KernelLruIdeal.main_arg2) = m ((c.tc : Thread Cert.KernelLruIdeal.nD Cert.KernelLruIdeal.τ).loc Cert.KernelLruIdeal.main_arg2))
      ∧ θ_run (Cert.ReferenceLruIdeal.defs (F := Ideal)) (onTc (τ := Cert.ReferenceLruIdeal.τ) (Cert.ReferenceLruIdeal.main (F := Ideal))) ⟨m', fun _ => 0, g'⟩ (fun r => ∀ c : Dev Cert.ReferenceLruIdeal.nD,
          r.2.mem ((c.tc : Thread Cert.ReferenceLruIdeal.nD Cert.ReferenceLruIdeal.τ).loc Cert.ReferenceLruIdeal.main_v5) = v0 c
          ∧ r.2.mem ((c.tc : Thread Cert.ReferenceLruIdeal.nD Cert.ReferenceLruIdeal.τ).loc Cert.ReferenceLruIdeal.main_arg0) = m' ((c.tc : Thread Cert.ReferenceLruIdeal.nD Cert.ReferenceLruIdeal.τ).loc Cert.ReferenceLruIdeal.main_arg0)
          ∧ r.2.mem ((c.tc : Thread Cert.ReferenceLruIdeal.nD Cert.ReferenceLruIdeal.τ).loc Cert.ReferenceLruIdeal.main_arg1) = m' ((c.tc : Thread Cert.ReferenceLruIdeal.nD Cert.ReferenceLruIdeal.τ).loc Cert.ReferenceLruIdeal.main_arg1)
          ∧ r.2.mem ((c.tc : Thread Cert.ReferenceLruIdeal.nD Cert.ReferenceLruIdeal.τ).loc Cert.ReferenceLruIdeal.main_arg2) = m' ((c.tc : Thread Cert.ReferenceLruIdeal.nD Cert.ReferenceLruIdeal.τ).loc Cert.ReferenceLruIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v8) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v19) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelMod_KernelModIdeal : Prop :=
  True

def algebraic_KernelModIdeal_ReferenceModIdeal_pre_finite_mod [hKernelModIdeal : Cert.KernelModIdeal.Facts] [hReferenceModIdeal : Cert.ReferenceModIdeal.Facts] [hPre_finite_mod : Cert.Pre_finite_mod.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal_finite_mod m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v6)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v6) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v7) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelNormCtx_KernelNormCtxIdeal : Prop :=
  True

def algebraic_KernelNormCtxIdeal_ReferenceNormCtxIdeal [hKernelNormCtxIdeal : Cert.KernelNormCtxIdeal.Facts] [hReferenceNormCtxIdeal : Cert.ReferenceNormCtxIdeal.Facts] : Prop :=
  ∀ (m : (ℓ : Loc Cert.KernelNormCtxIdeal.nD Cert.KernelNormCtxIdeal.τ Cert.KernelNormCtxIdeal.sig) → Buf (Elt Ideal) ℓ) (g : Dev Cert.KernelNormCtxIdeal.nD → PrngReg)
    (m' : (ℓ : Loc Cert.ReferenceNormCtxIdeal.nD Cert.ReferenceNormCtxIdeal.τ Cert.ReferenceNormCtxIdeal.sig) → Buf (Elt Ideal) ℓ) (g' : Dev Cert.ReferenceNormCtxIdeal.nD → PrngReg), Pre_KernelNormCtxIdeal m →
    (∀ c : Dev Cert.KernelNormCtxIdeal.nD,
      m' ((c.tc : Thread Cert.ReferenceNormCtxIdeal.nD Cert.ReferenceNormCtxIdeal.τ).loc Cert.ReferenceNormCtxIdeal.main_arg0) = m ((c.tc : Thread Cert.KernelNormCtxIdeal.nD Cert.KernelNormCtxIdeal.τ).loc Cert.KernelNormCtxIdeal.main_arg0)
      ∧ m' ((c.tc : Thread Cert.ReferenceNormCtxIdeal.nD Cert.ReferenceNormCtxIdeal.τ).loc Cert.ReferenceNormCtxIdeal.main_arg1) = m ((c.tc : Thread Cert.KernelNormCtxIdeal.nD Cert.KernelNormCtxIdeal.τ).loc Cert.KernelNormCtxIdeal.main_arg1)
      ∧ m' ((c.tc : Thread Cert.ReferenceNormCtxIdeal.nD Cert.ReferenceNormCtxIdeal.τ).loc Cert.ReferenceNormCtxIdeal.main_arg2) = m ((c.tc : Thread Cert.KernelNormCtxIdeal.nD Cert.KernelNormCtxIdeal.τ).loc Cert.KernelNormCtxIdeal.main_arg2)
      ∧ m' ((c.tc : Thread Cert.ReferenceNormCtxIdeal.nD Cert.ReferenceNormCtxIdeal.τ).loc Cert.ReferenceNormCtxIdeal.main_arg3) = m ((c.tc : Thread Cert.KernelNormCtxIdeal.nD Cert.KernelNormCtxIdeal.τ).loc Cert.KernelNormCtxIdeal.main_arg3)) →
    ∃ (v0 : (c : Dev Cert.KernelNormCtxIdeal.nD) → Buf (Elt Ideal) ((c.tc : Thread Cert.KernelNormCtxIdeal.nD Cert.KernelNormCtxIdeal.τ).loc Cert.KernelNormCtxIdeal.main_v3)),
      θ_run (Cert.KernelNormCtxIdeal.defs (F := Ideal)) (onTc (τ := Cert.KernelNormCtxIdeal.τ) (Cert.KernelNormCtxIdeal.main (F := Ideal))) ⟨m, fun _ => 0, g⟩ (fun r => ∀ c : Dev Cert.KernelNormCtxIdeal.nD,
          r.2.mem ((c.tc : Thread Cert.KernelNormCtxIdeal.nD Cert.KernelNormCtxIdeal.τ).loc Cert.KernelNormCtxIdeal.main_v3) = v0 c
          ∧ r.2.mem ((c.tc : Thread Cert.KernelNormCtxIdeal.nD Cert.KernelNormCtxIdeal.τ).loc Cert.KernelNormCtxIdeal.main_arg0) = m ((c.tc : Thread Cert.KernelNormCtxIdeal.nD Cert.KernelNormCtxIdeal.τ).loc Cert.KernelNormCtxIdeal.main_arg0)
          ∧ r.2.mem ((c.tc : Thread Cert.KernelNormCtxIdeal.nD Cert.KernelNormCtxIdeal.τ).loc Cert.KernelNormCtxIdeal.main_arg1) = m ((c.tc : Thread Cert.KernelNormCtxIdeal.nD Cert.KernelNormCtxIdeal.τ).loc Cert.KernelNormCtxIdeal.main_arg1)
          ∧ r.2.mem ((c.tc : Thread Cert.KernelNormCtxIdeal.nD Cert.KernelNormCtxIdeal.τ).loc Cert.KernelNormCtxIdeal.main_arg2) = m ((c.tc : Thread Cert.KernelNormCtxIdeal.nD Cert.KernelNormCtxIdeal.τ).loc Cert.KernelNormCtxIdeal.main_arg2)
          ∧ r.2.mem ((c.tc : Thread Cert.KernelNormCtxIdeal.nD Cert.KernelNormCtxIdeal.τ).loc Cert.KernelNormCtxIdeal.main_arg3) = m ((c.tc : Thread Cert.KernelNormCtxIdeal.nD Cert.KernelNormCtxIdeal.τ).loc Cert.KernelNormCtxIdeal.main_arg3))
      ∧ θ_run (Cert.ReferenceNormCtxIdeal.defs (F := Ideal)) (onTc (τ := Cert.ReferenceNormCtxIdeal.τ) (Cert.ReferenceNormCtxIdeal.main (F := Ideal))) ⟨m', fun _ => 0, g'⟩ (fun r => ∀ c : Dev Cert.ReferenceNormCtxIdeal.nD,
          r.2.mem ((c.tc : Thread Cert.ReferenceNormCtxIdeal.nD Cert.ReferenceNormCtxIdeal.τ).loc Cert.ReferenceNormCtxIdeal.main_v21) = v0 c
          ∧ r.2.mem ((c.tc : Thread Cert.ReferenceNormCtxIdeal.nD Cert.ReferenceNormCtxIdeal.τ).loc Cert.ReferenceNormCtxIdeal.main_arg0) = m' ((c.tc : Thread Cert.ReferenceNormCtxIdeal.nD Cert.ReferenceNormCtxIdeal.τ).loc Cert.ReferenceNormCtxIdeal.main_arg0)
          ∧ r.2.mem ((c.tc : Thread Cert.ReferenceNormCtxIdeal.nD Cert.ReferenceNormCtxIdeal.τ).loc Cert.ReferenceNormCtxIdeal.main_arg1) = m' ((c.tc : Thread Cert.ReferenceNormCtxIdeal.nD Cert.ReferenceNormCtxIdeal.τ).loc Cert.ReferenceNormCtxIdeal.main_arg1)
          ∧ r.2.mem ((c.tc : Thread Cert.ReferenceNormCtxIdeal.nD Cert.ReferenceNormCtxIdeal.τ).loc Cert.ReferenceNormCtxIdeal.main_arg2) = m' ((c.tc : Thread Cert.ReferenceNormCtxIdeal.nD Cert.ReferenceNormCtxIdeal.τ).loc Cert.ReferenceNormCtxIdeal.main_arg2)
          ∧ r.2.mem ((c.tc : Thread Cert.ReferenceNormCtxIdeal.nD Cert.ReferenceNormCtxIdeal.τ).loc Cert.ReferenceNormCtxIdeal.main_arg3) = m' ((c.tc : Thread Cert.ReferenceNormCtxIdeal.nD Cert.ReferenceNormCtxIdeal.τ).loc Cert.ReferenceNormCtxIdeal.main_arg3))

def preserves_KernelLruCtx_KernelLruCtxIdeal : Prop :=
  True

def algebraic_KernelLruCtxIdeal_ReferenceLruCtxIdeal [hKernelLruCtxIdeal : Cert.KernelLruCtxIdeal.Facts] [hReferenceLruCtxIdeal : Cert.ReferenceLruCtxIdeal.Facts] : Prop :=
  ∀ (m : (ℓ : Loc Cert.KernelLruCtxIdeal.nD Cert.KernelLruCtxIdeal.τ Cert.KernelLruCtxIdeal.sig) → Buf (Elt Ideal) ℓ) (g : Dev Cert.KernelLruCtxIdeal.nD → PrngReg)
    (m' : (ℓ : Loc Cert.ReferenceLruCtxIdeal.nD Cert.ReferenceLruCtxIdeal.τ Cert.ReferenceLruCtxIdeal.sig) → Buf (Elt Ideal) ℓ) (g' : Dev Cert.ReferenceLruCtxIdeal.nD → PrngReg), Pre_KernelLruCtxIdeal m →
    (∀ c : Dev Cert.KernelLruCtxIdeal.nD,
      m' ((c.tc : Thread Cert.ReferenceLruCtxIdeal.nD Cert.ReferenceLruCtxIdeal.τ).loc Cert.ReferenceLruCtxIdeal.main_arg0) = m ((c.tc : Thread Cert.KernelLruCtxIdeal.nD Cert.KernelLruCtxIdeal.τ).loc Cert.KernelLruCtxIdeal.main_arg0)
      ∧ m' ((c.tc : Thread Cert.ReferenceLruCtxIdeal.nD Cert.ReferenceLruCtxIdeal.τ).loc Cert.ReferenceLruCtxIdeal.main_arg1) = m ((c.tc : Thread Cert.KernelLruCtxIdeal.nD Cert.KernelLruCtxIdeal.τ).loc Cert.KernelLruCtxIdeal.main_arg1)
      ∧ m' ((c.tc : Thread Cert.ReferenceLruCtxIdeal.nD Cert.ReferenceLruCtxIdeal.τ).loc Cert.ReferenceLruCtxIdeal.main_arg2) = m ((c.tc : Thread Cert.KernelLruCtxIdeal.nD Cert.KernelLruCtxIdeal.τ).loc Cert.KernelLruCtxIdeal.main_arg2)) →
    ∃ (v0 : (c : Dev Cert.KernelLruCtxIdeal.nD) → Buf (Elt Ideal) ((c.tc : Thread Cert.KernelLruCtxIdeal.nD Cert.KernelLruCtxIdeal.τ).loc Cert.KernelLruCtxIdeal.main_v4)),
      θ_run (Cert.KernelLruCtxIdeal.defs (F := Ideal)) (onTc (τ := Cert.KernelLruCtxIdeal.τ) (Cert.KernelLruCtxIdeal.main (F := Ideal))) ⟨m, fun _ => 0, g⟩ (fun r => ∀ c : Dev Cert.KernelLruCtxIdeal.nD,
          r.2.mem ((c.tc : Thread Cert.KernelLruCtxIdeal.nD Cert.KernelLruCtxIdeal.τ).loc Cert.KernelLruCtxIdeal.main_v4) = v0 c
          ∧ r.2.mem ((c.tc : Thread Cert.KernelLruCtxIdeal.nD Cert.KernelLruCtxIdeal.τ).loc Cert.KernelLruCtxIdeal.main_arg0) = m ((c.tc : Thread Cert.KernelLruCtxIdeal.nD Cert.KernelLruCtxIdeal.τ).loc Cert.KernelLruCtxIdeal.main_arg0)
          ∧ r.2.mem ((c.tc : Thread Cert.KernelLruCtxIdeal.nD Cert.KernelLruCtxIdeal.τ).loc Cert.KernelLruCtxIdeal.main_arg1) = m ((c.tc : Thread Cert.KernelLruCtxIdeal.nD Cert.KernelLruCtxIdeal.τ).loc Cert.KernelLruCtxIdeal.main_arg1)
          ∧ r.2.mem ((c.tc : Thread Cert.KernelLruCtxIdeal.nD Cert.KernelLruCtxIdeal.τ).loc Cert.KernelLruCtxIdeal.main_arg2) = m ((c.tc : Thread Cert.KernelLruCtxIdeal.nD Cert.KernelLruCtxIdeal.τ).loc Cert.KernelLruCtxIdeal.main_arg2))
      ∧ θ_run (Cert.ReferenceLruCtxIdeal.defs (F := Ideal)) (onTc (τ := Cert.ReferenceLruCtxIdeal.τ) (Cert.ReferenceLruCtxIdeal.main (F := Ideal))) ⟨m', fun _ => 0, g'⟩ (fun r => ∀ c : Dev Cert.ReferenceLruCtxIdeal.nD,
          r.2.mem ((c.tc : Thread Cert.ReferenceLruCtxIdeal.nD Cert.ReferenceLruCtxIdeal.τ).loc Cert.ReferenceLruCtxIdeal.main_v6) = v0 c
          ∧ r.2.mem ((c.tc : Thread Cert.ReferenceLruCtxIdeal.nD Cert.ReferenceLruCtxIdeal.τ).loc Cert.ReferenceLruCtxIdeal.main_arg0) = m' ((c.tc : Thread Cert.ReferenceLruCtxIdeal.nD Cert.ReferenceLruCtxIdeal.τ).loc Cert.ReferenceLruCtxIdeal.main_arg0)
          ∧ r.2.mem ((c.tc : Thread Cert.ReferenceLruCtxIdeal.nD Cert.ReferenceLruCtxIdeal.τ).loc Cert.ReferenceLruCtxIdeal.main_arg1) = m' ((c.tc : Thread Cert.ReferenceLruCtxIdeal.nD Cert.ReferenceLruCtxIdeal.τ).loc Cert.ReferenceLruCtxIdeal.main_arg1)
          ∧ r.2.mem ((c.tc : Thread Cert.ReferenceLruCtxIdeal.nD Cert.ReferenceLruCtxIdeal.τ).loc Cert.ReferenceLruCtxIdeal.main_arg2) = m' ((c.tc : Thread Cert.ReferenceLruCtxIdeal.nD Cert.ReferenceLruCtxIdeal.τ).loc Cert.ReferenceLruCtxIdeal.main_arg2))

def Claim : Prop :=
  ∃ (hKernelScan : Cert.KernelScan.Facts) (hKernelScanIdeal : Cert.KernelScanIdeal.Facts) (hReferenceScanIdeal : Cert.ReferenceScanIdeal.Facts) (hKernel : Cert.Kernel.Facts) (hKernelIdeal : Cert.KernelIdeal.Facts) (hReferenceIdeal : Cert.ReferenceIdeal.Facts) (hKernelHyena : Cert.KernelHyena.Facts) (hKernelHyenaIdeal : Cert.KernelHyenaIdeal.Facts) (hReferenceHyenaIdeal : Cert.ReferenceHyenaIdeal.Facts) (hKernelLru : Cert.KernelLru.Facts) (hKernelLruIdeal : Cert.KernelLruIdeal.Facts) (hReferenceLruIdeal : Cert.ReferenceLruIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelMod : Cert.KernelMod.Facts) (hKernelModIdeal : Cert.KernelModIdeal.Facts) (hReferenceModIdeal : Cert.ReferenceModIdeal.Facts) (hKernelNormCtx : Cert.KernelNormCtx.Facts) (hKernelNormCtxIdeal : Cert.KernelNormCtxIdeal.Facts) (hReferenceNormCtxIdeal : Cert.ReferenceNormCtxIdeal.Facts) (hKernelLruCtx : Cert.KernelLruCtx.Facts) (hKernelLruCtxIdeal : Cert.KernelLruCtxIdeal.Facts) (hReferenceLruCtxIdeal : Cert.ReferenceLruCtxIdeal.Facts) (hPre_finite : Cert.Pre_finite.Facts) (hPre_finite_mod : Cert.Pre_finite_mod.Facts),
    quiescent_KernelScan (hKernelScan := hKernelScan)
    ∧ quiescent_KernelScanIdeal (hKernelScanIdeal := hKernelScanIdeal)
    ∧ quiescent_KernelScanIdeal_pre_finite (hKernelScanIdeal := hKernelScanIdeal) (hPre_finite := hPre_finite)
    ∧ quiescent_ReferenceScanIdeal (hReferenceScanIdeal := hReferenceScanIdeal)
    ∧ quiescent_ReferenceScanIdeal_pre_finite (hReferenceScanIdeal := hReferenceScanIdeal) (hPre_finite := hPre_finite)
    ∧ quiescent_Kernel (hKernel := hKernel)
    ∧ quiescent_KernelIdeal (hKernelIdeal := hKernelIdeal)
    ∧ quiescent_ReferenceIdeal (hReferenceIdeal := hReferenceIdeal)
    ∧ quiescent_KernelHyena (hKernelHyena := hKernelHyena)
    ∧ quiescent_KernelHyenaIdeal (hKernelHyenaIdeal := hKernelHyenaIdeal)
    ∧ quiescent_ReferenceHyenaIdeal (hReferenceHyenaIdeal := hReferenceHyenaIdeal)
    ∧ quiescent_KernelLru (hKernelLru := hKernelLru)
    ∧ quiescent_KernelLruIdeal (hKernelLruIdeal := hKernelLruIdeal)
    ∧ quiescent_ReferenceLruIdeal (hReferenceLruIdeal := hReferenceLruIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMod (hKernelMod := hKernelMod)
    ∧ quiescent_KernelModIdeal (hKernelModIdeal := hKernelModIdeal)
    ∧ quiescent_KernelModIdeal_pre_finite_mod (hKernelModIdeal := hKernelModIdeal) (hPre_finite_mod := hPre_finite_mod)
    ∧ quiescent_ReferenceModIdeal (hReferenceModIdeal := hReferenceModIdeal)
    ∧ quiescent_ReferenceModIdeal_pre_finite_mod (hReferenceModIdeal := hReferenceModIdeal) (hPre_finite_mod := hPre_finite_mod)
    ∧ quiescent_KernelNormCtx (hKernelNormCtx := hKernelNormCtx)
    ∧ quiescent_KernelNormCtxIdeal (hKernelNormCtxIdeal := hKernelNormCtxIdeal)
    ∧ quiescent_ReferenceNormCtxIdeal (hReferenceNormCtxIdeal := hReferenceNormCtxIdeal)
    ∧ quiescent_KernelLruCtx (hKernelLruCtx := hKernelLruCtx)
    ∧ quiescent_KernelLruCtxIdeal (hKernelLruCtxIdeal := hKernelLruCtxIdeal)
    ∧ quiescent_ReferenceLruCtxIdeal (hReferenceLruCtxIdeal := hReferenceLruCtxIdeal)
    ∧ preserves_KernelScan_KernelScanIdeal
    ∧ algebraic_KernelScanIdeal_ReferenceScanIdeal_pre_finite (hKernelScanIdeal := hKernelScanIdeal) (hReferenceScanIdeal := hReferenceScanIdeal) (hPre_finite := hPre_finite)
    ∧ preserves_Kernel_KernelIdeal
    ∧ algebraic_KernelIdeal_ReferenceIdeal (hKernelIdeal := hKernelIdeal) (hReferenceIdeal := hReferenceIdeal)
    ∧ preserves_KernelHyena_KernelHyenaIdeal
    ∧ algebraic_KernelHyenaIdeal_ReferenceHyenaIdeal (hKernelHyenaIdeal := hKernelHyenaIdeal) (hReferenceHyenaIdeal := hReferenceHyenaIdeal)
    ∧ preserves_KernelLru_KernelLruIdeal
    ∧ algebraic_KernelLruIdeal_ReferenceLruIdeal (hKernelLruIdeal := hKernelLruIdeal) (hReferenceLruIdeal := hReferenceLruIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMod_KernelModIdeal
    ∧ algebraic_KernelModIdeal_ReferenceModIdeal_pre_finite_mod (hKernelModIdeal := hKernelModIdeal) (hReferenceModIdeal := hReferenceModIdeal) (hPre_finite_mod := hPre_finite_mod)
    ∧ preserves_KernelNormCtx_KernelNormCtxIdeal
    ∧ algebraic_KernelNormCtxIdeal_ReferenceNormCtxIdeal (hKernelNormCtxIdeal := hKernelNormCtxIdeal) (hReferenceNormCtxIdeal := hReferenceNormCtxIdeal)
    ∧ preserves_KernelLruCtx_KernelLruCtxIdeal
    ∧ algebraic_KernelLruCtxIdeal_ReferenceLruCtxIdeal (hKernelLruCtxIdeal := hKernelLruCtxIdeal) (hReferenceLruCtxIdeal := hReferenceLruCtxIdeal)
-- ==== Pre_finite.lean ====
abbrev S4x4096x4096 : Shape := ⟨3, ![4, 4096, 4096]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S4x2x2048 : Shape := ⟨3, ![4, 2, 2048]⟩
abbrev S4x4096x2048 : Shape := ⟨3, ![4, 4096, 2048]⟩
abbrev S_ : Shape := ⟨0, ![]⟩

class Facts : Prop where
  slices_S4x4096x4096_S4x4096x2048_0_0_2048 : S4x4096x4096.Slices ![0, 0, 2048] S4x4096x2048
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_v14 : IVec S_ 1) (main_v15 : FVec F S2x2048 .f32) (main_v16 : FVec F S2x2048 .f32) : IVec S_ 1 :=
  let main_v17 : IVec S2x2048 1 := cmpf .olt main_v15 main_v16
  let main_c_5 : IVec S_ 1 := constantI S_ 1 1#1
  let main_v18 : IVec S_ 1 := (fun x v => Host.reduce IntOp.andi x v reducesTo_S2x2048_S_d0_1 h_S_) main_v17 main_c_5
  let main_v19 : IVec S_ 1 := andi main_v14 main_v18
  main_v19

def fn {F : FTy → Type} [FloatOps F] (main_arg0 : FVec F S4x4096x4096 .f32) (main_arg1 : FVec F S4x2048 .f32) (main_arg2 : FVec F S2048 .f32) (main_arg3 : FVec F S2x16x128x128 .f32) (main_arg4 : FVec F S2x2048 .f32) (main_arg5 : FVec F S2x16x128x128 .f32) (main_arg6 : FVec F S2x2048 .f32) (main_arg7 : FVec F S2x2048 .f32) (main_arg8 : FVec F S4x2x2048 .f32) : IVec S_ 1 :=
  let main_v0 : FVec F S4x4096x2048 .f32 := (extractStridedSlice S4x4096x2048 ![0, 0, 2048] · slices_S4x4096x4096_S4x4096x2048_0_0_2048) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S4x2048 .f32 := Host.absf main_arg1
  let main_cst_0 : FVec F S_ .f32 := constant S_ .f32 0x7F800000#32
  let main_v6 : FVec F S4x2048 .f32 := broadcastInDim S4x2048 ![] bcast_S_S4x2048 main_cst_0
  let main_v7 : IVec S4x2048 1 := cmpf .olt main_v5 main_v6
  let main_c_1 : IVec S_ 1 := constantI S_ 1 1#1
  let main_v8 : IVec S_ 1 := (fun x v => Host.reduce IntOp.andi x v reducesTo_S4x2048_S_d0_1 h_S_) main_v7 main_c_1
  let main_v9 : IVec S_ 1 := andi main_v4 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v9 main_v13
  let main_v15 : FVec F S2x2048 .f32 := Host.absf main_arg7
  let main_cst_4 : FVec F S_ .f32 := constant S_ .f32 0x7F800000#32
  let main_v16 : FVec F S2x2048 .f32 := broadcastInDim S2x2048 ![] bcast_S_S2x2048 main_cst_4
  fn_part1 (F := F) main_v14 main_v15 main_v16
-- ==== Pre_finite_mod.lean ====
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x24576 : S_.BroadcastsInDim S4096x24576 (![] : Fin 0 → Fin S4096x24576.rank)
  reducesTo_S4096x24576_S_d0_1 : S4096x24576.ReducesTo [0, 1] S_

variable [Facts]

def fn {F : FTy → Type} [FloatOps F] (main_arg0 : FVec F S4x4096 .f32) (main_arg1 : FVec F S4096 .f32) (main_arg2 : FVec F S4096x24576 .f32) (main_arg3 : FVec F S24576 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x24576 .f32 := Host.absf main_arg2
  let main_cst_2 : FVec F S_ .f32 := constant S_ .f32 0x7F800000#32
  let main_v10 : FVec F S4096x24576 .f32 := broadcastInDim S4096x24576 ![] bcast_S_S4096x24576 main_cst_2
  let main_v11 : IVec S4096x24576 1 := cmpf .olt main_v9 main_v10
  let main_c_3 : IVec S_ 1 := constantI S_ 1 1#1
  let main_v12 : IVec S_ 1 := (fun x v => Host.reduce IntOp.andi x v reducesTo_S4096x24576_S_d0_1 h_S_) main_v11 main_c_3
  let main_v13 : IVec S_ 1 := andi main_v8 main_v12
  main_v13
-- ==== KernelScan.lean ====
abbrev S4x4096x4096 : Shape := ⟨3, ![4, 4096, 4096]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S4x2x2048 : Shape := ⟨3, ![4, 2, 2048]⟩
abbrev S_ : Shape := ⟨0, ![]⟩
abbrev S2x8x2x128x128 : Shape := ⟨5, ![2, 8, 2, 128, 128]⟩
abbrev S2x2 : Shape := ⟨2, ![2, 2]⟩
abbrev S2x8x2x128x1x128 : Shape := ⟨6, ![2, 8, 2, 128, 1, 128]⟩
abbrev S1x1x2x1x2x1 : Shape := ⟨6, ![1, 1, 2, 1, 2, 1]⟩
abbrev S2x8x2x128x2x128 : Shape := ⟨6, ![2, 8, 2, 128, 2, 128]⟩
abbrev S2x8x256x256 : Shape := ⟨4, ![2, 8, 256, 256]⟩
abbrev S1x2048 : Shape := ⟨2, ![1, 2048]⟩
abbrev S2x1x2048 : Shape := ⟨3, ![2, 1, 2048]⟩
abbrev S4x4096x2048 : Shape := ⟨3, ![4, 4096, 2048]⟩
abbrev S1x4096x256 : Shape := ⟨3, ![1, 4096, 256]⟩
abbrev S4x256 : Shape := ⟨2, ![4, 256]⟩
abbrev S1x256 : Shape := ⟨2, ![1, 256]⟩
abbrev S2x1x256x256 : Shape := ⟨4, ![2, 1, 256, 256]⟩
abbrev S2x1x256 : Shape := ⟨3, ![2, 1, 256]⟩
abbrev S1x2x256 : Shape := ⟨3, ![1, 2, 256]⟩
abbrev S4096x256 : Shape := ⟨2, ![4096, 256]⟩
abbrev S1x512x256 : Shape := ⟨3, ![1, 512, 256]⟩
abbrev S512x256 : Shape := ⟨2, ![512, 256]⟩
abbrev S512x1 : Shape := ⟨2, ![512, 1]⟩
abbrev S1x1x256x256 : Shape := ⟨4, ![1, 1, 256, 256]⟩
abbrev S256x256 : Shape := ⟨2, ![256, 256]⟩
abbrev S1x1x256 : Shape := ⟨3, ![1, 1, 256]⟩
abbrev S64x8x256 : Shape := ⟨3, ![64, 8, 256]⟩
abbrev S1x8x1 : Shape := ⟨3, ![1, 8, 1]⟩
abbrev S8x256 : Shape := ⟨2, ![8, 256]⟩

abbrev nBuf : Space → Nat
  | .hbm => 57
  | .vmem => 28
  | .smem => 0
  | _ => 0

abbrev bufTy : (tb : Table) → Fin (tcTables nBuf tb) → BufTy
  | .hbm, ⟨0, _⟩ => ⟨S4x4096x4096, .f32⟩
  | .hbm, ⟨1, _⟩ => ⟨S4x2048, .f32⟩
  | .hbm, ⟨2, _⟩ => ⟨S2048, .f32⟩
  | .hbm, ⟨3, _⟩ => ⟨S2x16x128x128, .f32⟩
  | .hbm, ⟨4, _⟩ => ⟨S2x2048, .f32⟩
  | .hbm, ⟨5, _⟩ => ⟨S2x16x128x128, .f32⟩
  | .hbm, ⟨6, _⟩ => ⟨S2x2048, .f32⟩
  | .hbm, ⟨7, _⟩ => ⟨S2x2048, .f32⟩
  | .hbm, ⟨8, _⟩ => ⟨S4x2x2048, .f32⟩
  | .hbm, ⟨9, _⟩ => ⟨S_, .f32⟩
  | .hbm, ⟨10, _⟩ => ⟨S2x16x128x128, .f32⟩
  | .hbm, ⟨11, _⟩ => ⟨S2x16x128x128, .f32⟩
  | .hbm, ⟨12, _⟩ => ⟨S2x8x2x128x128, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S2x8x2x128x1x128, .f32⟩
  | .hbm, ⟨21, _⟩ => ⟨S1x1x2x1x2x1, .f32⟩
  | .hbm, ⟨22, _⟩ => ⟨S2x8x2x128x2x128, .f32⟩
  | .hbm, ⟨23, _⟩ => ⟨S2x8x2x128x2x128, .f32⟩
  | .hbm, ⟨24, _⟩ => ⟨S2x8x2x128x2x128, .f32⟩
  | .hbm, ⟨25, _⟩ => ⟨S2x8x256x256, .f32⟩
  | .hbm, ⟨26, _⟩ => ⟨S2x8x256x256, .bf16⟩
  | .hbm, ⟨27, _⟩ => ⟨S_, .f32⟩
  | .hbm, ⟨28, _⟩ => ⟨S2x16x128x128, .f32⟩
  | .hbm, ⟨29, _⟩ => ⟨S2x16x128x128, .f32⟩
  | .hbm, ⟨30, _⟩ => ⟨S2x8x2x128x128, .f32⟩
  | .hbm, ⟨31, _⟩ => ⟨S2x2, .i32⟩
  | .hbm, ⟨32, _⟩ => ⟨S2x2, .i32⟩
  | .hbm, ⟨33, _⟩ => ⟨S_, .i32⟩
  | .hbm, ⟨34, _⟩ => ⟨S2x2, .i32⟩
  | .hbm, ⟨35, _⟩ => ⟨S2x2, .i32⟩
  | .hbm, ⟨36, _⟩ => ⟨S2x2, .i1⟩
  | .hbm, ⟨37, _⟩ => ⟨S2x2, .f32⟩
  | .hbm, ⟨38, _⟩ => ⟨S2x8x2x128x1x128, .f32⟩
  | .hbm, ⟨39, _⟩ => ⟨S1x1x2x1x2x1, .f32⟩
  | .hbm, ⟨40, _⟩ => ⟨S2x8x2x128x2x128, .f32⟩
  | .hbm, ⟨41, _⟩ => ⟨S2x8x2x128x2x128, .f32⟩
  | .hbm, ⟨42, _⟩ => ⟨S2x8x2x128x2x128, .f32⟩
  | .hbm, ⟨43, _⟩ => ⟨S2x8x256x256, .f32⟩
  | .hbm, ⟨44, _⟩ => ⟨S2x8x256x256, .bf16⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S_, .f32⟩
  | .hbm, ⟨49, _⟩ => ⟨S2x2048, .f32⟩
  | .hbm, ⟨50, _⟩ => ⟨S2x2048, .f32⟩
  | .hbm, ⟨51, _⟩ => ⟨S1x2048, .f32⟩
  | .hbm, ⟨52, _⟩ => ⟨S2x1x2048, .f32⟩
  | .hbm, ⟨53, _⟩ => ⟨S2x1x2048, .f32⟩
  | .hbm, ⟨54, _⟩ => ⟨S2x1x2048, .f32⟩
  | .hbm, ⟨55, _⟩ => ⟨S4x4096x2048, .bf16⟩
  | .hbm, ⟨56, _⟩ => ⟨S4x2x2048, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2x1x256x256, .bf16⟩
  | .local _ .vmem, ⟨9, _⟩ => ⟨S2x1x256x256, .bf16⟩
  | .local _ .vmem, ⟨10, _⟩ => ⟨S2x1x256, .f32⟩
  | .local _ .vmem, ⟨11, _⟩ => ⟨S2x1x256, .f32⟩
  | .local _ .vmem, ⟨12, _⟩ => ⟨S2x1x256x256, .bf16⟩
  | .local _ .vmem, ⟨13, _⟩ => ⟨S2x1x256x256, .bf16⟩
  | .local _ .vmem, ⟨14, _⟩ => ⟨S2x1x256, .f32⟩
  | .local _ .vmem, ⟨15, _⟩ => ⟨S2x1x256, .f32⟩
  | .local _ .vmem, ⟨16, _⟩ => ⟨S2x1x256, .f32⟩
  | .local _ .vmem, ⟨17, _⟩ => ⟨S2x1x256, .f32⟩
  | .local _ .vmem, ⟨18, _⟩ => ⟨S1x2x256, .f32⟩
  | .local _ .vmem, ⟨19, _⟩ => ⟨S1x2x256, .f32⟩
  | .local _ .vmem, ⟨20, _⟩ => ⟨S1x4096x256, .bf16⟩
  | .local _ .vmem, ⟨21, _⟩ => ⟨S1x4096x256, .bf16⟩
  | .local _ .vmem, ⟨22, _⟩ => ⟨S1x2x256, .f32⟩
  | .local _ .vmem, ⟨23, _⟩ => ⟨S1x2x256, .f32⟩
  | .local _ .vmem, ⟨24, _⟩ => ⟨S4096x256, .f32⟩
  | .local _ .vmem, ⟨25, _⟩ => ⟨S4096x256, .f32⟩
  | .local _ .vmem, ⟨26, _⟩ => ⟨S4096x256, .f32⟩
  | .local _ .vmem, ⟨27, _⟩ => ⟨S4096x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32 : BitVec 32 := 512#32
  let v14 : BitVec 32 := Scalar.muli arg18 c512_i32
  v14
def k0_off1 (k0_t1 : Fin k0_t1_loop.trips) : Fin 3 → Nat :=
  let c0_18 : Index := 0#32
  let c0_i32 : BitVec 32 := 0#32
  let c1_i32 : BitVec 32 := 1#32
  let arg18 : BitVec 32 := Scf.iv c0_i32 c1_i32 k0_t1
  let c512_i32 : BitVec 32 := 512#32
  let v14 : BitVec 32 := Scalar.muli arg18 c512_i32
  let v15 : BitVec 32 := v14
  let v16 : Index := Scalar.indexCast v15
  let c0_19 : Index := 0#32
  ![0, v16.toNat, 0]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c512_i32 : BitVec 32 := 512#32
  let v14 : BitVec 32 := Scalar.muli arg18 c512_i32
  let v15 : BitVec 32 := v14
  let v180 : Index := Scalar.indexCast v15
  let c0_80 : Index := 0#32
  ![v180.toNat, 0]
@[reducible] def k0_t2_loop : Scf.Loop 32 :=
  let c0_i32_5 : BitVec 32 := 0#32
  let c128_i32 : BitVec 32 := 128#32
  let v5 : BitVec 32 := Scalar.addi c0_i32_5 c128_i32
  let c1_i32_6 : BitVec 32 := 1#32
  ⟨c0_i32_5, v5, c1_i32_6⟩
def k0_mult2 (k0_t2 : Fin k0_t2_loop.trips) : BitVec 32 :=
  let c0_i32_5 : BitVec 32 := 0#32
  let c1_i32_6 : BitVec 32 := 1#32
  let arg18 : BitVec 32 := Scf.iv c0_i32_5 c1_i32_6 k0_t2
  let c4_i32 : BitVec 32 := 4#32
  let v14 : BitVec 32 := Scalar.muli arg18 c4_i32
  let c0_i32_18 : BitVec 32 := 0#32
  let v15 : BitVec 32 := Scalar.addi v14 c0_i32_18
  let c8_i32_19 : BitVec 32 := 8#32
  let v16 : BitVec 32 := Scalar.muli v15 c8_i32_19
  v16
def k0_off3 (k0_t2 : Fin k0_t2_loop.trips) (c0_i32_18 : BitVec 32) : Fin 2 → Nat :=
  let c0_i32_5 : BitVec 32 := 0#32
  let c1_i32_6 : BitVec 32 := 1#32
  let arg18 : BitVec 32 := Scf.iv c0_i32_5 c1_i32_6 k0_t2
  let c4_i32 : BitVec 32 := 4#32
  let v14 : BitVec 32 := Scalar.muli arg18 c4_i32
  let v15 : BitVec 32 := Scalar.addi v14 c0_i32_18
  let c8_i32_19 : BitVec 32 := 8#32
  let v16 : BitVec 32 := Scalar.muli v15 c8_i32_19
  let v17 : BitVec 32 := v16
  let v18 : Index := Scalar.indexCast v17
  let c0_20 : Index := 0#32
  ![v18.toNat, 0]
def k0_mult3 (k0_t2 : Fin k0_t2_loop.trips) : BitVec 32 :=
  let c511_i32 : BitVec 32 := 511#32
  let c0_i32_5 : BitVec 32 := 0#32
  let c1_i32_6 : BitVec 32 := 1#32
  let arg18 : BitVec 32 := Scf.iv c0_i32_5 c1_i32_6 k0_t2
  let c4_i32 : BitVec 32 := 4#32
  let v14 : BitVec 32 := Scalar.muli arg18 c4_i32
  let c0_i32_18 : BitVec 32 := 0#32
  let v15 : BitVec 32 := Scalar.addi v14 c0_i32_18
  let v30 : BitVec 32 := Scalar.subi c511_i32 v15
  let c8_i32_23 : BitVec 32 := 8#32
  let v31 : BitVec 32 := Scalar.muli v30 c8_i32_23
  v31
def k0_off4 (k0_t2 : Fin k0_t2_loop.trips) (c0_i32_18 : BitVec 32) : Fin 2 → Nat :=
  let c511_i32 : BitVec 32 := 511#32
  let c0_i32_5 : BitVec 32 := 0#32
  let c1_i32_6 : BitVec 32 := 1#32
  let arg18 : BitVec 32 := Scf.iv c0_i32_5 c1_i32_6 k0_t2
  let c4_i32 : BitVec 32 := 4#32
  let v14 : BitVec 32 := Scalar.muli arg18 c4_i32
  let v15 : BitVec 32 := Scalar.addi v14 c0_i32_18
  let v30 : BitVec 32 := Scalar.subi c511_i32 v15
  let c8_i32_23 : BitVec 32 := 8#32
  let v31 : BitVec 32 := Scalar.muli v30 c8_i32_23
  let v32 : BitVec 32 := v31
  let v33 : Index := Scalar.indexCast v32
  let c0_24 : Index := 0#32
  ![v33.toNat, 0]
def k0_mult4 (k0_t2 : Fin k0_t2_loop.trips) : BitVec 32 :=
  let c0_i32_5 : BitVec 32 := 0#32
  let c1_i32_6 : BitVec 32 := 1#32
  let arg18 : BitVec 32 := Scf.iv c0_i32_5 c1_i32_6 k0_t2
  let c4_i32_27 : BitVec 32 := 4#32
  let v45 : BitVec 32 := Scalar.muli arg18 c4_i32_27
  let c1_i32_28 : BitVec 32 := 1#32
  let v46 : BitVec 32 := Scalar.addi v45 c1_i32_28
  let c8_i32_29 : BitVec 32 := 8#32
  let v47 : BitVec 32 := Scalar.muli v46 c8_i32_29
  v47
def k0_mult5 (k0_t2 : Fin k0_t2_loop.trips) : BitVec 32 :=
  let c511_i32_33 : BitVec 32 := 511#32
  let c0_i32_5 : BitVec 32 := 0#32
  let c1_i32_6 : BitVec 32 := 1#32
  let arg18 : BitVec 32 := Scf.iv c0_i32_5 c1_i32_6 k0_t2
  let c4_i32_27 : BitVec 32 := 4#32
  let v45 : BitVec 32 := Scalar.muli arg18 c4_i32_27
  let c1_i32_28 : BitVec 32 := 1#32
  let v46 : BitVec 32 := Scalar.addi v45 c1_i32_28
  let v61 : BitVec 32 := Scalar.subi c511_i32_33 v46
  let c8_i32_34 : BitVec 32 := 8#32
  let v62 : BitVec 32 := Scalar.muli v61 c8_i32_34
  v62
def k0_mult6 (k0_t2 : Fin k0_t2_loop.trips) : BitVec 32 :=
  let c0_i32_5 : BitVec 32 := 0#32
  let c1_i32_6 : BitVec 32 := 1#32
  let arg18 : BitVec 32 := Scf.iv c0_i32_5 c1_i32_6 k0_t2
  let c4_i32_38 : BitVec 32 := 4#32
  let v76 : BitVec 32 := Scalar.muli arg18 c4_i32_38
  let c2_i32 : BitVec 32 := 2#32
  let v77 : BitVec 32 := Scalar.addi v76 c2_i32
  let c8_i32_39 : BitVec 32 := 8#32
  let v78 : BitVec 32 := Scalar.muli v77 c8_i32_39
  v78
def k0_mult7 (k0_t2 : Fin k0_t2_loop.trips) : BitVec 32 :=
  let c511_i32_43 : BitVec 32 := 511#32
  let c0_i32_5 : BitVec 32 := 0#32
  let c1_i32_6 : BitVec 32 := 1#32
  let arg18 : BitVec 32 := Scf.iv c0_i32_5 c1_i32_6 k0_t2
  let c4_i32_38 : BitVec 32 := 4#32
  let v76 : BitVec 32 := Scalar.muli arg18 c4_i32_38
  let c2_i32 : BitVec 32 := 2#32
  let v77 : BitVec 32 := Scalar.addi v76 c2_i32
  let v92 : BitVec 32 := Scalar.subi c511_i32_43 v77
  let c8_i32_44 : BitVec 32 := 8#32
  let v93 : BitVec 32 := Scalar.muli v92 c8_i32_44
  v93
def k0_mult8 (k0_t2 : Fin k0_t2_loop.trips) : BitVec 32 :=
  let c0_i32_5 : BitVec 32 := 0#32
  let c1_i32_6 : BitVec 32 := 1#32
  let arg18 : BitVec 32 := Scf.iv c0_i32_5 c1_i32_6 k0_t2
  let c4_i32_48 : BitVec 32 := 4#32
  let v107 : BitVec 32 := Scalar.muli arg18 c4_i32_48
  let c3_i32 : BitVec 32 := 3#32
  let v108 : BitVec 32 := Scalar.addi v107 c3_i32
  let c8_i32_49 : BitVec 32 := 8#32
  let v109 : BitVec 32 := Scalar.muli v108 c8_i32_49
  v109
def k0_mult9 (k0_t2 : Fin k0_t2_loop.trips) : BitVec 32 :=
  let c511_i32_53 : BitVec 32 := 511#32
  let c0_i32_5 : BitVec 32 := 0#32
  let c1_i32_6 : BitVec 32 := 1#32
  let arg18 : BitVec 32 := Scf.iv c0_i32_5 c1_i32_6 k0_t2
  let c4_i32_48 : BitVec 32 := 4#32
  let v107 : BitVec 32 := Scalar.muli arg18 c4_i32_48
  let c3_i32 : BitVec 32 := 3#32
  let v108 : BitVec 32 := Scalar.addi v107 c3_i32
  let v123 : BitVec 32 := Scalar.subi c511_i32_53 v108
  let c8_i32_54 : BitVec 32 := 8#32
  let v124 : BitVec 32 := Scalar.muli v123 c8_i32_54
  v124
@[reducible] def k0_t3_loop : Scf.Loop 32 :=
  let c0_i32_14 : BitVec 32 := 0#32
  let c8_i32_15 : BitVec 32 := 8#32
  let v13 : BitVec 32 := Scalar.addi c0_i32_14 c8_i32_15
  let c1_i32_16 : BitVec 32 := 1#32
  ⟨c0_i32_14, v13, c1_i32_16⟩
def k0_mult10 (k0_t3 : Fin k0_t3_loop.trips) : BitVec 32 :=
  let c0_i32_14 : BitVec 32 := 0#32
  let c1_i32_16 : BitVec 32 := 1#32
  let arg18 : BitVec 32 := Scf.iv c0_i32_14 c1_i32_16 k0_t3
  let c512_i32 : BitVec 32 := 512#32
  let v14 : BitVec 32 := Scalar.muli arg18 c512_i32
  v14
def k0_off5 (k0_t3 : Fin k0_t3_loop.trips) : Fin 2 → Nat :=
  let c0_i32_14 : BitVec 32 := 0#32
  let c1_i32_16 : BitVec 32 := 1#32
  let arg18 : BitVec 32 := Scf.iv c0_i32_14 c1_i32_16 k0_t3
  let c512_i32 : BitVec 32 := 512#32
  let v14 : BitVec 32 := Scalar.muli arg18 c512_i32
  let v15 : BitVec 32 := v14
  let v16 : Index := Scalar.indexCast v15
  let c0_18 : Index := 0#32
  ![v16.toNat, 0]
def k0_off6 (k0_t3 : Fin k0_t3_loop.trips) : Fin 3 → Nat :=
  let c0_20 : Index := 0#32
  let c0_i32_14 : BitVec 32 := 0#32
  let c1_i32_16 : BitVec 32 := 1#32
  let arg18 : BitVec 32 := Scf.iv c0_i32_14 c1_i32_16 k0_t3
  let c512_i32 : BitVec 32 := 512#32
  let v14 : BitVec 32 := Scalar.muli arg18 c512_i32
  let v15 : BitVec 32 := v14
  let v21 : Index := Scalar.indexCast v15
  let c0_21 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceScanIdeal.lean ====
abbrev S4x4096x4096 : Shape := ⟨3, ![4, 4096, 4096]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S4x2x2048 : Shape := ⟨3, ![4, 2, 2048]⟩
abbrev S4x4096x2048 : Shape := ⟨3, ![4, 4096, 2048]⟩
abbrev S256x64x2048 : Shape := ⟨3, ![256, 64, 2048]⟩
abbrev S_ : Shape := ⟨0, ![]⟩
abbrev S256x67x2048 : Shape := ⟨3, ![256, 67, 2048]⟩
abbrev S1x2048 : Shape := ⟨2, ![1, 2048]⟩
abbrev S1x1x2048 : Shape := ⟨3, ![1, 1, 2048]⟩
abbrev S1x16x128x128 : Shape := ⟨4, ![1, 16, 128, 128]⟩
abbrev S16x128x128 : Shape := ⟨3, ![16, 128, 128]⟩
abbrev S4x4096x16x128 : Shape := ⟨4, ![4, 4096, 16, 128]⟩
abbrev S16x128x4x4096 : Shape := ⟨4, ![16, 128, 4, 4096]⟩
abbrev S8x4096x2048 : Shape := ⟨3, ![8, 4096, 2048]⟩
abbrev S4x1x2048 : Shape := ⟨3, ![4, 1, 2048]⟩
abbrev S8x2048 : Shape := ⟨2, ![8, 2048]⟩
abbrev S4096x8x2048 : Shape := ⟨3, ![4096, 8, 2048]⟩
abbrev S1x8x2048 : Shape := ⟨3, ![1, 8, 2048]⟩

abbrev nBuf : Space → Nat
  | .hbm => 252
  | .vmem => 0
  | .smem => 0
  | _ => 0

abbrev hbmTy0_0 (i : Nat) : BufTy := match i % 128 with
  | 0 => ⟨S4x4096x4096, .f32⟩
  | 1 => ⟨S4x2048, .f32⟩
  | 2 => ⟨S2048, .f32⟩
  | 3 => ⟨S2x16x128x128, .f32⟩
  | 4 => ⟨S2x2048, .f32⟩
  | 5 => ⟨S2x16x128x128, .f32⟩
  | 6 => ⟨S2x2048, .f32⟩
  | 7 => ⟨S2x2048, .f32⟩
  | 8 => ⟨S4x2x2048, .f32⟩
  | 9 => ⟨S4x4096x2048, .f32⟩
  | 10 => ⟨S256x64x2048, .f32⟩
  | 11 => ⟨S_, .i32⟩
  | 12 => ⟨S_, .f32⟩
  | 13 => ⟨S256x67x2048, .f32⟩
  | 14 => ⟨S1x2048, .f32⟩
  | 15 => ⟨S2048, .f32⟩
  | 16 => ⟨S256x64x2048, .f32⟩
  | 17 => ⟨S1x1x2048, .f32⟩
  | 18 => ⟨S256x64x2048, .f32⟩
  | 19 => ⟨S256x64x2048, .f32⟩
  | 20 => ⟨S1x1x2048, .f32⟩
  | 21 => ⟨S256x64x2048, .f32⟩
  | 22 => ⟨S256x64x2048, .f32⟩
  | 23 => ⟨S1x2048, .f32⟩
  | 24 => ⟨S2048, .f32⟩
  | 25 => ⟨S256x64x2048, .f32⟩
  | 26 => ⟨S1x1x2048, .f32⟩
  | 27 => ⟨S256x64x2048, .f32⟩
  | 28 => ⟨S256x64x2048, .f32⟩
  | 29 => ⟨S256x64x2048, .f32⟩
  | 30 => ⟨S1x2048, .f32⟩
  | 31 => ⟨S2048, .f32⟩
  | 32 => ⟨S256x64x2048, .f32⟩
  | 33 => ⟨S1x1x2048, .f32⟩
  | 34 => ⟨S256x64x2048, .f32⟩
  | 35 => ⟨S256x64x2048, .f32⟩
  | 36 => ⟨S256x64x2048, .f32⟩
  | 37 => ⟨S1x2048, .f32⟩
  | 38 => ⟨S2048, .f32⟩
  | 39 => ⟨S256x64x2048, .f32⟩
  | 40 => ⟨S1x1x2048, .f32⟩
  | 41 => ⟨S256x64x2048, .f32⟩
  | 42 => ⟨S256x64x2048, .f32⟩
  | 43 => ⟨S256x64x2048, .f32⟩
  | 44 => ⟨S4x4096x2048, .f32⟩
  | 45 => ⟨S1x16x128x128, .f32⟩
  | 46 => ⟨S16x128x128, .f32⟩
  | 47 => ⟨S1x2048, .f32⟩
  | 48 => ⟨S2048, .f32⟩
  | 49 => ⟨S1x16x128x128, .f32⟩
  | 50 => ⟨S16x128x128, .f32⟩
  | 51 => ⟨S1x2048, .f32⟩
  | 52 => ⟨S2048, .f32⟩
  | 53 => ⟨S1x2048, .f32⟩
  | 54 => ⟨S2048, .f32⟩
  | 55 => ⟨S4x4096x16x128, .f32⟩
  | 56 => ⟨S16x128x4x4096, .f32⟩
  | 57 => ⟨S4x4096x16x128, .f32⟩
  | 58 => ⟨S4x4096x2048, .f32⟩
  | 59 => ⟨S1x1x2048, .f32⟩
  | 60 => ⟨S4x4096x2048, .f32⟩
  | 61 => ⟨S4x4096x2048, .f32⟩
  | 62 => ⟨S4x4096x2048, .f32⟩
  | 63 => ⟨S4x4096x2048, .f32⟩
  | 64 => ⟨S_, .f32⟩
  | 65 => ⟨S4x4096x2048, .f32⟩
  | 66 => ⟨S4x4096x2048, .f32⟩
  | 67 => ⟨S_, .f32⟩
  | 68 => ⟨S4x4096x2048, .f32⟩
  | 69 => ⟨S4x4096x2048, .f32⟩
  | 70 => ⟨S4x4096x16x128, .f32⟩
  | 71 => ⟨S16x128x4x4096, .f32⟩
  | 72 => ⟨S4x4096x16x128, .f32⟩
  | 73 => ⟨S4x4096x2048, .f32⟩
  | 74 => ⟨S1x1x2048, .f32⟩
  | 75 => ⟨S4x4096x2048, .f32⟩
  | 76 => ⟨S4x4096x2048, .f32⟩
  | 77 => ⟨S4x4096x2048, .f32⟩
  | 78 => ⟨S4x4096x2048, .f32⟩
  | 79 => ⟨S_, .f32⟩
  | 80 => ⟨S4x4096x2048, .f32⟩
  | 81 => ⟨S4x4096x2048, .f32⟩
  | 82 => ⟨S_, .f32⟩
  | 83 => ⟨S4x4096x2048, .f32⟩
  | 84 => ⟨S4x4096x2048, .f32⟩
  | 85 => ⟨S_, .f32⟩
  | 86 => ⟨S4x4096x2048, .f32⟩
  | 87 => ⟨S4x4096x2048, .f32⟩
  | 88 => ⟨S2048, .f32⟩
  | 89 => ⟨S_, .f32⟩
  | 90 => ⟨S2048, .f32⟩
  | 91 => ⟨S2048, .f32⟩
  | 92 => ⟨S2048, .f32⟩
  | 93 => ⟨S2048, .f32⟩
  | 94 => ⟨S2048, .i1⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S1x1x2048, .f32⟩
  | 104 => ⟨S4x4096x2048, .f32⟩
  | 105 => ⟨S4x4096x2048, .f32⟩
  | 106 => ⟨S4x4096x2048, .f32⟩
  | 107 => ⟨S_, .f32⟩
  | 108 => ⟨S4x4096x2048, .f32⟩
  | 109 => ⟨S4x4096x2048, .f32⟩
  | 110 => ⟨S4x4096x2048, .f32⟩
  | 111 => ⟨S4x4096x2048, .f32⟩
  | 112 => ⟨S4x4096x2048, .f32⟩
  | 113 => ⟨S4x4096x2048, .f32⟩
  | 114 => ⟨S4x4096x2048, .f32⟩
  | 115 => ⟨S1x16x128x128, .f32⟩
  | 116 => ⟨S16x128x128, .f32⟩
  | 117 => ⟨S1x2048, .f32⟩
  | 118 => ⟨S2048, .f32⟩
  | 119 => ⟨S1x16x128x128, .f32⟩
  | 120 => ⟨S16x128x128, .f32⟩
  | 121 => ⟨S1x2048, .f32⟩
  | 122 => ⟨S2048, .f32⟩
  | 123 => ⟨S1x2048, .f32⟩
  | 124 => ⟨S2048, .f32⟩
  | 125 => ⟨S4x4096x16x128, .f32⟩
  | 126 => ⟨S16x128x4x4096, .f32⟩
  | 127 => ⟨S4x4096x16x128, .f32⟩
  | _ => ⟨S4x4096x4096, .f32⟩

abbrev hbmTy0_1 (i : Nat) : BufTy := match i % 128 with
  | 0 => ⟨S4x4096x2048, .f32⟩
  | 1 => ⟨S1x1x2048, .f32⟩
  | 2 => ⟨S4x4096x2048, .f32⟩
  | 3 => ⟨S4x4096x2048, .f32⟩
  | 4 => ⟨S4x4096x2048, .f32⟩
  | 5 => ⟨S4x4096x2048, .f32⟩
  | 6 => ⟨S_, .f32⟩
  | 7 => ⟨S4x4096x2048, .f32⟩
  | 8 => ⟨S4x4096x2048, .f32⟩
  | 9 => ⟨S_, .f32⟩
  | 10 => ⟨S4x4096x2048, .f32⟩
  | 11 => ⟨S4x4096x2048, .f32⟩
  | 12 => ⟨S4x4096x16x128, .f32⟩
  | 13 => ⟨S16x128x4x4096, .f32⟩
  | 14 => ⟨S4x4096x16x128, .f32⟩
  | 15 => ⟨S4x4096x2048, .f32⟩
  | 16 => ⟨S1x1x2048, .f32⟩
  | 17 => ⟨S4x4096x2048, .f32⟩
  | 18 => ⟨S4x4096x2048, .f32⟩
  | 19 => ⟨S4x4096x2048, .f32⟩
  | 20 => ⟨S4x4096x2048, .f32⟩
  | 21 => ⟨S_, .f32⟩
  | 22 => ⟨S4x4096x2048, .f32⟩
  | 23 => ⟨S4x4096x2048, .f32⟩
  | 24 => ⟨S_, .f32⟩
  | 25 => ⟨S4x4096x2048, .f32⟩
  | 26 => ⟨S4x4096x2048, .f32⟩
  | 27 => ⟨S_, .f32⟩
  | 28 => ⟨S4x4096x2048, .f32⟩
  | 29 => ⟨S4x4096x2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S2048, .f32⟩
  | 36 => ⟨S2048, .i1⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S1x1x2048, .f32⟩
  | 46 => ⟨S4x4096x2048, .f32⟩
  | 47 => ⟨S4x4096x2048, .f32⟩
  | 48 => ⟨S4x4096x2048, .f32⟩
  | 49 => ⟨S_, .f32⟩
  | 50 => ⟨S4x4096x2048, .f32⟩
  | 51 => ⟨S4x4096x2048, .f32⟩
  | 52 => ⟨S4x4096x2048, .f32⟩
  | 53 => ⟨S4x4096x2048, .f32⟩
  | 54 => ⟨S4x4096x2048, .f32⟩
  | 55 => ⟨S4x4096x2048, .f32⟩
  | 56 => ⟨S4x4096x2048, .f32⟩
  | 57 => ⟨S4x4096x2048, .f32⟩
  | 58 => ⟨S8x4096x2048, .f32⟩
  | 59 => ⟨S4x4096x2048, .f32⟩
  | 60 => ⟨S8x4096x2048, .f32⟩
  | 61 => ⟨S4x1x2048, .f32⟩
  | 62 => ⟨S4x2048, .f32⟩
  | 63 => ⟨S4x1x2048, .f32⟩
  | 64 => ⟨S4x2048, .f32⟩
  | 65 => ⟨S8x2048, .f32⟩
  | 66 => ⟨S4096x8x2048, .f32⟩
  | 67 => ⟨S4096x8x2048, .f32⟩
  | 68 => ⟨S_, .f32⟩
  | 69 => ⟨S4096x8x2048, .f32⟩
  | 70 => ⟨S_, .i32⟩
  | 71 => ⟨S4096x8x2048, .f32⟩
  | 72 => ⟨S4096x8x2048, .f32⟩
  | 73 => ⟨S_, .i32⟩
  | 74 => ⟨S8x2048, .f32⟩
  | 75 => ⟨S4096x8x2048, .f32⟩
  | 76 => ⟨S_, .i32⟩
  | 77 => ⟨S_, .i1⟩
  | 78 => ⟨S_, .i32⟩
  | 79 => ⟨S_, .i32⟩
  | 80 => ⟨S1x8x2048, .f32⟩
  | 81 => ⟨S8x2048, .f32⟩
  | 82 => ⟨S_, .i32⟩
  | 83 => ⟨S_, .i32⟩
  | 84 => ⟨S1x8x2048, .f32⟩
  | 85 => ⟨S8x2048, .f32⟩
  | 86 => ⟨S8x2048, .f32⟩
  | 87 => ⟨S8x2048, .f32⟩
  | 88 => ⟨S1x8x2048, .f32⟩
  | 89 => ⟨S_, .i32⟩
  | 90 => ⟨S_, .i32⟩
  | 91 => ⟨S4096x8x2048, .f32⟩
  | 92 => ⟨S_, .i32⟩
  | 93 => ⟨S_, .i32⟩
  | 94 => ⟨S8x4096x2048, .f32⟩
  | 95 => ⟨S4x4096x2048, .f32⟩
  | 96 => ⟨S4x4096x2048, .f32⟩
  | 97 => ⟨S4x4096x2048, .f32⟩
  | 98 => ⟨S4x2048, .f32⟩
  | 99 => ⟨S4x2048, .f32⟩
  | 100 => ⟨S4x4096x2048, .f32⟩
  | 101 => ⟨S4x4096x2048, .f32⟩
  | 102 => ⟨S4x4096x2048, .f32⟩
  | 103 => ⟨S_, .f32⟩
  | 104 => ⟨S4x4096x2048, .f32⟩
  | 105 => ⟨S4x4096x2048, .f32⟩
  | 106 => ⟨S4x4096x2048, .f32⟩
  | 107 => ⟨S_, .f32⟩
  | 108 => ⟨S4x4096x2048, .f32⟩
  | 109 => ⟨S4x4096x2048, .f32⟩
  | 110 => ⟨S4x4096x2048, .f32⟩
  | 111 => ⟨S_, .f32⟩
  | 112 => ⟨S4x4096x2048, .f32⟩
  | 113 => ⟨S4x4096x2048, .f32⟩
  | 114 => ⟨S_, .f32⟩
  | 115 => ⟨S4x4096x2048, .f32⟩
  | 116 => ⟨S4x4096x2048, .f32⟩
  | 117 => ⟨S4x4096x2048, .f32⟩
  | 118 => ⟨S4x4096x2048, .f32⟩
  | 119 => ⟨S4x4096x2048, .f32⟩
  | 120 => ⟨S4x4096x2048, .bf16⟩
  | 121 => ⟨S4x1x2048, .f32⟩
  | 122 => ⟨S4x1x2048, .f32⟩
  | 123 => ⟨S4x2x2048, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst : Ref sig .tc := ⟨.hbm, 64, rfl⟩
abbrev main_v53 : Ref sig .tc := ⟨.hbm, 65, rfl⟩
abbrev main_v54 : Ref sig .tc := ⟨.hbm, 66, rfl⟩
abbrev main_cst_0 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_1 : Ref sig .tc := ⟨.hbm, 79, rfl⟩
abbrev main_v66 : Ref sig .tc := ⟨.hbm, 80, rfl⟩
abbrev main_v67 : Ref sig .tc := ⟨.hbm, 81, rfl⟩
abbrev main_cst_2 : Ref sig .tc := ⟨.hbm, 82, rfl⟩
abbrev main_v68 : Ref sig .tc := ⟨.hbm, 83, rfl⟩
abbrev main_v69 : Ref sig .tc := ⟨.hbm, 84, rfl⟩
abbrev main_cst_3 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_4 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_5 : Ref sig .tc := ⟨.hbm, 134, rfl⟩
abbrev main_v104 : Ref sig .tc := ⟨.hbm, 135, rfl⟩
abbrev main_v105 : Ref sig .tc := ⟨.hbm, 136, rfl⟩
abbrev main_cst_6 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_7 : Ref sig .tc := ⟨.hbm, 149, rfl⟩
abbrev main_v117 : Ref sig .tc := ⟨.hbm, 150, rfl⟩
abbrev main_v118 : Ref sig .tc := ⟨.hbm, 151, rfl⟩
abbrev main_cst_8 : Ref sig .tc := ⟨.hbm, 152, rfl⟩
abbrev main_v119 : Ref sig .tc := ⟨.hbm, 153, rfl⟩
abbrev main_v120 : Ref sig .tc := ⟨.hbm, 154, rfl⟩
abbrev main_cst_9 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_v8 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_10 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_11 : Ref sig .tc := ⟨.hbm, 196, rfl⟩
abbrev main_v147 : Ref sig .tc := ⟨.hbm, 197, rfl⟩
abbrev main_c_12 : Ref sig .tc := ⟨.hbm, 198, rfl⟩
abbrev main_v148_0 : Ref sig .tc := ⟨.hbm, 199, rfl⟩
abbrev main_v148_1 : Ref sig .tc := ⟨.hbm, 200, rfl⟩
abbrev main_v148_2 : Ref sig .tc := ⟨.hbm, 201, rfl⟩
abbrev main_v148_3 : Ref sig .tc := ⟨.hbm, 202, rfl⟩
abbrev main_v148_4 : Ref sig .tc := ⟨.hbm, 203, rfl⟩
abbrev main_while0c_c_21 : Ref sig .tc := ⟨.hbm, 204, rfl⟩
abbrev main_while0c_v175 : Ref sig .tc := ⟨.hbm, 205, rfl⟩
abbrev main_while0b_call5_c : Ref sig .tc := ⟨.hbm, 206, rfl⟩
abbrev main_while0b_call5_c_0 : Ref sig .tc := ⟨.hbm, 207, rfl⟩
abbrev main_while0b_call5_v0 : Ref sig .tc := ⟨.hbm, 208, rfl⟩
abbrev main_while0b_v175 : Ref sig .tc := ⟨.hbm, 209, rfl⟩
abbrev main_while0b_call6_c : Ref sig .tc := ⟨.hbm, 210, rfl⟩
abbrev main_while0b_call6_c_0 : Ref sig .tc := ⟨.hbm, 211, rfl⟩
abbrev main_while0b_call6_v0 : Ref sig .tc := ⟨.hbm, 212, rfl⟩
abbrev main_while0b_v176 : Ref sig .tc := ⟨.hbm, 213, rfl⟩
abbrev main_while0b_v177 : Ref sig .tc := ⟨.hbm, 214, rfl⟩
abbrev main_while0b_v178 : Ref sig .tc := ⟨.hbm, 215, rfl⟩
abbrev main_while0b_call7_v0 : Ref sig .tc := ⟨.hbm, 216, rfl⟩
abbrev main_while0b_call7_c : Ref sig .tc := ⟨.hbm, 217, rfl⟩
abbrev main_while0b_call7_c_0 : Ref sig .tc := ⟨.hbm, 218, rfl⟩
abbrev main_while0b_v179 : Ref sig .tc := ⟨.hbm, 219, rfl⟩
abbrev main_while0b_c_21 : Ref sig .tc := ⟨.hbm, 220, rfl⟩
abbrev main_while0b_v180 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_13 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_14 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_15 : Ref sig .tc := ⟨.hbm, 239, rfl⟩
abbrev main_v164 : Ref sig .tc := ⟨.hbm, 240, rfl⟩
abbrev main_v165 : Ref sig .tc := ⟨.hbm, 241, rfl⟩
abbrev main_cst_16 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩

abbrev nD : Nat := 1
abbrev τ : Topo := Topo.v7x

variable {F : FTy → Type} [FloatOps F]

abbrev main_while0_count : Scf.Loop 32 := ⟨0#32, 4096#32, 1#32⟩
-- ==== Kernel.lean ====
abbrev S4x16x512x4096 : Shape := ⟨4, ![4, 16, 512, 4096]⟩
abbrev S16x4096x2048 : Shape := ⟨3, ![16, 4096, 2048]⟩
abbrev S16x4x512x4096 : Shape := ⟨4, ![16, 4, 512, 4096]⟩
abbrev S32768x4096 : Shape := ⟨2, ![32768, 4096]⟩
abbrev S32768x2048 : Shape := ⟨2, ![32768, 2048]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 7
  | .vmem => 8
  | .smem => 0
  | _ => 0

abbrev bufTy : (tb : Table) → Fin (tcTables nBuf tb) → BufTy
  | .hbm, ⟨0, _⟩ => ⟨S4x16x512x4096, .f32⟩
  | .hbm, ⟨1, _⟩ => ⟨S16x4096x2048, .f32⟩
  | .hbm, ⟨2, _⟩ => ⟨S16x4096x2048, .f32⟩
  | .hbm, ⟨3, _⟩ => ⟨S16x4x512x4096, .f32⟩
  | .hbm, ⟨4, _⟩ => ⟨S32768x4096, .f32⟩
  | .hbm, ⟨5, _⟩ => ⟨S32768x4096, .bf16⟩
  | .hbm, ⟨6, _⟩ => ⟨S32768x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S4x16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x16x512x4096 : Shape := ⟨4, ![4, 16, 512, 4096]⟩
abbrev S16x4096x2048 : Shape := ⟨3, ![16, 4096, 2048]⟩
abbrev S16x2048x4x512 : Shape := ⟨4, ![16, 2048, 4, 512]⟩
abbrev S4x16x512x2048 : Shape := ⟨4, ![4, 16, 512, 2048]⟩
abbrev S_ : Shape := ⟨0, ![]⟩
abbrev S16x4x512x2048 : Shape := ⟨4, ![16, 4, 512, 2048]⟩
abbrev S32768x2048 : Shape := ⟨2, ![32768, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x16x512x4096, .f32⟩
  | .hbm, ⟨1, _⟩ => ⟨S16x4096x2048, .f32⟩
  | .hbm, ⟨2, _⟩ => ⟨S16x4096x2048, .f32⟩
  | .hbm, ⟨3, _⟩ => ⟨S16x2048x4x512, .f32⟩
  | .hbm, ⟨4, _⟩ => ⟨S4x16x512x2048, .f32⟩
  | .hbm, ⟨5, _⟩ => ⟨S16x2048x4x512, .f32⟩
  | .hbm, ⟨6, _⟩ => ⟨S4x16x512x2048, .f32⟩
  | .hbm, ⟨7, _⟩ => ⟨S4x16x512x2048, .f32⟩
  | .hbm, ⟨8, _⟩ => ⟨S4x16x512x2048, .f32⟩
  | .hbm, ⟨9, _⟩ => ⟨S_, .f32⟩
  | .hbm, ⟨10, _⟩ => ⟨S4x16x512x2048, .f32⟩
  | .hbm, ⟨11, _⟩ => ⟨S4x16x512x2048, .f32⟩
  | .hbm, ⟨12, _⟩ => ⟨S_, .f32⟩
  | .hbm, ⟨13, _⟩ => ⟨S4x16x512x2048, .f32⟩
  | .hbm, ⟨14, _⟩ => ⟨S4x16x512x2048, .f32⟩
  | .hbm, ⟨15, _⟩ => ⟨S4x16x512x2048, .f32⟩
  | .hbm, ⟨16, _⟩ => ⟨S4x16x512x2048, .f32⟩
  | .hbm, ⟨17, _⟩ => ⟨S16x4x512x2048, .f32⟩
  | .hbm, ⟨18, _⟩ => ⟨S32768x2048, .f32⟩
  | .hbm, ⟨19, _⟩ => ⟨S32768x2048, .bf16⟩
  | _, _ => ⟨S4x16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== KernelHyena.lean ====
abbrev S4x4096x4096 : Shape := ⟨3, ![4, 4096, 4096]⟩
abbrev S4096x10240 : Shape := ⟨2, ![4096, 10240]⟩
abbrev S10240 : Shape := ⟨1, ![10240]⟩
abbrev S3x6144 : Shape := ⟨2, ![3, 6144]⟩
abbrev S6144 : Shape := ⟨1, ![6144]⟩
abbrev S16384x4096 : Shape := ⟨2, ![16384, 4096]⟩
abbrev S1x10240 : Shape := ⟨2, ![1, 10240]⟩
abbrev S1x6144 : Shape := ⟨2, ![1, 6144]⟩
abbrev S16384x2048 : Shape := ⟨2, ![16384, 2048]⟩
abbrev S1024x4096 : Shape := ⟨2, ![1024, 4096]⟩
abbrev S4096x256 : Shape := ⟨2, ![4096, 256]⟩
abbrev S1x256 : Shape := ⟨2, ![1, 256]⟩
abbrev S3x256 : Shape := ⟨2, ![3, 256]⟩
abbrev S1024x256 : Shape := ⟨2, ![1024, 256]⟩
abbrev S1024x1 : Shape := ⟨2, ![1024, 1]⟩

abbrev nBuf : Space → Nat
  | .hbm => 12
  | .vmem => 30
  | .smem => 0
  | _ => 0

abbrev bufTy : (tb : Table) → Fin (tcTables nBuf tb) → BufTy
  | .hbm, ⟨0, _⟩ => ⟨S4x4096x4096, .f32⟩
  | .hbm, ⟨1, _⟩ => ⟨S4096x10240, .f32⟩
  | .hbm, ⟨2, _⟩ => ⟨S10240, .f32⟩
  | .hbm, ⟨3, _⟩ => ⟨S3x6144, .f32⟩
  | .hbm, ⟨4, _⟩ => ⟨S6144, .f32⟩
  | .hbm, ⟨5, _⟩ => ⟨S4x4096x4096, .bf16⟩
  | .hbm, ⟨6, _⟩ => ⟨S16384x4096, .bf16⟩
  | .hbm, ⟨7, _⟩ => ⟨S4096x10240, .bf16⟩
  | .hbm, ⟨8, _⟩ => ⟨S1x10240, .f32⟩
  | .hbm, ⟨9, _⟩ => ⟨S1x6144, .f32⟩
  | .hbm, ⟨10, _⟩ => ⟨S16384x2048, .f32⟩
  | .hbm, ⟨11, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceHyenaIdeal.lean ====
abbrev S4x4096x4096 : Shape := ⟨3, ![4, 4096, 4096]⟩
abbrev S4096x10240 : Shape := ⟨2, ![4096, 10240]⟩
abbrev S10240 : Shape := ⟨1, ![10240]⟩
abbrev S3x6144 : Shape := ⟨2, ![3, 6144]⟩
abbrev S6144 : Shape := ⟨1, ![6144]⟩
abbrev S4x4096x10240 : Shape := ⟨3, ![4, 4096, 10240]⟩
abbrev S1x1x10240 : Shape := ⟨3, ![1, 1, 10240]⟩
abbrev S4x4096x6144 : Shape := ⟨3, ![4, 4096, 6144]⟩
abbrev S256x64x6144 : Shape := ⟨3, ![256, 64, 6144]⟩
abbrev S_ : Shape := ⟨0, ![]⟩
abbrev S256x66x6144 : Shape := ⟨3, ![256, 66, 6144]⟩
abbrev S1x6144 : Shape := ⟨2, ![1, 6144]⟩
abbrev S1x1x6144 : Shape := ⟨3, ![1, 1, 6144]⟩
abbrev S4x4096x2048 : Shape := ⟨3, ![4, 4096, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x10240, .f32⟩
  | .hbm, ⟨2, _⟩ => ⟨S10240, .f32⟩
  | .hbm, ⟨3, _⟩ => ⟨S3x6144, .f32⟩
  | .hbm, ⟨4, _⟩ => ⟨S6144, .f32⟩
  | .hbm, ⟨5, _⟩ => ⟨S4x4096x10240, .f32⟩
  | .hbm, ⟨6, _⟩ => ⟨S1x1x10240, .f32⟩
  | .hbm, ⟨7, _⟩ => ⟨S4x4096x10240, .f32⟩
  | .hbm, ⟨8, _⟩ => ⟨S4x4096x10240, .f32⟩
  | .hbm, ⟨9, _⟩ => ⟨S4x4096x6144, .f32⟩
  | .hbm, ⟨10, _⟩ => ⟨S256x64x6144, .f32⟩
  | .hbm, ⟨11, _⟩ => ⟨S_, .i32⟩
  | .hbm, ⟨12, _⟩ => ⟨S_, .f32⟩
  | .hbm, ⟨13, _⟩ => ⟨S256x66x6144, .f32⟩
  | .hbm, ⟨14, _⟩ => ⟨S1x6144, .f32⟩
  | .hbm, ⟨15, _⟩ => ⟨S6144, .f32⟩
  | .hbm, ⟨16, _⟩ => ⟨S256x64x6144, .f32⟩
  | .hbm, ⟨17, _⟩ => ⟨S1x1x6144, .f32⟩
  | .hbm, ⟨18, _⟩ => ⟨S256x64x6144, .f32⟩
  | .hbm, ⟨19, _⟩ => ⟨S256x64x6144, .f32⟩
  | .hbm, ⟨20, _⟩ => ⟨S1x1x6144, .f32⟩
  | .hbm, ⟨21, _⟩ => ⟨S256x64x6144, .f32⟩
  | .hbm, ⟨22, _⟩ => ⟨S256x64x6144, .f32⟩
  | .hbm, ⟨23, _⟩ => ⟨S1x6144, .f32⟩
  | .hbm, ⟨24, _⟩ => ⟨S6144, .f32⟩
  | .hbm, ⟨25, _⟩ => ⟨S256x64x6144, .f32⟩
  | .hbm, ⟨26, _⟩ => ⟨S1x1x6144, .f32⟩
  | .hbm, ⟨27, _⟩ => ⟨S256x64x6144, .f32⟩
  | .hbm, ⟨28, _⟩ => ⟨S256x64x6144, .f32⟩
  | .hbm, ⟨29, _⟩ => ⟨S256x64x6144, .f32⟩
  | .hbm, ⟨30, _⟩ => ⟨S1x6144, .f32⟩
  | .hbm, ⟨31, _⟩ => ⟨S6144, .f32⟩
  | .hbm, ⟨32, _⟩ => ⟨S256x64x6144, .f32⟩
  | .hbm, ⟨33, _⟩ => ⟨S1x1x6144, .f32⟩
  | .hbm, ⟨34, _⟩ => ⟨S256x64x6144, .f32⟩
  | .hbm, ⟨35, _⟩ => ⟨S256x64x6144, .f32⟩
  | .hbm, ⟨36, _⟩ => ⟨S256x64x6144, .f32⟩
  | .hbm, ⟨37, _⟩ => ⟨S4x4096x6144, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S16384x2048, .f32⟩
  | .hbm, ⟨42, _⟩ => ⟨S4x4096x2048, .f32⟩
  | .hbm, ⟨43, _⟩ => ⟨S16384x2048, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== KernelLru.lean ====
abbrev S4x4096x4096 : Shape := ⟨3, ![4, 4096, 4096]⟩
abbrev S4096x10240 : Shape := ⟨2, ![4096, 10240]⟩
abbrev S10240 : Shape := ⟨1, ![10240]⟩
abbrev S16384x4096 : Shape := ⟨2, ![16384, 4096]⟩
abbrev S1x10240 : Shape := ⟨2, ![1, 10240]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x10240, .f32⟩
  | .hbm, ⟨2, _⟩ => ⟨S10240, .f32⟩
  | .hbm, ⟨3, _⟩ => ⟨S4x4096x4096, .bf16⟩
  | .hbm, ⟨4, _⟩ => ⟨S16384x4096, .bf16⟩
  | .hbm, ⟨5, _⟩ => ⟨S4096x10240, .bf16⟩
  | .hbm, ⟨6, _⟩ => ⟨S1x10240, .f32⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceLruIdeal.lean ====
abbrev S4x4096x4096 : Shape := ⟨3, ![4, 4096, 4096]⟩
abbrev S4096x10240 : Shape := ⟨2, ![4096, 10240]⟩
abbrev S10240 : Shape := ⟨1, ![10240]⟩
abbrev S4x4096x10240 : Shape := ⟨3, ![4, 4096, 10240]⟩
abbrev S1x1x10240 : Shape := ⟨3, ![1, 1, 10240]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x10240, .f32⟩
  | .hbm, ⟨2, _⟩ => ⟨S10240, .f32⟩
  | .hbm, ⟨3, _⟩ => ⟨S4x4096x10240, .f32⟩
  | .hbm, ⟨4, _⟩ => ⟨S1x1x10240, .f32⟩
  | .hbm, ⟨5, _⟩ => ⟨S4x4096x10240, .f32⟩
  | .hbm, ⟨6, _⟩ => ⟨S4x4096x10240, .f32⟩
  | .hbm, ⟨7, _⟩ => ⟨S4x4096x4096, .f32⟩
  | .hbm, ⟨8, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S4x4096x2048 : Shape := ⟨3, ![4, 4096, 2048]⟩
abbrev S4096x4096 : Shape := ⟨2, ![4096, 4096]⟩
abbrev S4096 : Shape := ⟨1, ![4096]⟩
abbrev S4x4096x4096 : Shape := ⟨3, ![4, 4096, 4096]⟩
abbrev S4x1x4096 : Shape := ⟨3, ![4, 1, 4096]⟩
abbrev S16384x2048 : Shape := ⟨2, ![16384, 2048]⟩
abbrev S16384x4096 : Shape := ⟨2, ![16384, 4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1x1x512 : Shape := ⟨3, ![1, 1, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4096x4096, .f32⟩
  | .hbm, ⟨3, _⟩ => ⟨S4096, .f32⟩
  | .hbm, ⟨4, _⟩ => ⟨S4x4096x4096, .f32⟩
  | .hbm, ⟨5, _⟩ => ⟨S4x1x4096, .f32⟩
  | .hbm, ⟨6, _⟩ => ⟨S4x4096x2048, .bf16⟩
  | .hbm, ⟨7, _⟩ => ⟨S16384x2048, .bf16⟩
  | .hbm, ⟨8, _⟩ => ⟨S4x4096x2048, .bf16⟩
  | .hbm, ⟨9, _⟩ => ⟨S16384x2048, .bf16⟩
  | .hbm, ⟨10, _⟩ => ⟨S4096x4096, .bf16⟩
  | .hbm, ⟨11, _⟩ => ⟨S16384x4096, .f32⟩
  | .hbm, ⟨12, _⟩ => ⟨S1x4096, .f32⟩
  | .hbm, ⟨13, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1x1x512, .f32⟩
  | .local _ .vmem, ⟨13, _⟩ => ⟨S1x1x512, .f32⟩
  | .local _ .vmem, ⟨14, _⟩ => ⟨S1024x512, .f32⟩
  | .local _ .vmem, ⟨15, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceOutIdeal.lean ====
abbrev S4x4096x2048 : Shape := ⟨3, ![4, 4096, 2048]⟩
abbrev S4096x4096 : Shape := ⟨2, ![4096, 4096]⟩
abbrev S4096 : Shape := ⟨1, ![4096]⟩
abbrev S4x4096x4096 : Shape := ⟨3, ![4, 4096, 4096]⟩
abbrev S4x1x4096 : Shape := ⟨3, ![4, 1, 4096]⟩
abbrev S1x1x4096 : Shape := ⟨3, ![1, 1, 4096]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4096x4096, .f32⟩
  | .hbm, ⟨3, _⟩ => ⟨S4096, .f32⟩
  | .hbm, ⟨4, _⟩ => ⟨S4x4096x4096, .f32⟩
  | .hbm, ⟨5, _⟩ => ⟨S4x1x4096, .f32⟩
  | .hbm, ⟨6, _⟩ => ⟨S4x4096x4096, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KernelNorm.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x512x4096, .bf16⟩
  | .local _ .vmem, ⟨8, _⟩ => ⟨S1x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNormIdeal.lean ====
abbrev S4x4096x4096 : Shape := ⟨3, ![4, 4096, 4096]⟩
abbrev S4096 : Shape := ⟨1, ![4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelMod.lean ====
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S_ : Shape := ⟨0, ![]⟩
abbrev S8x4096 : Shape := ⟨2, ![8, 4096]⟩
abbrev S1 : Shape := ⟨1, ![1]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S16x4096 : Shape := ⟨2, ![16, 4096]⟩
abbrev S16x512 : Shape := ⟨2, ![16, 512]⟩

abbrev nBuf : Space → Nat
  | .hbm => 14
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S1x24576, .f32⟩
  | .hbm, ⟨13, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S8x24576 : Shape := ⟨2, ![8, 24576]⟩
abbrev S1x24576 : Shape := ⟨2, ![1, 24576]⟩

abbrev nBuf : Space → Nat
  | .hbm => 21
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S8x24576, .f32⟩
  | .hbm, ⟨18, _⟩ => ⟨S1x24576, .f32⟩
  | .hbm, ⟨19, _⟩ => ⟨S8x24576, .f32⟩
  | .hbm, ⟨20, _⟩ => ⟨S8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== KernelNormCtx.lean ====
abbrev S4x256x4096 : Shape := ⟨3, ![4, 256, 4096]⟩
abbrev S4096 : Shape := ⟨1, ![4096]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x1x4096, .f32⟩
  | .hbm, ⟨5, _⟩ => ⟨S1x1x4096, .f32⟩
  | .hbm, ⟨6, _⟩ => ⟨S1x4096, .f32⟩
  | .hbm, ⟨7, _⟩ => ⟨S4x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x256x4096, .bf16⟩
  | .local _ .vmem, ⟨6, _⟩ => ⟨S1x256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNormCtxIdeal.lean ====
abbrev S4x256x4096 : Shape := ⟨3, ![4, 256, 4096]⟩
abbrev S4096 : Shape := ⟨1, ![4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x1x4096, .f32⟩
  | .hbm, ⟨24, _⟩ => ⟨S4x256x4096, .f32⟩
  | .hbm, ⟨25, _⟩ => ⟨S4x256x4096, .f32⟩
  | .hbm, ⟨26, _⟩ => ⟨S1x1x4096, .f32⟩
  | .hbm, ⟨27, _⟩ => ⟨S4x256x4096, .f32⟩
  | .hbm, ⟨28, _⟩ => ⟨S4x256x4096, .f32⟩
  | .hbm, ⟨29, _⟩ => ⟨S4x256x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KernelLruCtx.lean ====
abbrev S4x256x4096 : Shape := ⟨3, ![4, 256, 4096]⟩
abbrev S4096x10240 : Shape := ⟨2, ![4096, 10240]⟩
abbrev S10240 : Shape := ⟨1, ![10240]⟩
abbrev S1024x4096 : Shape := ⟨2, ![1024, 4096]⟩
abbrev S1x10240 : Shape := ⟨2, ![1, 10240]⟩
abbrev S1024x2048 : Shape := ⟨2, ![1024, 2048]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S4096x10240, .f32⟩
  | .hbm, ⟨2, _⟩ => ⟨S10240, .f32⟩
  | .hbm, ⟨3, _⟩ => ⟨S4x256x4096, .bf16⟩
  | .hbm, ⟨4, _⟩ => ⟨S1024x4096, .bf16⟩
  | .hbm, ⟨5, _⟩ => ⟨S4096x10240, .bf16⟩
  | .hbm, ⟨6, _⟩ => ⟨S1x10240, .f32⟩
  | .hbm, ⟨7, _⟩ => ⟨S1024x2048, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceLruCtxIdeal.lean ====
abbrev S4x256x4096 : Shape := ⟨3, ![4, 256, 4096]⟩
abbrev S4096x10240 : Shape := ⟨2, ![4096, 10240]⟩
abbrev S10240 : Shape := ⟨1, ![10240]⟩
abbrev S4096x2048 : Shape := ⟨2, ![4096, 2048]⟩
abbrev S4x256x2048 : Shape := ⟨3, ![4, 256, 2048]⟩
abbrev S2048 : Shape := ⟨1, ![2048]⟩
abbrev S1x1x2048 : Shape := ⟨3, ![1, 1, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x10240, .f32⟩
  | .hbm, ⟨2, _⟩ => ⟨S10240, .f32⟩
  | .hbm, ⟨3, _⟩ => ⟨S4096x2048, .f32⟩
  | .hbm, ⟨4, _⟩ => ⟨S4x256x2048, .f32⟩
  | .hbm, ⟨5, _⟩ => ⟨S2048, .f32⟩
  | .hbm, ⟨6, _⟩ => ⟨S1x1x2048, .f32⟩
  | .hbm, ⟨7, _⟩ => ⟨S4x256x2048, .f32⟩
  | .hbm, ⟨8, _⟩ => ⟨S4x256x2048, .f32⟩
  | .hbm, ⟨9, _⟩ => ⟨S1024x2048, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.RefUp.lean ====
/- The terms that the reference's run leaves in its results, over its argument arrays: the experts' gated products: `silu (xs · w_g) * (xs · w_u)`, rows in expert order. -/
module

public import proofs.«01_k».proof.Proof.Gen.ReferenceIdeal.Run
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The experts' gated products: `silu (xs · w_g) * (xs · w_u)`, rows in expert order. -/
def REF (a0 : FVec Ideal S4x16x512x4096 .f32) (a1 : FVec Ideal S16x4096x2048 .f32) (a2 : FVec Ideal S16x4096x2048 .f32) : FVec Ideal S32768x2048 .bf16 :=
  truncf .bf16 (shapeCast _ (transpose S16x4x512x2048 [1, 0, 2, 3] (mulf (mulf (transpose S4x16x512x2048 [2, 0, 3, 1] (Host.dotGeneral dot_S16x4096x2048_S4x16x512x4096_S16x2048x4x512_1_3_2_02_0_1 none a1 a0) transposes_S16x2048x4x512_S4x16x512x2048_2_0_3_1) (Host.divf (broadcastInDim S4x16x512x2048 ![] bcast_S_S4x16x512x2048 (constant S_ .f32 0x3F800000#32)) (addf (broadcastInDim S4x16x512x2048 ![] bcast_S_S4x16x512x2048 (constant S_ .f32 0x3F800000#32)) (Host.exp (Host.negf (transpose S4x16x512x2048 [2, 0, 3, 1] (Host.dotGeneral dot_S16x4096x2048_S4x16x512x4096_S16x2048x4x512_1_3_2_02_0_1 none a1 a0) transposes_S16x2048x4x512_S4x16x512x2048_2_0_3_1)))))) (transpose S4x16x512x2048 [2, 0, 3, 1] (Host.dotGeneral dot_S16x4096x2048_S4x16x512x4096_S16x2048x4x512_1_3_2_02_0_1 none a2 a0) transposes_S16x2048x4x512_S4x16x512x2048_2_0_3_1)) transposes_S4x16x512x2048_S16x4x512x2048_1_0_2_3) shapeCasts_S16x4x512x2048_S32768x2048) bitsLt_bf16_f32

end Cert.ReferenceIdeal.Value

end
-- ==== Proof.ValUp.lean ====
/- The experts' gated products: the kernel writes the reference's term of its arguments. -/
module

public import proofs.«01_k».proof.Proof.Gen.KernelIdeal.Value
public import proofs.«01_k».proof.Proof.RefUp
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- One expert's product for one slot: row `R` of the result (expert `R / 2048`, sample `R / 512 % 4`, slot `R % 512`) against a column of that
    expert's weights. -/
abbrev dot (x : FVec Ideal S4x16x512x4096 .f32) (w : FVec Ideal S16x4096x2048 .f32) (R : Fin 32768) (C : Fin 2048) : EReal :=
  ∑ k : Fin 4096, x (ix4 ⟨R.val / 512 % 4, by omega⟩ ⟨R.val / 2048, by omega⟩ ⟨R.val % 512, by omega⟩ k) * w (ix3 ⟨R.val / 2048, by omega⟩ k C)

/-- The reference's term, entry by entry. -/
theorem ref (x : FVec Ideal S4x16x512x4096 .f32) (w w' : FVec Ideal S16x4096x2048 .f32) (R : Fin 32768) (C : Fin 2048) :
    REF x w w' (ix2 R C) = dot x w R C * Ideal.div 1 (1 + Ideal.exp (-dot x w R C)) * dot x w' R C := by
  pointwise [REF]
  have h (v : FVec Ideal S16x4096x2048 .f32) : dot x v R C = ∑ k : Fin 4096, v (ix3 ⟨R.val / 2048, by omega⟩ k C)
      * x (ix4 ⟨R.val / 512 % 4, by omega⟩ ⟨R.val / 2048, by omega⟩ ⟨R.val % 512, by omega⟩ k) := Finset.sum_congr rfl fun k _ => mul_comm _ _
  rw [h w, h w']

end Cert.ReferenceIdeal.Value

namespace Cert.KernelIdeal.Point

open Cert.KernelIdeal Cert.KernelIdeal.Gen Idealize.ShloMosaic Idealize.ShloMosaic.TcCoe Idealize.SL.Sem
open Idealize.ShloMosaic.Pipeline (Dat)
open Cert.ReferenceIdeal.Value (REF)

variable (m : (ℓ : Loc nD τ sig) → Buf (Elt Ideal) ℓ)

/-- What the body stores, entry by entry, over the blocks it loads. -/
theorem pay (x : FVec Ideal S1024x4096 .bf16) (w w' : FVec Ideal S1x4096x256 .f32) (r : Fin 1024) (l : Fin 256) :
    k0_pay1 (F := Ideal) x w w' (ix2 r l) = (∑ k : Fin 4096, x (ix2 r k) * w (ix3 0 k l))
      * Ideal.div 1 (1 + Ideal.exp (-∑ k : Fin 4096, x (ix2 r k) * w (ix3 0 k l))) * ∑ k : Fin 4096, x (ix2 r k) * w' (ix3 0 k l) := by
  pointwise [k0_pay1]
  rfl

/-- Where each window's block lies at each point of the grid. -/
theorem idx : ∀ t : Fin cfg0.N, win0_0.index t = ![t.val / 8, 0] ∧ win0_1.index t = ![t.val / 16, 0, t.val % 8]
    ∧ win0_2.index t = ![t.val / 16, 0, t.val % 8] ∧ win0_3.index t = ![t.val / 8, t.val % 8] :=
  (by decide +kernel : ∀ t : Fin grid0.N, _)

/-- The row of the result that row `r` of a point's block is. -/
abbrev row (t : Fin cfg0.N) (r : Fin 1024) : Fin 32768 := ⟨t.val / 8 * 1024 + r.val, by have := t.isLt; change _ < 256 at this; omega⟩

/-- The column of the result that column `l` of a point's block is. -/
abbrev col (t : Fin cfg0.N) (l : Fin 256) : Fin 2048 := ⟨t.val % 8 * 256 + l.val, by omega⟩

/-- The block of the slots' rows. -/
theorem b0 (c : Dev nD) (t : Fin cfg0.N) (r : Fin 1024) (k : Fin 4096) : iblk m c 0 t (ix2 r k)
    = (m ((c : Thread nD τ).loc main_arg0) : FVec Ideal S4x16x512x4096 .f32) (ix4 ⟨(row t r).val / 512 % 4, by omega⟩ ⟨(row t r).val / 2048, by omega⟩ ⟨(row t r).val % 512, by omega⟩ k) := by
  blk_simp [iblk, idx t]
  entry_read
  pointwise
  blk_ext [idx t]

/-- The block of the gate's weights. -/
theorem b1 (c : Dev nD) (t : Fin cfg0.N) (r : Fin 1024) (k : Fin 4096) (l : Fin 256) : iblk m c 1 t (ix3 0 k l)
    = (m ((c : Thread nD τ).loc main_arg1) : FVec Ideal S16x4096x2048 .f32) (ix3 ⟨(row t r).val / 2048, by omega⟩ k (col t l)) := by
  blk_ext [iblk, V, idx t]

/-- The block of the other product's weights. -/
theorem b2 (c : Dev nD) (t : Fin cfg0.N) (r : Fin 1024) (k : Fin 4096) (l : Fin 256) : iblk m c 2 t (ix3 0 k l)
    = (m ((c : Thread nD τ).loc main_arg2) : FVec Ideal S16x4096x2048 .f32) (ix3 ⟨(row t r).val / 2048, by omega⟩ k (col t l)) := by
  blk_ext [iblk, V, idx t]

/-- Where an entry of a point's block lies in the result. -/
theorem emb (t : Fin cfg0.N) (r : Fin 1024) (l : Fin 256) : ((cfg0.win 3).blk t).view.emb (ix2 r l) = ix2 (row t r) (col t l) := by
  blk_ext [idx t]

/-- What a point writes at an entry of its block is the reference's term where that entry lies. -/
theorem point (c : Dev nD) (t : Fin cfg0.N) (r : Fin 1024) (l : Fin 256) : k0_pay1 (iblk m c 0 t) (iblk m c 1 t) (iblk m c 2 t) (ix2 r l)
    = REF (m ((c : Thread nD τ).loc main_arg0) : FVec Ideal S4x16x512x4096 .f32) (m ((c : Thread nD τ).loc main_arg1) : FVec Ideal S16x4096x2048 .f32) (m ((c : Thread nD τ).loc main_arg2) : FVec Ideal S16x4096x2048 .f32) (((cfg0.win 3).blk t).view.emb (ix2 r l)) := by
  rw [emb, Cert.ReferenceIdeal.Value.ref]
  refine (pay _ _ _ r l).trans ?_
  refine congrArg₂ (fun g u : EReal => g * Ideal.div 1 (1 + Ideal.exp (-g)) * u) (Finset.sum_congr rfl fun k _ => ?_) (Finset.sum_congr rfl fun k _ => ?_)
  · exact congrArg₂ (fun a b : EReal => a * b) (b0 m c t r k) (b1 m c t r k l)
  · exact congrArg₂ (fun a b : EReal => a * b) (b0 m c t r k) (b2 m c t r k l)

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, l, rfl⟩ : ∃ r l, y = ix2 r l := ⟨y 0, y 1, eq_ix2 y⟩
  blk_simp
  rw [after0_3]; frame_out
  exact point m c t r l

end Cert.KernelIdeal.Point

end
-- ==== Proof.RefHyena.lean ====
/- The terms that the reference's run leaves in its results, over its argument arrays: the Hyena branches after the short convolution. -/
module

public import proofs.«01_k».proof.Proof.Gen.ReferenceHyenaIdeal.Run
public import Idealize.ShloMosaic.PureOps.Ideal

@[expose] public section

set_option maxRecDepth 16384

noncomputable section

namespace Cert.ReferenceHyenaIdeal.Value

open Cert.ReferenceHyenaIdeal Cert.ReferenceHyenaIdeal.Gen Idealize.ShloMosaic Idealize.ShloMosaic.TcCoe Idealize.SL.Sem Idealize.ShloMosaic.StableHlo

/-- The input projection: `hx · w_in + b_in`. -/
def px (a0 : FVec Ideal S4x4096x4096 .f32) (a1 : FVec Ideal S4096x10240 .f32) (a2 : FVec Ideal S10240 .f32) : FVec Ideal S4x4096x10240 .f32 :=
  addf (Host.dotGeneral dot_S4x4096x4096_S4096x10240_S4x4096x10240_2_0_01_1_n_n none a0 a1) (broadcastInDim S4x4096x10240 ![0, 1, 2] bcast_S1x1x10240_S4x4096x10240_0_1_2 (broadcastInDim S1x1x10240 ![2] bcast_S10240_S1x1x10240_2 a2))

/-- The short convolution along the rows of a grid: three taps and a bias per channel, zero beyond a row's ends. -/
def conv (p : FVec Ideal S4x4096x10240 .f32) (a3 : FVec Ideal S3x6144 .f32) (a4 : FVec Ideal S6144 .f32) : FVec Ideal S256x64x6144 .f32 :=
  addf (addf (addf (broadcastInDim S256x64x6144 ![0, 1, 2] bcast_S1x1x6144_S256x64x6144_0_1_2 (broadcastInDim S1x1x6144 ![2] bcast_S6144_S1x1x6144_2 a4)) (mulf (broadcastInDim S256x64x6144 ![0, 1, 2] bcast_S1x1x6144_S256x64x6144_0_1_2 (broadcastInDim S1x1x6144 ![2] bcast_S6144_S1x1x6144_2 (shapeCast _ (extractStridedSlice S1x6144 ![0, 0] a3 slices_S3x6144_S1x6144_0_0) shapeCasts_S1x6144_S6144))) (extractStridedSlice S256x64x6144 ![0, 0, 0] (pad S256x66x6144 ![0, 1, 0] ![0, 1, 0] ![0, 0, 0] (shapeCast _ (extractStridedSlice S4x4096x6144 ![0, 0, 0] p slices_S4x4096x10240_S4x4096x6144_0_0_0) shapeCasts_S4x4096x6144_S256x64x6144) (sitofp .f32 (constantI S_ 32 0#32)) pads_S256x64x6144_S256x66x6144_000_110_000 h_S_) slices_S256x66x6144_S256x64x6144_0_0_0))) (mulf (broadcastInDim S256x64x6144 ![0, 1, 2] bcast_S1x1x6144_S256x64x6144_0_1_2 (broadcastInDim S1x1x6144 ![2] bcast_S6144_S1x1x6144_2 (shapeCast _ (extractStridedSlice S1x6144 ![1, 0] a3 slices_S3x6144_S1x6144_1_0) shapeCasts_S1x6144_S6144))) (extractStridedSlice S256x64x6144 ![0, 1, 0] (pad S256x66x6144 ![0, 1, 0] ![0, 1, 0] ![0, 0, 0] (shapeCast _ (extractStridedSlice S4x4096x6144 ![0, 0, 0] p slices_S4x4096x10240_S4x4096x6144_0_0_0) shapeCasts_S4x4096x6144_S256x64x6144) (sitofp .f32 (constantI S_ 32 0#32)) pads_S256x64x6144_S256x66x6144_000_110_000 h_S_) slices_S256x66x6144_S256x64x6144_0_1_0))) (mulf (broadcastInDim S256x64x6144 ![0, 1, 2] bcast_S1x1x6144_S256x64x6144_0_1_2 (broadcastInDim S1x1x6144 ![2] bcast_S6144_S1x1x6144_2 (shapeCast _ (extractStridedSlice S1x6144 ![2, 0] a3 slices_S3x6144_S1x6144_2_0) shapeCasts_S1x6144_S6144))) (extractStridedSlice S256x64x6144 ![0, 2, 0] (pad S256x66x6144 ![0, 1, 0] ![0, 1, 0] ![0, 0, 0] (shapeCast _ (extractStridedSlice S4x4096x6144 ![0, 0, 0] p slices_S4x4096x10240_S4x4096x6144_0_0_0) shapeCasts_S4x4096x6144_S256x64x6144) (sitofp .f32 (constantI S_ 32 0#32)) pads_S256x64x6144_S256x66x6144_000_110_000 h_S_) slices_S256x66x6144_S256x64x6144_0_2_0))

/-- The Hyena branches after the short convolution. -/
def REF (a0 : FVec Ideal S4x4096x4096 .f32) (a1 : FVec Ideal S4096x10240 .f32) (a2 : FVec Ideal S10240 .f32) (a3 : FVec Ideal S3x6144 .f32) (a4 : FVec Ideal S6144 .f32) : FVec Ideal S16384x2048 .f32 :=
  shapeCast _ (extractStridedSlice S4x4096x2048 ![0, 0, 0] (shapeCast _ (conv (px a0 a1 a2) a3 a4) shapeCasts_S256x64x6144_S4x4096x6144) slices_S4x4096x6144_S4x4096x2048_0_0_0) shapeCasts_S4x4096x2048_S16384x2048

/-- The Hyena branches after the short convolution (second result). -/
def REF2 (a0 : FVec Ideal S4x4096x4096 .f32) (a1 : FVec Ideal S4096x10240 .f32) (a2 : FVec Ideal S10240 .f32) (a3 : FVec Ideal S3x6144 .f32) (a4 : FVec Ideal S6144 .f32) : FVec Ideal S16384x2048 .f32 :=
  shapeCast _ (mulf (extractStridedSlice S4x4096x2048 ![0, 0, 2048] (shapeCast _ (conv (px a0 a1 a2) a3 a4) shapeCasts_S256x64x6144_S4x4096x6144) slices_S4x4096x6144_S4x4096x2048_0_0_2048) (extractStridedSlice S4x4096x2048 ![0, 0, 4096] (shapeCast _ (conv (px a0 a1 a2) a3 a4) shapeCasts_S256x64x6144_S4x4096x6144) slices_S4x4096x6144_S4x4096x2048_0_0_4096)) shapeCasts_S4x4096x2048_S16384x2048

end Cert.ReferenceHyenaIdeal.Value

end
-- ==== Proof.ValHyena.lean ====
/- The Hyena branches after the short convolution: the kernel writes the reference's terms of its arguments. -/
module

public import proofs.«01_k».proof.Proof.Gen.KernelHyenaIdeal.Value
public import proofs.«01_k».proof.Proof.RefHyena
public import Idealize.ShloMosaic.Lib.Pipeline.ValueKit

@[expose] public section

set_option maxRecDepth 16384

noncomputable section

namespace Cert.ReferenceHyenaIdeal.Value

open Cert.ReferenceHyenaIdeal Cert.ReferenceHyenaIdeal.Gen Idealize.ShloMosaic Idealize.ShloMosaic.TcCoe Idealize.SL.Sem

/-- The input projection at a row and a column: one row of `hx` against one column of the weights, plus the bias. -/
def P (x : FVec Ideal S4x4096x4096 .f32) (w : FVec Ideal S4096x10240 .f32) (b : FVec Ideal S10240 .f32) (R : Fin 16384) (C : Fin 10240) : EReal :=
  (∑ k : Fin 4096, x (ix3 ⟨R.val / 4096, by omega⟩ ⟨R.val % 4096, by omega⟩ k) * w (ix2 k C)) + b (ix1 C)

/-- The short convolution at a row and a channel: the row before and the row after count within the grid's row of 64. -/
def CONV (a0 : FVec Ideal S4x4096x4096 .f32) (a1 : FVec Ideal S4096x10240 .f32) (a2 : FVec Ideal S10240 .f32) (a3 : FVec Ideal S3x6144 .f32) (a4 : FVec Ideal S6144 .f32) (R : Fin 16384) (C : Fin 6144) : EReal :=
  a4 (ix1 C) + a3 (ix2 0 C) * (if h : R.val % 64 = 0 then 0 else P a0 a1 a2 ⟨R.val - 1, by omega⟩ ⟨C.val, by omega⟩)
    + a3 (ix2 1 C) * P a0 a1 a2 R ⟨C.val, by omega⟩
    + a3 (ix2 2 C) * (if h : R.val % 64 = 63 then 0 else P a0 a1 a2 ⟨R.val + 1, by omega⟩ ⟨C.val, by omega⟩)

/-- The projection's term, entry by entry. -/
theorem ref_px (x : FVec Ideal S4x4096x4096 .f32) (w : FVec Ideal S4096x10240 .f32) (b : FVec Ideal S10240 .f32) (e : Fin 4) (p : Fin 4096) (C : Fin 10240)
    (R : Fin 16384) (h : R.val = e.val * 4096 + p.val) : px x w b (ix3 e p C) = P x w b R C := by
  have he : e = ⟨R.val / 4096, by omega⟩ := Fin.ext (by simp only; omega)
  have hp : p = ⟨R.val % 4096, by omega⟩ := Fin.ext (by simp only; omega)
  pointwise [px, P]
  rw [← he, ← hp]

/-- The convolution's term, entry by entry. -/
theorem ref_conv (a0 : FVec Ideal S4x4096x4096 .f32) (a1 : FVec Ideal S4096x10240 .f32) (a2 : FVec Ideal S10240 .f32) (a3 : FVec Ideal S3x6144 .f32) (a4 : FVec Ideal S6144 .f32) (R : Fin 16384) (C : Fin 6144) (i : Fin 256) (j : Fin 64) (hi : i.val = R.val / 64) (hj : j.val = R.val % 64) :
    conv (px a0 a1 a2) a3 a4 (ix3 i j C) = CONV a0 a1 a2 a3 a4 R C := by
  have hz : (FloatOps.sitofp FTy.f32 0#32 : Ideal FTy.f32) = (0 : EReal) := by
    change (((0#32 : BitVec 32).toInt : ℝ) : EReal) = 0
    simp
  pointwise [conv, CONV]
  rw [hz]
  refine congrArg₂ (fun a b : EReal => a + b) (congrArg₂ (fun a b : EReal => a + b) (congrArg (fun a : EReal => a4 (ix1 C) + a3 (ix2 0 C) * a) ?_)
    (congrArg (fun a : EReal => a3 (ix2 1 C) * a) ?_)) (congrArg (fun a : EReal => a3 (ix2 2 C) * a) ?_)
  · by_cases h : R.val % 64 = 0
    · rw [dif_pos h, dif_neg (by omega)]
    · rw [dif_neg h, dif_pos (by omega)]
      exact ref_px _ _ _ _ _ _ _ (by simp only; omega)
  · exact ref_px _ _ _ _ _ _ _ (by simp only; omega)
  · by_cases h : R.val % 64 = 63
    · rw [dif_pos h, dif_neg (by omega)]
    · rw [dif_neg h, dif_pos (by omega)]
      exact ref_px _ _ _ _ _ _ _ (by simp only; omega)

/-- The first result: the first 2048 channels. -/
theorem ref1 (a0 : FVec Ideal S4x4096x4096 .f32) (a1 : FVec Ideal S4096x10240 .f32) (a2 : FVec Ideal S10240 .f32) (a3 : FVec Ideal S3x6144 .f32) (a4 : FVec Ideal S6144 .f32) (R : Fin 16384) (C : Fin 2048) :
    REF a0 a1 a2 a3 a4 (ix2 R C) = CONV a0 a1 a2 a3 a4 R ⟨C.val, by omega⟩ := by
  pointwise [REF]
  exact ref_conv a0 a1 a2 a3 a4 R _ _ _ (by simp only; omega) (by simp only; omega)

/-- The second result: the product of the two other thirds of the channels. -/
theorem ref2 (a0 : FVec Ideal S4x4096x4096 .f32) (a1 : FVec Ideal S4096x10240 .f32) (a2 : FVec Ideal S10240 .f32) (a3 : FVec Ideal S3x6144 .f32) (a4 : FVec Ideal S6144 .f32) (R : Fin 16384) (C : Fin 2048) :
    REF2 a0 a1 a2 a3 a4 (ix2 R C) = CONV a0 a1 a2 a3 a4 R ⟨2048 + C.val, by omega⟩ * CONV a0 a1 a2 a3 a4 R ⟨4096 + C.val, by omega⟩ := by
  pointwise [REF2]
  exact congrArg₂ (fun a b : EReal => a * b) (ref_conv a0 a1 a2 a3 a4 R _ _ _ (by simp only; omega) (by simp only; omega))
    (ref_conv a0 a1 a2 a3 a4 R _ _ _ (by simp only; omega) (by simp only; omega))

end Cert.ReferenceHyenaIdeal.Value

namespace Cert.KernelHyenaIdeal.Point

open Cert.KernelHyenaIdeal Cert.KernelHyenaIdeal.Gen Idealize.ShloMosaic Idealize.ShloMosaic.TcCoe Idealize.SL.Sem
open Idealize.ShloMosaic.Pipeline (Dat)
open Cert.ReferenceHyenaIdeal.Value (REF)

variable (m : (ℓ : Loc nD τ sig) → Buf (Elt Ideal) ℓ)

open Cert.ReferenceHyenaIdeal.Value (REF2 P CONV)

/-- The projection over a point's blocks: column `l`, row by row. -/
def proj (x : FVec Ideal S1024x4096 .bf16) (w : FVec Ideal S4096x256 .bf16) (b : FVec Ideal S1x256 .f32) (l : Fin 256) (r : Fin 1024) : EReal :=
  (∑ k : Fin 4096, x (ix2 r k) * w (ix2 k l)) + b (ix2 0 l)

/-- The three taps over a point's rows `q`: the row before and the row after are masked at the ends of a grid's row. -/
def taps (q : Fin 1024 → EReal) (bias wm wp wn : EReal) (r : Fin 1024) : EReal :=
  bias + wm * q r + (if r.val % 64 = 0 then 0 else wp * q ⟨(r.val + 1024 - 1) % 1024, by omega⟩)
    + (if r.val % 64 = 63 then 0 else wn * q ⟨(r.val + 1024 - 1023) % 1024, by omega⟩)

/-- The mask of the row before. -/
theorem maskp : ∀ r : Fin 1024, IntOp.andi (IntOp.cmpi CmpIPredicate.sge (IntOp.addi (IntOp.andi (BitVec.ofNat 32 r.val) 63#32) 4294967295#32) 0#32)
    (IntOp.cmpi CmpIPredicate.slt (IntOp.addi (IntOp.andi (BitVec.ofNat 32 r.val) 63#32) 4294967295#32) 64#32) = if r.val % 64 = 0 then 0#1 else 1#1 := by
  decide +kernel

/-- The mask of the row after. -/
theorem maskn : ∀ r : Fin 1024, IntOp.andi (IntOp.cmpi CmpIPredicate.sge (IntOp.addi (IntOp.andi (BitVec.ofNat 32 r.val) 63#32) 1#32) 0#32)
    (IntOp.cmpi CmpIPredicate.slt (IntOp.addi (IntOp.andi (BitVec.ofNat 32 r.val) 63#32) 1#32) 64#32) = if r.val % 64 = 63 then 0#1 else 1#1 := by
  decide +kernel

/-- A selection by a decided bit. -/
theorem sel (p : Prop) [Decidable p] (a b : EReal) : Scalar.select (if p then 0#1 else 1#1) a b = if p then b else a := by
  by_cases h : p
  · rw [if_pos h, if_pos h]; rfl
  · rw [if_neg h, if_neg h]; rfl

/-- The first branch's stored value, entry by entry, over the vectors the body loads. -/
theorem pay1 (x : FVec Ideal S1024x4096 .bf16) (w : FVec Ideal S4096x256 .bf16) (b bias wm wp wn : FVec Ideal S1x256 .f32) (r : Fin 1024) (l : Fin 256) :
    k0_pay6 (F := Ideal) (k0_pay3 x w b) k0_pay4 (k0_pay5 x w b bias wm wp) 1023#32 wn (ix2 r l)
    = taps (proj x w b l) (bias (ix2 0 l)) (wm (ix2 0 l)) (wp (ix2 0 l)) (wn (ix2 0 l)) r := by
  have hq (r : Fin 1024) : k0_pay3 (F := Ideal) x w b (ix2 r l) = proj x w b l r := by
    pointwise [k0_pay3, k0_pay2, proj]
  pointwise [k0_pay6, k0_pay5, k0_pay4, taps]
  rw [hq, hq, hq, maskp, maskn, sel, sel]

/-- The second branch's value after its convolution. -/
theorem pay2 (x : FVec Ideal S1024x4096 .bf16) (w : FVec Ideal S4096x256 .bf16) (b bias wm wp wn : FVec Ideal S1x256 .f32) (r : Fin 1024) (l : Fin 256) :
    k0_pay12 (F := Ideal) (k0_pay7 x w b) k0_pay8 (k0_pay9 x w b bias wm) (k0_pay10 x w b) k0_pay11 wp wn (ix2 r l)
    = taps (proj x w b l) (bias (ix2 0 l)) (wm (ix2 0 l)) (wp (ix2 0 l)) (wn (ix2 0 l)) r := by
  have hq (r : Fin 1024) : k0_pay7 (F := Ideal) x w b (ix2 r l) = proj x w b l r := by
    pointwise [k0_pay7, proj]
  pointwise [k0_pay12, k0_pay8, k0_pay9, k0_pay10, k0_pay11, taps]
  rw [hq, hq, hq, maskp, maskn, sel, sel]

/-- The product of the second and the third branch, the third's convolution opened. -/
theorem pay3 (u q : FVec Ideal S1024x256 .f32) (bias wm wp wn : FVec Ideal S1x256 .f32) (r : Fin 1024) (l : Fin 256) :
    k0_pay1 (F := Ideal) u (k0_pay15 q bias wm wp) (k0_pay16 q) k0_pay17 wn (FloatOps.ofBits FTy.f32 0#32) (ix2 r l)
    = u (ix2 r l) * taps (fun r => q (ix2 r l)) (bias (ix2 0 l)) (wm (ix2 0 l)) (wp (ix2 0 l)) (wn (ix2 0 l)) r := by
  pointwise [k0_pay1, k0_pay15, k0_pay16, k0_pay17, k0_pay14, taps]
  rw [maskp, maskn, sel, sel]

/-- The third branch's projection. -/
theorem pay4 (x : FVec Ideal S1024x4096 .bf16) (w : FVec Ideal S4096x256 .bf16) (b : FVec Ideal S1x256 .f32) (r : Fin 1024) (l : Fin 256) :
    k0_pay13 (F := Ideal) x w b (ix2 r l) = proj x w b l r := by
  pointwise [k0_pay13, proj]

/-- Where each window's block lies at each point of the grid. -/
theorem idx : ∀ t : Fin cfg0.N, win0_0.index t = ![t.val / 8, 0] ∧ win0_1.index t = ![0, t.val % 8]
    ∧ win0_2.index t = ![0, t.val % 8 + 8] ∧ win0_3.index t = ![0, t.val % 8 + 16] ∧ win0_4.index t = ![0, t.val % 8]
    ∧ win0_5.index t = ![0, t.val % 8 + 8] ∧ win0_6.index t = ![0, t.val % 8 + 16] ∧ win0_7.index t = ![0, t.val % 8]
    ∧ win0_8.index t = ![0, t.val % 8 + 8] ∧ win0_9.index t = ![0, t.val % 8 + 16] ∧ win0_10.index t = ![0, t.val % 8]
    ∧ win0_11.index t = ![0, t.val % 8 + 8] ∧ win0_12.index t = ![0, t.val % 8 + 16] ∧ win0_13.index t = ![t.val / 8, t.val % 8]
    ∧ win0_14.index t = ![t.val / 8, t.val % 8] :=
  (by decide +kernel : ∀ t : Fin grid0.N, _)

/-- The row of the result that row `r` of a point's block is. -/
abbrev row (t : Fin cfg0.N) (r : Fin 1024) : Fin 16384 := ⟨t.val / 8 * 1024 + r.val, by have := t.isLt; change _ < 128 at this; omega⟩

/-- The column of the result that column `l` of a point's block is. -/
abbrev col (t : Fin cfg0.N) (l : Fin 256) : Fin 2048 := ⟨t.val % 8 * 256 + l.val, by omega⟩

/-- The taps within a point are the convolution at the rows where they lie: a row that the mask keeps never wraps round the block. -/
theorem taps_eq (a0 : FVec Ideal Cert.ReferenceHyenaIdeal.S4x4096x4096 .f32) (a1 : FVec Ideal Cert.ReferenceHyenaIdeal.S4096x10240 .f32) (a2 : FVec Ideal Cert.ReferenceHyenaIdeal.S10240 .f32) (a3 : FVec Ideal Cert.ReferenceHyenaIdeal.S3x6144 .f32) (a4 : FVec Ideal Cert.ReferenceHyenaIdeal.S6144 .f32) (t : Fin cfg0.N) (C : Fin 6144) (q : Fin 1024 → EReal)
    (hq : ∀ r, q r = P a0 a1 a2 (row t r) ⟨C.val, by omega⟩) (r : Fin 1024) :
    taps q (a4 (ix1 C)) (a3 (ix2 1 C)) (a3 (ix2 0 C)) (a3 (ix2 2 C)) r = CONV a0 a1 a2 a3 a4 (row t r) C := by
  have ht := t.isLt
  change _ < 128 at ht
  unfold taps CONV
  rw [hq r, add_right_comm (a4 (ix1 C))]
  refine congrArg₂ (fun a b : EReal => a + b) (congrArg (fun a : EReal => a4 (ix1 C) + a + a3 (ix2 1 C) * P a0 a1 a2 (row t r) ⟨C.val, by omega⟩) ?_) ?_
  · by_cases h : r.val % 64 = 0
    · rw [if_pos h, dif_pos (by simp only; omega), mul_zero]
    · rw [if_neg h, dif_neg (by simp only; omega), hq]
      refine congrArg (fun R => a3 (ix2 0 C) * P a0 a1 a2 R ⟨C.val, by omega⟩) (Fin.ext ?_)
      simp only
      omega
  · by_cases h : r.val % 64 = 63
    · rw [if_pos h, dif_pos (by simp only; omega), mul_zero]
    · rw [if_neg h, dif_neg (by simp only; omega), hq]
      refine congrArg (fun R => a3 (ix2 2 C) * P a0 a1 a2 R ⟨C.val, by omega⟩) (Fin.ext ?_)
      simp only
      omega

/-- The block of `hx`. -/
theorem b0 (c : Dev nD) (t : Fin cfg0.N) (r : Fin 1024) (k : Fin 4096) : iblk m c 0 t (ix2 r k)
    = (m ((c : Thread nD τ).loc main_arg0) : FVec Ideal S4x4096x4096 .f32) (ix3 ⟨(row t r).val / 4096, by omega⟩ ⟨(row t r).val % 4096, by omega⟩ k) := by
  blk_simp [iblk, idx t]
  entry_read
  pointwise
  blk_ext [idx t]

/-- The block of the weights of the first branch. -/
theorem b1 (c : Dev nD) (t : Fin cfg0.N) (k : Fin 4096) (l : Fin 256) : iblk m c 1 t (ix2 k l)
    = (m ((c : Thread nD τ).loc main_arg1) : FVec Ideal S4096x10240 .f32) (ix2 k ⟨(col t l).val, by omega⟩) := by
  blk_simp [iblk, idx t]
  entry_read
  pointwise
  blk_ext [idx t]

/-- The block of the projection's bias of the first branch. -/
theorem b4 (c : Dev nD) (t : Fin cfg0.N) (l : Fin 256) : iblk m c 4 t (ix2 0 l)
    = (m ((c : Thread nD τ).loc main_arg2) : FVec Ideal S10240 .f32) (ix1 ⟨(col t l).val, by omega⟩) := by
  blk_simp [iblk, idx t]
  entry_read
  pointwise
  blk_ext [idx t]

/-- The block of the taps of the first branch. -/
theorem b7 (c : Dev nD) (t : Fin cfg0.N) (j : Fin 3) (l : Fin 256) : iblk m c 7 t (ix2 j l)
    = (m ((c : Thread nD τ).loc main_arg3) : FVec Ideal S3x6144 .f32) (ix2 j ⟨(col t l).val, by omega⟩) := by
  blk_ext [iblk, V, idx t]

/-- The block of the convolution's bias of the first branch. -/
theorem b10 (c : Dev nD) (t : Fin cfg0.N) (l : Fin 256) : iblk m c 10 t (ix2 0 l)
    = (m ((c : Thread nD τ).loc main_arg4) : FVec Ideal S6144 .f32) (ix1 ⟨(col t l).val, by omega⟩) := by
  blk_simp [iblk, idx t]
  entry_read
  pointwise
  blk_ext [idx t]

/-- The first branch's projection within a point, row by row. -/
theorem q0 (c : Dev nD) (t : Fin cfg0.N) (r : Fin 1024) (l : Fin 256) :
    proj (iblk m c 0 t) (iblk m c 1 t) (iblk m c 4 t) l r = P (m ((c : Thread nD τ).loc main_arg0) : FVec Ideal S4x4096x4096 .f32) (m ((c : Thread nD τ).loc main_arg1) : FVec Ideal S4096x10240 .f32) (m ((c : Thread nD τ).loc main_arg2) : FVec Ideal S10240 .f32) (row t r) ⟨(col t l).val, by omega⟩ :=
  congrArg₂ (fun a b : EReal => a + b) (Finset.sum_congr rfl fun k _ => congrArg₂ (fun a b : EReal => a * b) (b0 m c t r k) (b1 m c t k l)) (b4 m c t l)

/-- The first branch after its convolution within a point. -/
theorem c0 (c : Dev nD) (t : Fin cfg0.N) (r : Fin 1024) (l : Fin 256) :
    taps (proj (iblk m c 0 t) (iblk m c 1 t) (iblk m c 4 t) l) ((iblk m c 10 t : FVec Ideal S1x256 .f32) (ix2 0 l))
      ((iblk m c 7 t : FVec Ideal S3x256 .f32) (ix2 1 l)) ((iblk m c 7 t : FVec Ideal S3x256 .f32) (ix2 0 l))
      ((iblk m c 7 t : FVec Ideal S3x256 .f32) (ix2 2 l)) r = CONV (m ((c : Thread nD τ).loc main_arg0) : FVec Ideal S4x4096x4096 .f32) (m ((c : Thread nD τ).loc main_arg1) : FVec Ideal S4096x10240 .f32) (m ((c : Thread nD τ).loc main_arg2) : FVec Ideal S10240 .f32) (m ((c : Thread nD τ).loc main_arg3) : FVec Ideal S3x6144 .f32) (m ((c : Thread nD τ).loc main_arg4) : FVec Ideal S6144 .f32) (row t r) ⟨(col t l).val, by omega⟩ := by
  rw [show ((iblk m c 10 t : FVec Ideal S1x256 .f32) (ix2 0 l)) = _ from b10 m c t l,
    show ((iblk m c 7 t : FVec Ideal S3x256 .f32) (ix2 1 l)) = _ from b7 m c t 1 l,
    show ((iblk m c 7 t : FVec Ideal S3x256 .f32) (ix2 0 l)) = _ from b7 m c t 0 l,
    show ((iblk m c 7 t : FVec Ideal S3x256 .f32) (ix2 2 l)) = _ from b7 m c t 2 l]
  exact taps_eq _ _ _ _ _ t _ _ (fun r => q0 m c t r l) r

/-- The block of the weights of the second branch. -/
theorem b2 (c : Dev nD) (t : Fin cfg0.N) (k : Fin 4096) (l : Fin 256) : iblk m c 2 t (ix2 k l)
    = (m ((c : Thread nD τ).loc main_arg1) : FVec Ideal S4096x10240 .f32) (ix2 k ⟨2048 + (col t l).val, by omega⟩) := by
  blk_simp [iblk, idx t]
  entry_read
  pointwise
  blk_ext [idx t]

/-- The block of the projection's bias of the second branch. -/
theorem b5 (c : Dev nD) (t : Fin cfg0.N) (l : Fin 256) : iblk m c 5 t (ix2 0 l)
    = (m ((c : Thread nD τ).loc main_arg2) : FVec Ideal S10240 .f32) (ix1 ⟨2048 + (col t l).val, by omega⟩) := by
  blk_simp [iblk, idx t]
  entry_read
  pointwise
  blk_ext [idx t]

/-- The block of the taps of the second branch. -/
theorem b8 (c : Dev nD) (t : Fin cfg0.N) (j : Fin 3) (l : Fin 256) : iblk m c 8 t (ix2 j l)
    = (m ((c : Thread nD τ).loc main_arg3) : FVec Ideal S3x6144 .f32) (ix2 j ⟨2048 + (col t l).val, by omega⟩) := by
  blk_ext [iblk, V, idx t]

/-- The block of the convolution's bias of the second branch. -/
theorem b11 (c : Dev nD) (t : Fin cfg0.N) (l : Fin 256) : iblk m c 11 t (ix2 0 l)
    = (m ((c : Thread nD τ).loc main_arg4) : FVec Ideal S6144 .f32) (ix1 ⟨2048 + (col t l).val, by omega⟩) := by
  blk_simp [iblk, idx t]
  entry_read
  pointwise
  blk_ext [idx t]

/-- The second branch's projection within a point, row by row. -/
theorem q1 (c : Dev nD) (t : Fin cfg0.N) (r : Fin 1024) (l : Fin 256) :
    proj (iblk m c 0 t) (iblk m c 2 t) (iblk m c 5 t) l r = P (m ((c : Thread nD τ).loc main_arg0) : FVec Ideal S4x4096x4096 .f32) (m ((c : Thread nD τ).loc main_arg1) : FVec Ideal S4096x10240 .f32) (m ((c : Thread nD τ).loc main_arg2) : FVec Ideal S10240 .f32) (row t r) ⟨2048 + (col t l).val, by omega⟩ :=
  congrArg₂ (fun a b : EReal => a + b) (Finset.sum_congr rfl fun k _ => congrArg₂ (fun a b : EReal => a * b) (b0 m c t r k) (b2 m c t k l)) (b5 m c t l)

/-- The second branch after its convolution within a point. -/
theorem c1 (c : Dev nD) (t : Fin cfg0.N) (r : Fin 1024) (l : Fin 256) :
    taps (proj (iblk m c 0 t) (iblk m c 2 t) (iblk m c 5 t) l) ((iblk m c 11 t : FVec Ideal S1x256 .f32) (ix2 0 l))
      ((iblk m c 8 t : FVec Ideal S3x256 .f32) (ix2 1 l)) ((iblk m c 8 t : FVec Ideal S3x256 .f32) (ix2 0 l))
      ((iblk m c 8 t : FVec Ideal S3x256 .f32) (ix2 2 l)) r = CONV (m ((c : Thread nD τ).loc main_arg0) : FVec Ideal S4x4096x4096 .f32) (m ((c : Thread nD τ).loc main_arg1) : FVec Ideal S4096x10240 .f32) (m ((c : Thread nD τ).loc main_arg2) : FVec Ideal S10240 .f32) (m ((c : Thread nD τ).loc main_arg3) : FVec Ideal S3x6144 .f32) (m ((c : Thread nD τ).loc main_arg4) : FVec Ideal S6144 .f32) (row t r) ⟨2048 + (col t l).val, by omega⟩ := by
  rw [show ((iblk m c 11 t : FVec Ideal S1x256 .f32) (ix2 0 l)) = _ from b11 m c t l,
    show ((iblk m c 8 t : FVec Ideal S3x256 .f32) (ix2 1 l)) = _ from b8 m c t 1 l,
    show ((iblk m c 8 t : FVec Ideal S3x256 .f32) (ix2 0 l)) = _ from b8 m c t 0 l,
    show ((iblk m c 8 t : FVec Ideal S3x256 .f32) (ix2 2 l)) = _ from b8 m c t 2 l]
  exact taps_eq _ _ _ _ _ t _ _ (fun r => q1 m c t r l) r

/-- The block of the weights of the third branch. -/
theorem b3 (c : Dev nD) (t : Fin cfg0.N) (k : Fin 4096) (l : Fin 256) : iblk m c 3 t (ix2 k l)
    = (m ((c : Thread nD τ).loc main_arg1) : FVec Ideal S4096x10240 .f32) (ix2 k ⟨4096 + (col t l).val, by omega⟩) := by
  blk_simp [iblk, idx t]
  entry_read
  pointwise
  blk_ext [idx t]

/-- The block of the projection's bias of the third branch. -/
theorem b6 (c : Dev nD) (t : Fin cfg0.N) (l : Fin 256) : iblk m c 6 t (ix2 0 l)
    = (m ((c : Thread nD τ).loc main_arg2) : FVec Ideal S10240 .f32) (ix1 ⟨4096 + (col t l).val, by omega⟩) := by
  blk_simp [iblk, idx t]
  entry_read
  pointwise
  blk_ext [idx t]

/-- The block of the taps of the third branch. -/
theorem b9 (c : Dev nD) (t : Fin cfg0.N) (j : Fin 3) (l : Fin 256) : iblk m c 9 t (ix2 j l)
    = (m ((c : Thread nD τ).loc main_arg3) : FVec Ideal S3x6144 .f32) (ix2 j ⟨4096 + (col t l).val, by omega⟩) := by
  blk_ext [iblk, V, idx t]

/-- The block of the convolution's bias of the third branch. -/
theorem b12 (c : Dev nD) (t : Fin cfg0.N) (l : Fin 256) : iblk m c 12 t (ix2 0 l)
    = (m ((c : Thread nD τ).loc main_arg4) : FVec Ideal S6144 .f32) (ix1 ⟨4096 + (col t l).val, by omega⟩) := by
  blk_simp [iblk, idx t]
  entry_read
  pointwise
  blk_ext [idx t]

/-- The third branch's projection within a point, row by row. -/
theorem q2 (c : Dev nD) (t : Fin cfg0.N) (r : Fin 1024) (l : Fin 256) :
    proj (iblk m c 0 t) (iblk m c 3 t) (iblk m c 6 t) l r = P (m ((c : Thread nD τ).loc main_arg0) : FVec Ideal S4x4096x4096 .f32) (m ((c : Thread nD τ).loc main_arg1) : FVec Ideal S4096x10240 .f32) (m ((c : Thread nD τ).loc main_arg2) : FVec Ideal S10240 .f32) (row t r) ⟨4096 + (col t l).val, by omega⟩ :=
  congrArg₂ (fun a b : EReal => a + b) (Finset.sum_congr rfl fun k _ => congrArg₂ (fun a b : EReal => a * b) (b0 m c t r k) (b3 m c t k l)) (b6 m c t l)

/-- The third branch after its convolution within a point. -/
theorem c2 (c : Dev nD) (t : Fin cfg0.N) (r : Fin 1024) (l : Fin 256) :
    taps (proj (iblk m c 0 t) (iblk m c 3 t) (iblk m c 6 t) l) ((iblk m c 12 t : FVec Ideal S1x256 .f32) (ix2 0 l))
      ((iblk m c 9 t : FVec Ideal S3x256 .f32) (ix2 1 l)) ((iblk m c 9 t : FVec Ideal S3x256 .f32) (ix2 0 l))
      ((iblk m c 9 t : FVec Ideal S3x256 .f32) (ix2 2 l)) r = CONV (m ((c : Thread nD τ).loc main_arg0) : FVec Ideal S4x4096x4096 .f32) (m ((c : Thread nD τ).loc main_arg1) : FVec Ideal S4096x10240 .f32) (m ((c : Thread nD τ).loc main_arg2) : FVec Ideal S10240 .f32) (m ((c : Thread nD τ).loc main_arg3) : FVec Ideal S3x6144 .f32) (m ((c : Thread nD τ).loc main_arg4) : FVec Ideal S6144 .f32) (row t r) ⟨4096 + (col t l).val, by omega⟩ := by
  rw [show ((iblk m c 12 t : FVec Ideal S1x256 .f32) (ix2 0 l)) = _ from b12 m c t l,
    show ((iblk m c 9 t : FVec Ideal S3x256 .f32) (ix2 1 l)) = _ from b9 m c t 1 l,
    show ((iblk m c 9 t : FVec Ideal S3x256 .f32) (ix2 0 l)) = _ from b9 m c t 0 l,
    show ((iblk m c 9 t : FVec Ideal S3x256 .f32) (ix2 2 l)) = _ from b9 m c t 2 l]
  exact taps_eq _ _ _ _ _ t _ _ (fun r => q2 m c t r l) r

/-- Where an entry of a point's block lies in the first result. -/
theorem emb13 (t : Fin cfg0.N) (r : Fin 1024) (l : Fin 256) : ((cfg0.win 13).blk t).view.emb (ix2 r l) = ix2 (row t r) (col t l) := by
  blk_ext [idx t]

/-- Where an entry of a point's block lies in the second result. -/
theorem emb14 (t : Fin cfg0.N) (r : Fin 1024) (l : Fin 256) : ((cfg0.win 14).blk t).view.emb (ix2 r l) = ix2 (row t r) (col t l) := by
  blk_ext [idx t]

/-- The first result array after the run is the reference's term of the arguments. -/
theorem final13 (c : Dev nD) : (dats m 0 c).arrAt 13 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 13 _ (by decide +kernel) fun t _ y => ?_
  obtain ⟨r, l, rfl⟩ : ∃ r l, y = ix2 r l := ⟨y 0, y 1, eq_ix2 y⟩
  blk_simp
  rw [after0_13]; frame_out
  refine (pay1 _ _ _ _ _ _ _ r l).trans (.trans ?_ ((c0 m c t r l).trans ?_))
  · pointwise
  · exact ((congrArg _ (emb13 t r l)).trans (Cert.ReferenceHyenaIdeal.Value.ref1 _ _ _ _ _ _ _)).symm

/-- The second result array after the run is the reference's term of the arguments. -/
theorem final14 (c : Dev nD) : (dats m 0 c).arrAt 14 (cfgs 0).N
    = REF2 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 14 _ (by decide +kernel) fun t _ y => ?_
  obtain ⟨r, l, rfl⟩ : ∃ r l, y = ix2 r l := ⟨y 0, y 1, eq_ix2 y⟩
  blk_simp
  rw [after0_14]; frame_out
  refine (pay3 _ _ _ _ _ _ r l).trans (.trans ?_ ((congrArg₂ (fun a b : EReal => a * b) (c1 m c t r l) (c2 m c t r l)).trans ?_))
  · refine congrArg₂ (fun a b : EReal => a * b) ((pay2 _ _ _ _ _ _ _ r l).trans ?_) ?_
    · pointwise [k0_pay18, k0_pay2]
      refine congrArg (fun q : Fin 1024 → EReal => taps q _ _ _ _ r) (funext fun r' => ?_)
      pointwise [proj]
    · pointwise [k0_pay19, k0_pay18, k0_pay13, k0_pay2]
      rfl
  · exact ((congrArg _ (emb14 t r l)).trans (Cert.ReferenceHyenaIdeal.Value.ref2 _ _ _ _ _ _ _)).symm

end Cert.KernelHyenaIdeal.Point

end
-- ==== Proof.RefLru.lean ====
/- The terms that the reference's run leaves in its results, over its argument arrays: the RG-LRU columns of the input projection. -/
module

public import proofs.«01_k».proof.Proof.Gen.ReferenceLruIdeal.Run
public import Idealize.ShloMosaic.PureOps.Ideal

@[expose] public section

set_option maxRecDepth 16384

noncomputable section

namespace Cert.ReferenceLruIdeal.Value

open Cert.ReferenceLruIdeal Cert.ReferenceLruIdeal.Gen Idealize.ShloMosaic Idealize.ShloMosaic.TcCoe Idealize.SL.Sem Idealize.ShloMosaic.StableHlo

/-- The RG-LRU columns of the input projection. -/
def REF (a0 : FVec Ideal S4x4096x4096 .f32) (a1 : FVec Ideal S4096x10240 .f32) (a2 : FVec Ideal S10240 .f32) : FVec Ideal S16384x4096 .f32 :=
  shapeCast _ (extractStridedSlice S4x4096x4096 ![0, 0, 6144] (addf (Host.dotGeneral dot_S4x4096x4096_S4096x10240_S4x4096x10240_2_0_01_1_n_n none a0 a1) (broadcastInDim S4x4096x10240 ![0, 1, 2] bcast_S1x1x10240_S4x4096x10240_0_1_2 (broadcastInDim S1x1x10240 ![2] bcast_S10240_S1x1x10240_2 a2))) slices_S4x4096x10240_S4x4096x4096_0_0_6144) shapeCasts_S4x4096x4096_S16384x4096

end Cert.ReferenceLruIdeal.Value

end
-- ==== Proof.ValLru.lean ====
/- The RG-LRU columns of the input projection: the kernel writes the reference's term of its arguments. -/
module

public import proofs.«01_k».proof.Proof.Gen.KernelLruIdeal.Value
public import proofs.«01_k».proof.Proof.RefLru
public import Idealize.ShloMosaic.Lib.Pipeline.ValueKit

@[expose] public section

set_option maxRecDepth 16384

noncomputable section

namespace Cert.ReferenceLruIdeal.Value

open Cert.ReferenceLruIdeal Cert.ReferenceLruIdeal.Gen Idealize.ShloMosaic Idealize.ShloMosaic.TcCoe Idealize.SL.Sem

/-- The reference's term, entry by entry: one row of `hx` against one column of the weights, plus the bias. -/
theorem ref (x : FVec Ideal S4x4096x4096 .f32) (w : FVec Ideal S4096x10240 .f32) (b : FVec Ideal S10240 .f32) (R : Fin 16384) (C : Fin 4096) :
    REF x w b (ix2 R C) = (∑ k : Fin 4096, x (ix3 ⟨R.val / 4096, by omega⟩ ⟨R.val % 4096, by omega⟩ k)
      * w (ix2 k ⟨6144 + C.val, by omega⟩)) + b (ix1 ⟨6144 + C.val, by omega⟩) := by
  pointwise [REF]

end Cert.ReferenceLruIdeal.Value

namespace Cert.KernelLruIdeal.Point

open Cert.KernelLruIdeal Cert.KernelLruIdeal.Gen Idealize.ShloMosaic Idealize.ShloMosaic.TcCoe Idealize.SL.Sem
open Idealize.ShloMosaic.Pipeline (Dat)
open Cert.ReferenceLruIdeal.Value (REF)

variable (m : (ℓ : Loc nD τ sig) → Buf (Elt Ideal) ℓ)

/-- What the body stores, entry by entry, over the blocks it loads. -/
theorem pay (x : FVec Ideal S1024x4096 .bf16) (w : FVec Ideal S4096x512 .bf16) (b : FVec Ideal S1x512 .f32) (r : Fin 1024) (l : Fin 512) :
    k0_pay1 (F := Ideal) x w b (ix2 r l) = (∑ k : Fin 4096, x (ix2 r k) * w (ix2 k l)) + b (ix2 0 l) := by
  pointwise [k0_pay1]

/-- Where each window's block lies at each point of the grid. -/
theorem idx : ∀ t : Fin cfg0.N, win0_0.index t = ![t.val / 8, 0] ∧ win0_1.index t = ![0, t.val % 8 + 12]
    ∧ win0_2.index t = ![0, t.val % 8 + 12] ∧ win0_3.index t = ![t.val / 8, t.val % 8] :=
  (by decide +kernel : ∀ t : Fin grid0.N, _)

/-- The row of the result that row `r` of a point's block is. -/
abbrev row (t : Fin cfg0.N) (r : Fin 1024) : Fin 16384 := ⟨t.val / 8 * 1024 + r.val, by have := t.isLt; change _ < 128 at this; omega⟩

/-- The column of the result that column `l` of a point's block is. -/
abbrev col (t : Fin cfg0.N) (l : Fin 512) : Fin 4096 := ⟨t.val % 8 * 512 + l.val, by omega⟩

/-- The block of `hx`. -/
theorem b0 (c : Dev nD) (t : Fin cfg0.N) (r : Fin 1024) (k : Fin 4096) : iblk m c 0 t (ix2 r k)
    = (m ((c : Thread nD τ).loc main_arg0) : FVec Ideal S4x4096x4096 .f32) (ix3 ⟨(row t r).val / 4096, by omega⟩ ⟨(row t r).val % 4096, by omega⟩ k) := by
  blk_simp [iblk, idx t]
  entry_read
  pointwise
  blk_ext [idx t]

/-- The block of the weights. -/
theorem b1 (c : Dev nD) (t : Fin cfg0.N) (k : Fin 4096) (l : Fin 512) : iblk m c 1 t (ix2 k l)
    = (m ((c : Thread nD τ).loc main_arg1) : FVec Ideal S4096x10240 .f32) (ix2 k ⟨6144 + (col t l).val, by omega⟩) := by
  blk_simp [iblk, idx t]
  entry_read
  pointwise
  blk_ext [idx t]

/-- The block of the bias. -/
theorem b2 (c : Dev nD) (t : Fin cfg0.N) (l : Fin 512) : iblk m c 2 t (ix2 0 l)
    = (m ((c : Thread nD τ).loc main_arg2) : FVec Ideal S10240 .f32) (ix1 ⟨6144 + (col t l).val, by omega⟩) := by
  blk_simp [iblk, idx t]
  entry_read
  pointwise
  blk_ext [idx t]

/-- Where an entry of a point's block lies in the result. -/
theorem emb (t : Fin cfg0.N) (r : Fin 1024) (l : Fin 512) : ((cfg0.win 3).blk t).view.emb (ix2 r l) = ix2 (row t r) (col t l) := by
  blk_ext [idx t]

/-- What a point writes at an entry of its block is the reference's term where that entry lies. -/
theorem point (c : Dev nD) (t : Fin cfg0.N) (r : Fin 1024) (l : Fin 512) : k0_pay1 (iblk m c 0 t) (iblk m c 1 t) (iblk m c 2 t) (ix2 r l)
    = REF (m ((c : Thread nD τ).loc main_arg0) : FVec Ideal S4x4096x4096 .f32) (m ((c : Thread nD τ).loc main_arg1) : FVec Ideal S4096x10240 .f32) (m ((c : Thread nD τ).loc main_arg2) : FVec Ideal S10240 .f32) (((cfg0.win 3).blk t).view.emb (ix2 r l)) := by
  rw [emb, Cert.ReferenceLruIdeal.Value.ref]
  refine (pay _ _ _ r l).trans ?_
  refine congrArg₂ (· + ·) (Finset.sum_congr rfl fun k _ => ?_) (b2 m c t l)
  exact congrArg₂ (fun a b : EReal => a * b) (b0 m c t r k) (b1 m c t k l)

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, l, rfl⟩ : ∃ r l, y = ix2 r l := ⟨y 0, y 1, eq_ix2 y⟩
  blk_simp
  rw [after0_3]; frame_out
  exact point m c t r l

end Cert.KernelLruIdeal.Point

end
-- ==== Proof.RefOut.lean ====
/- The terms that the reference's run leaves in its results, over its argument arrays: the output projection with its gated residual. -/
module

public import proofs.«01_k».proof.Proof.Gen.ReferenceOutIdeal.Run
public import Idealize.ShloMosaic.PureOps.Ideal

@[expose] public section

set_option maxRecDepth 16384

noncomputable section

namespace Cert.ReferenceOutIdeal.Value

open Cert.ReferenceOutIdeal Cert.ReferenceOutIdeal.Gen Idealize.ShloMosaic Idealize.ShloMosaic.TcCoe Idealize.SL.Sem Idealize.ShloMosaic.StableHlo

/-- The output projection with its gated residual. -/
def REF (a0 : FVec Ideal S4x4096x2048 .f32) (a1 : FVec Ideal S4x4096x2048 .f32) (a2 : FVec Ideal S4096x4096 .f32) (a3 : FVec Ideal S4096 .f32) (a4 : FVec Ideal S4x4096x4096 .f32) (a5 : FVec Ideal S4x1x4096 .f32) : FVec Ideal S16384x4096 .f32 :=
  shapeCast _ (addf a4 (mulf (broadcastInDim S4x4096x4096 ![0, 1, 2] bcast_S4x1x4096_S4x4096x4096_0_1_2 a5) (addf (Host.dotGeneral dot_S4x4096x4096_S4096x4096_S4x4096x4096_2_0_01_1_n_n none (concatenate S4x4096x4096 2 [⟨S4x4096x2048, a0⟩, ⟨S4x4096x2048, a1⟩] concatenates_S4x4096x2048_S4x4096x2048_S4x4096x4096_d2) a2) (broadcastInDim S4x4096x4096 ![0, 1, 2] bcast_S1x1x4096_S4x4096x4096_0_1_2 (broadcastInDim S1x1x4096 ![2] bcast_S4096_S1x1x4096_2 a3))))) shapeCasts_S4x4096x4096_S16384x4096

end Cert.ReferenceOutIdeal.Value

end
-- ==== Proof.ValOut.lean ====
/- The output projection with its gated residual: the kernel writes the reference's term of its arguments. -/
module

public import proofs.«01_k».proof.Proof.Gen.KernelOutIdeal.Value
public import proofs.«01_k».proof.Proof.RefOut
public import Idealize.ShloMosaic.Lib.Pipeline.ValueKit

@[expose] public section

set_option maxRecDepth 16384

noncomputable section

namespace Cert.ReferenceOutIdeal.Value

open Cert.ReferenceOutIdeal Cert.ReferenceOutIdeal.Gen Idealize.ShloMosaic Idealize.ShloMosaic.TcCoe Idealize.SL.Sem

/-- The reference's term, entry by entry: the residual plus the gate times the projection of the two joined halves. -/
theorem ref (h l : FVec Ideal S4x4096x2048 .f32) (w : FVec Ideal S4096x4096 .f32) (b : FVec Ideal S4096 .f32)
    (x : FVec Ideal S4x4096x4096 .f32) (g : FVec Ideal S4x1x4096 .f32) (R : Fin 16384) (C : Fin 4096) :
    REF h l w b x g (ix2 R C) = x (ix3 ⟨R.val / 4096, by omega⟩ ⟨R.val % 4096, by omega⟩ C) + g (ix3 ⟨R.val / 4096, by omega⟩ 0 C)
      * (((∑ k : Fin 2048, h (ix3 ⟨R.val / 4096, by omega⟩ ⟨R.val % 4096, by omega⟩ k) * w (ix2 ⟨k.val, by omega⟩ C))
        + ∑ k : Fin 2048, l (ix3 ⟨R.val / 4096, by omega⟩ ⟨R.val % 4096, by omega⟩ k) * w (ix2 ⟨2048 + k.val, by omega⟩ C)) + b (ix1 C)) := by
  pointwise [REF]

end Cert.ReferenceOutIdeal.Value

namespace Cert.KernelOutIdeal.Point

open Cert.KernelOutIdeal Cert.KernelOutIdeal.Gen Idealize.ShloMosaic Idealize.ShloMosaic.TcCoe Idealize.SL.Sem
open Idealize.ShloMosaic.Pipeline (Dat)
open Cert.ReferenceOutIdeal.Value (REF)

variable (m : (ℓ : Loc nD τ sig) → Buf (Elt Ideal) ℓ)

/-- What the body stores, entry by entry, over the blocks it loads. -/
theorem pay (h : FVec Ideal S1024x2048 .bf16) (w : FVec Ideal S2048x512 .bf16) (h' : FVec Ideal S1024x2048 .bf16) (w' : FVec Ideal S2048x512 .bf16)
    (x : FVec Ideal S1024x512 .f32) (g : FVec Ideal S1x1x512 .f32) (b : FVec Ideal S1x512 .f32) (r : Fin 1024) (l : Fin 512) :
    k0_pay1 (F := Ideal) h w h' w' x g b (ix2 r l) = x (ix2 r l) + g (ix3 0 0 l)
      * (((∑ k : Fin 2048, h (ix2 r k) * w (ix2 k l)) + ∑ k : Fin 2048, h' (ix2 r k) * w' (ix2 k l)) + b (ix2 0 l)) := by
  pointwise [k0_pay1]

/-- Where each window's block lies at each point of the grid. -/
theorem idx : ∀ t : Fin cfg0.N, win0_0.index t = ![t.val / 8, 0] ∧ win0_1.index t = ![t.val / 8, 0]
    ∧ win0_2.index t = ![0, t.val % 8] ∧ win0_3.index t = ![1, t.val % 8] ∧ win0_4.index t = ![0, t.val % 8]
    ∧ win0_5.index t = ![t.val / 8, t.val % 8] ∧ win0_6.index t = ![t.val / 32, 0, t.val % 8] ∧ win0_7.index t = ![t.val / 8, t.val % 8] :=
  (by decide +kernel : ∀ t : Fin grid0.N, _)

/-- The row of the result that row `r` of a point's block is. -/
abbrev row (t : Fin cfg0.N) (r : Fin 1024) : Fin 16384 := ⟨t.val / 8 * 1024 + r.val, by have := t.isLt; change _ < 128 at this; omega⟩

/-- The column of the result that column `l` of a point's block is. -/
abbrev col (t : Fin cfg0.N) (l : Fin 512) : Fin 4096 := ⟨t.val % 8 * 512 + l.val, by omega⟩

/-- The block of the Hyena half. -/
theorem b0 (c : Dev nD) (t : Fin cfg0.N) (r : Fin 1024) (k : Fin 2048) : iblk m c 0 t (ix2 r k)
    = (m ((c : Thread nD τ).loc main_arg0) : FVec Ideal S4x4096x2048 .f32) (ix3 ⟨(row t r).val / 4096, by omega⟩ ⟨(row t r).val % 4096, by omega⟩ k) := by
  blk_simp [iblk, idx t]
  entry_read
  pointwise
  blk_ext [idx t]

/-- The block of the RG-LRU half. -/
theorem b1 (c : Dev nD) (t : Fin cfg0.N) (r : Fin 1024) (k : Fin 2048) : iblk m c 1 t (ix2 r k)
    = (m ((c : Thread nD τ).loc main_arg1) : FVec Ideal S4x4096x2048 .f32) (ix3 ⟨(row t r).val / 4096, by omega⟩ ⟨(row t r).val % 4096, by omega⟩ k) := by
  blk_simp [iblk, idx t]
  entry_read
  pointwise
  blk_ext [idx t]

/-- The block of the weights' upper rows. -/
theorem b2 (c : Dev nD) (t : Fin cfg0.N) (k : Fin 2048) (l : Fin 512) : iblk m c 2 t (ix2 k l)
    = (m ((c : Thread nD τ).loc main_arg2) : FVec Ideal S4096x4096 .f32) (ix2 ⟨k.val, by omega⟩ (col t l)) := by
  blk_simp [iblk, idx t]
  entry_read
  pointwise
  blk_ext [idx t]

/-- The block of the weights' lower rows. -/
theorem b3 (c : Dev nD) (t : Fin cfg0.N) (k : Fin 2048) (l : Fin 512) : iblk m c 3 t (ix2 k l)
    = (m ((c : Thread nD τ).loc main_arg2) : FVec Ideal S4096x4096 .f32) (ix2 ⟨2048 + k.val, by omega⟩ (col t l)) := by
  blk_simp [iblk, idx t]
  entry_read
  pointwise
  blk_ext [idx t]

/-- The block of the bias. -/
theorem b4 (c : Dev nD) (t : Fin cfg0.N) (l : Fin 512) : iblk m c 4 t (ix2 0 l) = (m ((c : Thread nD τ).loc main_arg3) : FVec Ideal S4096 .f32) (ix1 (col t l)) := by
  blk_simp [iblk, idx t]
  entry_read
  pointwise
  blk_ext [idx t]

/-- The block of the residual. -/
theorem b5 (c : Dev nD) (t : Fin cfg0.N) (r : Fin 1024) (l : Fin 512) : iblk m c 5 t (ix2 r l)
    = (m ((c : Thread nD τ).loc main_arg4) : FVec Ideal S4x4096x4096 .f32) (ix3 ⟨(row t r).val / 4096, by omega⟩ ⟨(row t r).val % 4096, by omega⟩ (col t l)) := by
  blk_simp [iblk, idx t]
  entry_read
  pointwise
  blk_ext [idx t]

/-- The block of the gate. -/
theorem b6 (c : Dev nD) (t : Fin cfg0.N) (r : Fin 1024) (l : Fin 512) : iblk m c 6 t (ix3 0 0 l)
    = (m ((c : Thread nD τ).loc main_arg5) : FVec Ideal S4x1x4096 .f32) (ix3 ⟨(row t r).val / 4096, by omega⟩ 0 (col t l)) := by
  blk_ext [iblk, V, idx t]

/-- Where an entry of a point's block lies in the result. -/
theorem emb (t : Fin cfg0.N) (r : Fin 1024) (l : Fin 512) : ((cfg0.win 7).blk t).view.emb (ix2 r l) = ix2 (row t r) (col t l) := by
  blk_ext [idx t]

/-- What a point writes at an entry of its block is the reference's term where that entry lies. -/
theorem point (c : Dev nD) (t : Fin cfg0.N) (r : Fin 1024) (l : Fin 512) :
    k0_pay1 (iblk m c 0 t) (iblk m c 2 t) (iblk m c 1 t) (iblk m c 3 t) (iblk m c 5 t) (iblk m c 6 t) (iblk m c 4 t) (ix2 r l)
    = REF (m ((c : Thread nD τ).loc main_arg0) : FVec Ideal S4x4096x2048 .f32) (m ((c : Thread nD τ).loc main_arg1) : FVec Ideal S4x4096x2048 .f32) (m ((c : Thread nD τ).loc main_arg2) : FVec Ideal S4096x4096 .f32) (m ((c : Thread nD τ).loc main_arg3) : FVec Ideal S4096 .f32) (m ((c : Thread nD τ).loc main_arg4) : FVec Ideal S4x4096x4096 .f32) (m ((c : Thread nD τ).loc main_arg5) : FVec Ideal S4x1x4096 .f32)
        (((cfg0.win 7).blk t).view.emb (ix2 r l)) := by
  rw [emb, Cert.ReferenceOutIdeal.Value.ref]
  refine (pay _ _ _ _ _ _ _ r l).trans ?_
  refine congrArg₂ (fun a b : EReal => a + b) (b5 m c t r l) (congrArg₂ (fun a b : EReal => a * b) (b6 m c t r l) ?_)
  refine congrArg₂ (fun a b : EReal => a + b) (congrArg₂ (fun a b : EReal => a + b) (Finset.sum_congr rfl fun k _ => ?_) (Finset.sum_congr rfl fun k _ => ?_)) (b4 m c t l)
  · exact congrArg₂ (fun a b : EReal => a * b) (b0 m c t r k) (b2 m c t k l)
  · exact congrArg₂ (fun a b : EReal => a * b) (b1 m c t r k) (b3 m c t k l)

/-- The result array after the run is the reference's term of the arguments. -/
theorem final (c : Dev nD) : (dats m 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  obtain ⟨r, l, rfl⟩ : ∃ r l, y = ix2 r l := ⟨y 0, y 1, eq_ix2 y⟩
  blk_simp
  rw [after0_7]; frame_out
  exact point m c t r l

end Cert.KernelOutIdeal.Point

end
-- ==== Proof.RefNorm.lean ====
/- The terms that the reference's run leaves in its results, over its argument arrays: the modulated norm of the latent. -/
module

public import proofs.«01_k».proof.Proof.Gen.ReferenceNormIdeal.Run
public import Idealize.ShloMosaic.PureOps.Ideal

@[expose] public section

set_option maxRecDepth 16384

noncomputable section

namespace Cert.ReferenceNormIdeal.Value

open Cert.ReferenceNormIdeal Cert.ReferenceNormIdeal.Gen Idealize.ShloMosaic Idealize.ShloMosaic.TcCoe Idealize.SL.Sem Idealize.ShloMosaic.StableHlo

/-- The modulated norm of the latent. -/
def REF (a0 : FVec Ideal S4x4096x4096 .f32) (a1 : FVec Ideal S4096 .f32) (a2 : FVec Ideal S4x1x4096 .f32) (a3 : FVec Ideal S4x1x4096 .f32) : FVec Ideal S4x4096x4096 .bf16 :=
  truncf .bf16 (addf (mulf (mulf (mulf a0 (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf a0 a0) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 a1))) (broadcastInDim S4x4096x4096 ![0, 1, 2] bcast_S4x1x4096_S4x4096x4096_0_1_2 (addf (broadcastInDim S4x1x4096 ![] bcast_S_S4x1x4096 (constant S_ .f32 0x3F800000#32)) a3))) (broadcastInDim S4x4096x4096 ![0, 1, 2] bcast_S4x1x4096_S4x4096x4096_0_1_2 a2)) bitsLt_bf16_f32

end Cert.ReferenceNormIdeal.Value

end
-- ==== Proof.ValNorm.lean ====
/- The modulated norm: the kernel writes the reference's term of its arguments. -/
module

public import proofs.«01_k».proof.Proof.Gen.KernelNormIdeal.Value
public import proofs.«01_k».proof.Proof.RefNorm
public import Idealize.ShloMosaic.Lib.Pipeline.ValueKit

@[expose] public section

set_option maxRecDepth 16384

noncomputable section

namespace Cert.ReferenceNormIdeal.Value

open Cert.ReferenceNormIdeal Cert.ReferenceNormIdeal.Gen Idealize.ShloMosaic Idealize.ShloMosaic.TcCoe Idealize.SL.Sem

/-- An entry of the modulated norm: the entry `x`, its row's sum of squares `q`, the gain `g`, the scale `a` and the shift `h`. -/
abbrev nrm (x q g a h : EReal) : EReal :=
  x * Ideal.rsqrt (Ideal.div q (Ideal.ofBits .f32 0x45800000#32) + Ideal.ofBits .f32 0x358637BD#32) * g * (1 + a) + h

/-- Equal parts make equal entries. -/
theorem nrm_congr {x x' q q' g g' a a' h h' : EReal} (hx : x = x') (hq : q = q') (hg : g = g') (ha : a = a') (hh : h = h') : nrm x q g a h = nrm x' q' g' a' h' := by
  rw [hx, hq, hg, ha, hh]

/-- The reference's term, entry by entry. -/
theorem ref (x : FVec Ideal S4x4096x4096 .f32) (g : FVec Ideal S4096 .f32) (h a : FVec Ideal S4x1x4096 .f32) (b : Fin 4) (s : Fin 4096) (y : Fin 4096) :
    REF x g h a (ix3 b s y) = nrm (x (ix3 b s y)) (∑ k : Fin 4096, x (ix3 b s k) * x (ix3 b s k)) (g (ix1 y)) (a (ix3 b 0 y)) (h (ix3 b 0 y)) := by
  pointwise [REF]

end Cert.ReferenceNormIdeal.Value

namespace Cert.KernelNormIdeal.Point

open Cert.KernelNormIdeal Cert.KernelNormIdeal.Gen Idealize.ShloMosaic Idealize.ShloMosaic.TcCoe Idealize.SL.Sem
open Idealize.ShloMosaic.Pipeline (Dat)
open Cert.ReferenceNormIdeal.Value (REF nrm)

variable (m : (ℓ : Loc nD τ sig) → Buf (Elt Ideal) ℓ)

/-- What the body stores, entry by entry, over the blocks it loads. -/
theorem pay (x : FVec Ideal S1x512x4096 .f32) (g : FVec Ideal S1x4096 .f32) (h a : FVec Ideal S1x1x4096 .f32) (r : Fin 512) (l : Fin 4096) :
    k0_pay1 (F := Ideal) x g h a (ix3 0 r l) = nrm (x (ix3 0 r l)) (∑ k : Fin 4096, x (ix3 0 r k) * x (ix3 0 r k)) (g (ix2 0 l)) (a (ix3 0 0 l)) (h (ix3 0 0 l)) := by
  pointwise [k0_pay1]

/-- Where each window's block lies at each point of the grid. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![t.val / 8, t.val % 8, 0] :=
  (by decide +kernel : ∀ t : Fin grid0.N, _)

/-- The batch of a point. -/
abbrev bat (t : Fin cfg0.N) : Fin 4 := ⟨t.val / 8, by have := t.isLt; change _ < 32 at this; omega⟩

/-- The position that row `r` of a point's block is. -/
abbrev row (t : Fin cfg0.N) (r : Fin 512) : Fin 4096 := ⟨t.val % 8 * 512 + r.val, by omega⟩

/-- The block of the latent. -/
theorem b0 (c : Dev nD) (t : Fin cfg0.N) (r : Fin 512) (k : Fin 4096) : iblk m c 0 t (ix3 0 r k)
    = (m ((c : Thread nD τ).loc main_arg0) : FVec Ideal S4x4096x4096 .f32) (ix3 (bat t) (row t r) k) := by
  blk_ext [iblk, V, idx t]

/-- The block of the gain. -/
theorem b1 (c : Dev nD) (t : Fin cfg0.N) (l : Fin 4096) : iblk m c 1 t (ix2 0 l)
    = (m ((c : Thread nD τ).loc main_arg1) : FVec Ideal S4096 .f32) (ix1 l) := by
  blk_simp [iblk, idx t]
  entry_read
  pointwise
  blk_ext [idx t]

/-- The block of the shift. -/
theorem b2 (c : Dev nD) (t : Fin cfg0.N) (l : Fin 4096) : iblk m c 2 t (ix3 0 0 l)
    = (m ((c : Thread nD τ).loc main_arg2) : FVec Ideal S4x1x4096 .f32) (ix3 (bat t) 0 l) := by
  blk_ext [iblk, V, idx t]

/-- The block of the scale. -/
theorem b3 (c : Dev nD) (t : Fin cfg0.N) (l : Fin 4096) : iblk m c 3 t (ix3 0 0 l)
    = (m ((c : Thread nD τ).loc main_arg3) : FVec Ideal S4x1x4096 .f32) (ix3 (bat t) 0 l) := by
  blk_ext [iblk, V, idx t]

/-- Where an entry of a point's block lies in the result. -/
theorem emb (t : Fin cfg0.N) (r : Fin 512) (l : Fin 4096) : ((cfg0.win 4).blk t).view.emb (ix3 0 r l) = ix3 (bat t) (row t r) l := by
  blk_ext [idx t]

/-- What a point writes at an entry of its block is the reference's term where that entry lies. -/
theorem point (c : Dev nD) (t : Fin cfg0.N) (r : Fin 512) (l : Fin 4096) : k0_pay1 (iblk m c 0 t) (iblk m c 1 t) (iblk m c 2 t) (iblk m c 3 t) (ix3 0 r l)
    = REF (m ((c : Thread nD τ).loc main_arg0) : FVec Ideal S4x4096x4096 .f32) (m ((c : Thread nD τ).loc main_arg1) : FVec Ideal S4096 .f32) (m ((c : Thread nD τ).loc main_arg2) : FVec Ideal S4x1x4096 .f32) (m ((c : Thread nD τ).loc main_arg3) : FVec Ideal S4x1x4096 .f32) (((cfg0.win 4).blk t).view.emb (ix3 0 r l)) := by
  rw [emb, Cert.ReferenceNormIdeal.Value.ref]
  refine (pay _ _ _ _ r l).trans ?_
  exact Cert.ReferenceNormIdeal.Value.nrm_congr (b0 m c t r l) (Finset.sum_congr rfl fun k _ => congrArg₂ (fun a b : EReal => a * b) (b0 m c t r k) (b0 m c t r k)) (b1 m c t l) (b3 m c t l) (b2 m c t l)

/-- The result array after the run is the reference's term of the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨i, r, l, rfl⟩ : ∃ i r l, y = ix3 i r l := ⟨y 0, y 1, y 2, eq_ix3 y⟩
  obtain rfl : i = 0 := Subsingleton.elim _ _
  blk_simp
  rw [after0_4]; frame_out
  exact point m c t r l

end Cert.KernelNormIdeal.Point

end
-- ==== Proof.RefMod.lean ====
/- The term that the reference's run leaves in its result, over its argument arrays: the modulation vectors. -/
module

public import proofs.«01_k».proof.Proof.Gen.ReferenceModIdeal.Run
public import Idealize.ShloMosaic.PureOps.Ideal
public import Idealize.ShloMosaic.Lib.Pipeline.ValueKit

@[expose] public section

set_option maxRecDepth 16384

noncomputable section

namespace Cert.ReferenceModIdeal.Value

open Cert.ReferenceModIdeal Cert.ReferenceModIdeal.Gen Idealize.ShloMosaic Idealize.ShloMosaic.TcCoe Idealize.SL.Sem Idealize.ShloMosaic.StableHlo

/-- The conditioning rows: the latent's, the context's, and zeros. -/
def CAT (a0 : FVec Ideal S4x4096 .f32) (a1 : FVec Ideal S4096 .f32) : FVec Ideal S8x4096 .f32 :=
  concatenate S8x4096 0 [⟨S4x4096, a0⟩, ⟨S1x4096, broadcastInDim S1x4096 ![1] bcast_S4096_S1x4096_1 a1⟩, ⟨S3x4096, broadcastInDim S3x4096 ![] bcast_S_S3x4096 (constant S_ .f32 0x00000000#32)⟩] concatenates_S4x4096_S1x4096_S3x4096_S8x4096_d0

/-- The modulation vectors. -/
def REF (a0 : FVec Ideal S4x4096 .f32) (a1 : FVec Ideal S4096 .f32) (a2 : FVec Ideal S4096x24576 .f32) (a3 : FVec Ideal S24576 .f32) : FVec Ideal S8x24576 .f32 :=
  addf (Host.dotGeneral dot_S8x4096_S4096x24576_S8x24576_1_0_0_1_n_n none (mulf (CAT a0 a1) (Host.divf (broadcastInDim S8x4096 ![] bcast_S_S8x4096 (constant S_ .f32 0x3F800000#32)) (addf (broadcastInDim S8x4096 ![] bcast_S_S8x4096 (constant S_ .f32 0x3F800000#32)) (Host.exp (Host.negf (CAT a0 a1)))))) a2) (broadcastInDim S8x24576 ![0, 1] bcast_S1x24576_S8x24576_0_1 (broadcastInDim S1x24576 ![1] bcast_S24576_S1x24576_1 a3))

/-- A row of the conditioning vectors. -/
def cond (a0 : FVec Ideal S4x4096 .f32) (a1 : FVec Ideal S4096 .f32) (r : Fin 8) (k : Fin 4096) : EReal :=
  if h : r.val < 4 then a0 (ix2 ⟨r.val, h⟩ k) else if r.val = 4 then a1 (ix1 k) else 0

/-- The gated unit: an entry times its logistic function, as a quotient. -/
abbrev silu (x : EReal) : EReal := x * Ideal.div 1 (1 + Ideal.exp (-x))

/-- The conditioning rows, entry by entry. -/
theorem cat (a0 : FVec Ideal S4x4096 .f32) (a1 : FVec Ideal S4096 .f32) (r : Fin 8) (k : Fin 4096) : CAT a0 a1 (ix2 r k) = cond a0 a1 r k := by
  unfold cond
  pointwise [CAT]
  split
  · rfl
  · by_cases h : r.val = 4
    · rw [dif_pos (by omega), if_pos h]
    · rw [dif_neg (by omega), if_neg h]

/-- The reference's term, entry by entry. -/
theorem ref (a0 : FVec Ideal S4x4096 .f32) (a1 : FVec Ideal S4096 .f32) (a2 : FVec Ideal S4096x24576 .f32) (a3 : FVec Ideal S24576 .f32) (r : Fin 8) (y : Fin 24576) :
    REF a0 a1 a2 a3 (ix2 r y) = (∑ k : Fin 4096, silu (CAT a0 a1 (ix2 r k)) * a2 (ix2 k y)) + a3 (ix1 y) := by
  pointwise [REF]

end Cert.ReferenceModIdeal.Value

end
-- ==== Proof.RefScan.lean ====
/- The terms that the reference's operations before the loop leave, over its argument arrays: the two directions of the recurrence. -/
module

public import proofs.«01_k».proof.Proof.Gen.ReferenceScanIdeal.Run
public import Idealize.ShloMosaic.PureOps.Ideal

@[expose] public section

set_option maxRecDepth 16384

noncomputable section

namespace Cert.ReferenceScanIdeal.Value

open Cert.ReferenceScanIdeal Cert.ReferenceScanIdeal.Gen Idealize.ShloMosaic Idealize.ShloMosaic.TcCoe Idealize.SL.Sem Idealize.ShloMosaic.StableHlo

/-- A row of channels, over every position of the grid rows. -/
def grd (v : FVec Ideal S2048 .f32) : FVec Ideal S256x64x2048 .f32 :=
  broadcastInDim S256x64x2048 ![0, 1, 2] bcast_S1x1x2048_S256x64x2048_0_1_2 (broadcastInDim S1x1x2048 ![2] bcast_S2048_S1x1x2048_2 v)

/-- A row of channels, over every position. -/
def chn (v : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 v)

/-- The projection's recurrence half in grid rows, two zeros before each row and one after. -/
def padded (a0 : FVec Ideal S4x4096x4096 .f32) : FVec Ideal S256x67x2048 .f32 :=
  pad S256x67x2048 ![0, 2, 0] ![0, 1, 0] ![0, 0, 0] (shapeCast _ (extractStridedSlice S4x4096x2048 ![0, 0, 2048] a0 slices_S4x4096x4096_S4x4096x2048_0_0_2048) shapeCasts_S4x4096x2048_S256x64x2048) (sitofp .f32 (constantI S_ 32 0#32)) pads_S256x64x2048_S256x67x2048_000_210_000 h_S_

/-- The short convolution along the rows of the grid, of the padded array. -/
def xcvP (p : FVec Ideal S256x67x2048 .f32) (a1 : FVec Ideal S4x2048 .f32) (a2 : FVec Ideal S2048 .f32) : FVec Ideal S4x4096x2048 .f32 :=
  shapeCast _ (addf (addf (addf (addf (grd a2) (mulf (grd (shapeCast _ (extractStridedSlice S1x2048 ![0, 0] a1 slices_S4x2048_S1x2048_0_0) shapeCasts_S1x2048_S2048)) (extractStridedSlice S256x64x2048 ![0, 0, 0] p slices_S256x67x2048_S256x64x2048_0_0_0)))
    (mulf (grd (shapeCast _ (extractStridedSlice S1x2048 ![1, 0] a1 slices_S4x2048_S1x2048_1_0) shapeCasts_S1x2048_S2048)) (extractStridedSlice S256x64x2048 ![0, 1, 0] p slices_S256x67x2048_S256x64x2048_0_1_0)))
    (mulf (grd (shapeCast _ (extractStridedSlice S1x2048 ![2, 0] a1 slices_S4x2048_S1x2048_2_0) shapeCasts_S1x2048_S2048)) (extractStridedSlice S256x64x2048 ![0, 2, 0] p slices_S256x67x2048_S256x64x2048_0_2_0)))
    (mulf (grd (shapeCast _ (extractStridedSlice S1x2048 ![3, 0] a1 slices_S4x2048_S1x2048_3_0) shapeCasts_S1x2048_S2048)) (extractStridedSlice S256x64x2048 ![0, 3, 0] p slices_S256x67x2048_S256x64x2048_0_3_0))) shapeCasts_S256x64x2048_S4x4096x2048

/-- The short convolution along the rows of the grid. -/
def xcv (a0 : FVec Ideal S4x4096x4096 .f32) (a1 : FVec Ideal S4x2048 .f32) (a2 : FVec Ideal S2048 .f32) : FVec Ideal S4x4096x2048 .f32 := xcvP (padded a0) a1 a2

/-- A gate before the logistic function: each head's weights over its own channels, and a bias. -/
def gat (x : FVec Ideal S4x4096x2048 .f32) (w : FVec Ideal S16x128x128 .f32) (b : FVec Ideal S2048 .f32) : FVec Ideal S4x4096x2048 .f32 :=
  addf (shapeCast _ (transpose S4x4096x16x128 [2, 3, 0, 1] (Host.dotGeneral dot_S16x128x128_S4x4096x16x128_S16x128x4x4096_1_3_2_01_0_2 none w (shapeCast _ x shapeCasts_S4x4096x2048_S4x4096x16x128)) transposes_S16x128x4x4096_S4x4096x16x128_2_3_0_1) shapeCasts_S4x4096x16x128_S4x4096x2048) (chn b)

/-- A constant at every position. -/
def cst (b : BitVec 32) : FVec Ideal S4x4096x2048 .f32 := broadcastInDim S4x4096x2048 ![] bcast_S_S4x4096x2048 (constant S_ .f32 b)

/-- The logistic function. -/
def lgs (g : FVec Ideal S4x4096x2048 .f32) : FVec Ideal S4x4096x2048 .f32 :=
  Host.divf (cst 0x3F800000#32) (addf (cst 0x3F800000#32) (Host.exp (Host.negf g)))

/-- The soft maximum of a row with zero. -/
def sfp (v : FVec Ideal S2048 .f32) : FVec Ideal S2048 .f32 :=
  select (cmpf .une (subf v (broadcastInDim S2048 ![] bcast_S_S2048 (constant S_ .f32 0x00000000#32))) (subf v (broadcastInDim S2048 ![] bcast_S_S2048 (constant S_ .f32 0x00000000#32))))
    (addf v (broadcastInDim S2048 ![] bcast_S_S2048 (constant S_ .f32 0x00000000#32)))
    (addf (maximumf v (broadcastInDim S2048 ![] bcast_S_S2048 (constant S_ .f32 0x00000000#32))) (Host.log1p (Host.exp (Host.negf (Host.absf (subf v (broadcastInDim S2048 ![] bcast_S_S2048 (constant S_ .f32 0x00000000#32))))))))

/-- The logarithm of a decay. -/
def lga (g : FVec Ideal S4x4096x2048 .f32) (l : FVec Ideal S2048 .f32) : FVec Ideal S4x4096x2048 .f32 :=
  mulf (mulf (cst 0xC1000000#32) (lgs g)) (chn (sfp (Host.negf l)))

/-- The decays of a direction. -/
def dec (g : FVec Ideal S4x4096x2048 .f32) (l : FVec Ideal S2048 .f32) : FVec Ideal S4x4096x2048 .f32 := Host.exp (lga g l)

/-- The inputs of a direction. -/
def inp (g gi x : FVec Ideal S4x4096x2048 .f32) (l : FVec Ideal S2048 .f32) : FVec Ideal S4x4096x2048 .f32 :=
  mulf (Host.sqrt (Host.negf (Host.expm1 (mulf (cst 0x40000000#32) (lga g l))))) (mulf (lgs gi) x)

/-- The forward direction's weights. -/
def wf (w : FVec Ideal S2x16x128x128 .f32) : FVec Ideal S16x128x128 .f32 :=
  shapeCast _ (extractStridedSlice S1x16x128x128 ![0, 0, 0, 0] w slices_S2x16x128x128_S1x16x128x128_0_0_0_0) shapeCasts_S1x16x128x128_S16x128x128

/-- The backward direction's weights. -/
def wb (w : FVec Ideal S2x16x128x128 .f32) : FVec Ideal S16x128x128 .f32 :=
  shapeCast _ (extractStridedSlice S1x16x128x128 ![1, 0, 0, 0] w slices_S2x16x128x128_S1x16x128x128_1_0_0_0) shapeCasts_S1x16x128x128_S16x128x128

/-- The forward direction's row. -/
def vf (v : FVec Ideal S2x2048 .f32) : FVec Ideal S2048 .f32 := shapeCast _ (extractStridedSlice S1x2048 ![0, 0] v slices_S2x2048_S1x2048_0_0) shapeCasts_S1x2048_S2048

/-- The backward direction's row. -/
def vb (v : FVec Ideal S2x2048 .f32) : FVec Ideal S2048 .f32 := shapeCast _ (extractStridedSlice S1x2048 ![1, 0] v slices_S2x2048_S1x2048_1_0) shapeCasts_S1x2048_S2048

/-- The two directions' sequences, stacked by position: the backward one from the last position. -/
def stk (f b : FVec Ideal S4x4096x2048 .f32) : FVec Ideal S4096x8x2048 .f32 :=
  transpose S4096x8x2048 [1, 0, 2] (concatenate S8x4096x2048 0 [⟨S4x4096x2048, f⟩, ⟨S4x4096x2048, Host.reverse [1] b⟩] concatenates_S4x4096x2048_S4x4096x2048_S8x4096x2048_d0) transposes_S8x4096x2048_S4096x8x2048_1_0_2

section
variable (a0 : FVec Ideal S4x4096x4096 .f32) (a1 : FVec Ideal S4x2048 .f32) (a2 : FVec Ideal S2048 .f32) (a3 : FVec Ideal S2x16x128x128 .f32) (a4 : FVec Ideal S2x2048 .f32)
  (a5 : FVec Ideal S2x16x128x128 .f32) (a6 : FVec Ideal S2x2048 .f32) (a7 : FVec Ideal S2x2048 .f32) (a8 : FVec Ideal S4x2x2048 .f32)

/-- The decays that the loop reads. -/
def decS : FVec Ideal S4096x8x2048 .f32 := stk (dec (gat (xcv a0 a1 a2) (wf a3) (vf a4)) (vf a7)) (dec (gat (xcv a0 a1 a2) (wb a3) (vb a4)) (vb a7))

/-- The inputs that the loop reads. -/
def inpS : FVec Ideal S4096x8x2048 .f32 :=
  stk (inp (gat (xcv a0 a1 a2) (wf a3) (vf a4)) (gat (xcv a0 a1 a2) (wf a5) (vf a6)) (xcv a0 a1 a2) (vf a7)) (inp (gat (xcv a0 a1 a2) (wb a3) (vb a4)) (gat (xcv a0 a1 a2) (wb a5) (vb a6)) (xcv a0 a1 a2) (vb a7))

/-- The states that the loop starts from. -/
def iniS : FVec Ideal S8x2048 .f32 :=
  concatenate S8x2048 0 [⟨S4x2048, shapeCast _ (extractStridedSlice S4x1x2048 ![0, 0, 0] a8 slices_S4x2x2048_S4x1x2048_0_0_0) shapeCasts_S4x1x2048_S4x2048⟩, ⟨S4x2048, shapeCast _ (extractStridedSlice S4x1x2048 ![0, 1, 0] a8 slices_S4x2x2048_S4x1x2048_0_1_0) shapeCasts_S4x1x2048_S4x2048⟩] concatenates_S4x2048_S4x2048_S8x2048_d0
end

variable (m : (ℓ : Loc nD τ sig) → Buf (Elt Ideal) ℓ) (c : Dev nD)

set_option maxHeartbeats 8000000 in
/-- The states that the loop starts from. -/
theorem entry_ini : entryContents (preI (F := Ideal)) m c (Proc.devRef .tc main_v148_3) = iniS (m ((c.tc : Thread nD τ).loc main_arg8)) := by
  unfold iniS
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

end Cert.ReferenceScanIdeal.Value

end
-- ==== Proof.RefEntry.lean ====
/- The arrays that the reference's loop reads, stretch by stretch of the operations before it. -/
module

public import proofs.«01_k».proof.Proof.RefScan

@[expose] public section

set_option maxRecDepth 16384
set_option maxHeartbeats 8000000

noncomputable section

namespace Cert.ReferenceScanIdeal.Value

open Cert.ReferenceScanIdeal Cert.ReferenceScanIdeal.Gen Idealize.ShloMosaic Idealize.ShloMosaic.TcCoe Idealize.SL.Sem Idealize.ShloMosaic.StableHlo

/-- The operations of a stretch before its `n`-th, then the others. -/
theorem after_cut (ops : List (HloOp τ sig (Elt Ideal))) (n : ℕ) (V : Valuation τ sig (Elt Ideal)) : after ops V = after (ops.drop n) (after (ops.take n) V) :=
  match ops, n with
  | [], n => by cases n <;> rfl
  | _ :: _, 0 => rfl
  | _ :: l, n + 1 => after_cut l n _

abbrev O2a : List (HloOp τ sig (Elt Ideal)) := hostOps0_2.take 31
abbrev O2b : List (HloOp τ sig (Elt Ideal)) := hostOps0_2.drop 31
abbrev O4a : List (HloOp τ sig (Elt Ideal)) := hostOps0_4.take 12
abbrev O4b : List (HloOp τ sig (Elt Ideal)) := hostOps0_4.drop 12

variable (V : Valuation τ sig (Elt Ideal))

/-- The padded array. -/
theorem rd_v2 : afterL [hostOps0, hostOps0_1] V (Proc.devRef .tc main_v2) = padded (V (Proc.devRef .tc main_arg0)) := by
  unfold padded
  simp only [afterL_cons, afterL_nil, hostOps0, hostOps0_1]
  after_results_entrywise []

/-- The short convolution. -/
theorem rd_v33 : after O2a V (Proc.devRef .tc main_v33) = xcvP (V (Proc.devRef .tc main_v2)) (V (Proc.devRef .tc main_arg1)) (V (Proc.devRef .tc main_arg2)) := by
  unfold xcvP grd
  simp only [afterL_cons, afterL_nil, O2a, hostOps0_2, List.take]
  after_results_entrywise []

/-- A direction's decay gate, scaled. -/
theorem rd_v71 : after O2b V (Proc.devRef .tc main_v71) = mulf (cst 0xC1000000#32) (lgs (gat (V (Proc.devRef .tc main_v33)) (wf (V (Proc.devRef .tc main_arg3))) (vf (V (Proc.devRef .tc main_arg4))))) := by
  unfold cst lgs gat wf vf chn cst
  simp only [afterL_cons, afterL_nil, O2b, hostOps0_2, List.drop]
  after_results_entrywise []

/-- A direction's decay gate, scaled. -/
theorem rd_v122 : after O4b V (Proc.devRef .tc main_v122) = mulf (cst 0xC1000000#32) (lgs (gat (V (Proc.devRef .tc main_v33)) (wb (V (Proc.devRef .tc main_arg3))) (vb (V (Proc.devRef .tc main_arg4))))) := by
  unfold cst lgs gat wb vb chn cst
  simp only [afterL_cons, afterL_nil, O4b, hostOps0_4, List.drop]
  after_results_entrywise []

/-- A direction's input gate. -/
theorem rd_v69 : after O2b V (Proc.devRef .tc main_v69) = lgs (gat (V (Proc.devRef .tc main_v33)) (wf (V (Proc.devRef .tc main_arg5))) (vf (V (Proc.devRef .tc main_arg6)))) := by
  unfold lgs gat wf vf chn cst
  simp only [afterL_cons, afterL_nil, O2b, hostOps0_2, List.drop]
  after_results_entrywise []

/-- A direction's input gate. -/
theorem rd_v120 : after O4b V (Proc.devRef .tc main_v120) = lgs (gat (V (Proc.devRef .tc main_v33)) (wb (V (Proc.devRef .tc main_arg5))) (vb (V (Proc.devRef .tc main_arg6)))) := by
  unfold lgs gat wb vb chn cst
  simp only [afterL_cons, afterL_nil, O4b, hostOps0_4, List.drop]
  after_results_entrywise []

/-- A direction's decay parameter, negated. -/
theorem rd_v72 : after O2b V (Proc.devRef .tc main_v72) = Host.negf (vf (V (Proc.devRef .tc main_arg7))) := by
  unfold vf
  simp only [afterL_cons, afterL_nil, O2b, hostOps0_2, List.drop]
  after_results_entrywise []

/-- A direction's decay parameter, negated. -/
theorem rd_v123 : after O4b V (Proc.devRef .tc main_v123) = Host.negf (vb (V (Proc.devRef .tc main_arg7))) := by
  unfold vb
  simp only [afterL_cons, afterL_nil, O4b, hostOps0_4, List.drop]
  after_results_entrywise []

/-- The forward softplus. -/
theorem rd_v73 : after hostOps0_3 V (Proc.devRef .tc main_v73) = sfp (V (Proc.devRef .tc main_v72)) := by
  unfold sfp
  simp only [afterL_cons, afterL_nil, hostOps0_3]
  after_results_entrywise []

/-- The backward softplus. -/
theorem rd_v124 : after hostOps0_5 V (Proc.devRef .tc main_v124) = sfp (V (Proc.devRef .tc main_v123)) := by
  unfold sfp
  simp only [afterL_cons, afterL_nil, hostOps0_5]
  after_results_entrywise []

/-- A direction's decays. -/
theorem rd_v77 : after O4a V (Proc.devRef .tc main_v77) = Host.exp (mulf (V (Proc.devRef .tc main_v71)) (chn (V (Proc.devRef .tc main_v73)))) := by
  unfold chn
  simp only [afterL_cons, afterL_nil, O4a, hostOps0_4, List.take]
  after_results_entrywise []

/-- A direction's inputs. -/
theorem rd_v84 : after O4a V (Proc.devRef .tc main_v84) = mulf (Host.sqrt (Host.negf (Host.expm1 (mulf (cst 0x40000000#32) (mulf (V (Proc.devRef .tc main_v71)) (chn (V (Proc.devRef .tc main_v73)))))))) (mulf (V (Proc.devRef .tc main_v69)) (V (Proc.devRef .tc main_v33))) := by
  unfold chn cst
  simp only [afterL_cons, afterL_nil, O4a, hostOps0_4, List.take]
  after_results_entrywise []

/-- A direction's decays. -/
theorem rd_v128 : after hostOps0_6 V (Proc.devRef .tc main_v128) = Host.exp (mulf (V (Proc.devRef .tc main_v122)) (chn (V (Proc.devRef .tc main_v124)))) := by
  unfold chn
  simp only [afterL_cons, afterL_nil, hostOps0_6]
  after_results_entrywise []

/-- A direction's inputs. -/
theorem rd_v135 : after hostOps0_6 V (Proc.devRef .tc main_v135) = mulf (Host.sqrt (Host.negf (Host.expm1 (mulf (cst 0x40000000#32) (mulf (V (Proc.devRef .tc main_v122)) (chn (V (Proc.devRef .tc main_v124)))))))) (mulf (V (Proc.devRef .tc main_v120)) (V (Proc.devRef .tc main_v33))) := by
  unfold chn cst
  simp only [afterL_cons, afterL_nil, hostOps0_6]
  after_results_entrywise []

/-- The stacked decays. -/
theorem rd_v148_0 : afterL [hostOps0_7, hostOps0_8, hostOps0_9, hostOps0_10] V (Proc.devRef .tc main_v148_0) = stk (V (Proc.devRef .tc main_v77)) (V (Proc.devRef .tc main_v128)) := by
  unfold stk
  simp only [afterL_cons, afterL_nil, hostOps0_7, hostOps0_8, hostOps0_9, hostOps0_10]
  after_results_entrywise []

/-- The stacked inputs. -/
theorem rd_v148_1 : afterL [hostOps0_7, hostOps0_8, hostOps0_9, hostOps0_10] V (Proc.devRef .tc main_v148_1) = stk (V (Proc.devRef .tc main_v84)) (V (Proc.devRef .tc main_v135)) := by
  unfold stk
  simp only [afterL_cons, afterL_nil, hostOps0_7, hostOps0_8, hostOps0_9, hostOps0_10]
  after_results_entrywise []

/-- A buffer that the stretches before a point do not write. -/
theorem keep0 (r : Ref sig .tc) (h : r ∉ hostOps0_W ++ hostOps0_1_W) : afterL [hostOps0, hostOps0_1] V (Proc.devRef .tc r) = V (Proc.devRef .tc r) :=
  (after_of_writes_sub hostOps0_1 _ hostOps0_1_writes (fun hr => h (List.mem_append_right _ hr))).trans (after_of_writes_sub hostOps0 _ hostOps0_writes (fun hr => h (List.mem_append_left _ hr)))
theorem keep2a (r : Ref sig .tc) (h : r ∉ hostOps0_2_W.take 31) : after O2a V (Proc.devRef .tc r) = V (Proc.devRef .tc r) :=
  after_of_writes_sub O2a _ (forall_writes_sub_of_map rfl) h
theorem keep2b (r : Ref sig .tc) (h : r ∉ hostOps0_2_W.drop 31) : after O2b V (Proc.devRef .tc r) = V (Proc.devRef .tc r) :=
  after_of_writes_sub O2b _ (forall_writes_sub_of_map rfl) h
theorem keep3 (r : Ref sig .tc) (h : r ∉ hostOps0_3_W) : after hostOps0_3 V (Proc.devRef .tc r) = V (Proc.devRef .tc r) :=
  after_of_writes_sub hostOps0_3 _ hostOps0_3_writes h
theorem keep4a (r : Ref sig .tc) (h : r ∉ hostOps0_4_W.take 12) : after O4a V (Proc.devRef .tc r) = V (Proc.devRef .tc r) :=
  after_of_writes_sub O4a _ (forall_writes_sub_of_map rfl) h
theorem keep4b (r : Ref sig .tc) (h : r ∉ hostOps0_4_W.drop 12) : after O4b V (Proc.devRef .tc r) = V (Proc.devRef .tc r) :=
  after_of_writes_sub O4b _ (forall_writes_sub_of_map rfl) h
theorem keep5 (r : Ref sig .tc) (h : r ∉ hostOps0_5_W) : after hostOps0_5 V (Proc.devRef .tc r) = V (Proc.devRef .tc r) :=
  after_of_writes_sub hostOps0_5 _ hostOps0_5_writes h
theorem keep6 (r : Ref sig .tc) (h : r ∉ hostOps0_6_W) : after hostOps0_6 V (Proc.devRef .tc r) = V (Proc.devRef .tc r) :=
  after_of_writes_sub hostOps0_6 _ hostOps0_6_writes h

section
variable (m : (ℓ : Loc nD τ sig) → Buf (Elt Ideal) ℓ) (c : Dev nD)

/-- The contents after each stretch. -/
def W0 : Valuation τ sig (Elt Ideal) := entryContents [] m c
def W1 : Valuation τ sig (Elt Ideal) := afterL [hostOps0, hostOps0_1] (W0 m c)
def W2a : Valuation τ sig (Elt Ideal) := after O2a (W1 m c)
def W2b : Valuation τ sig (Elt Ideal) := after O2b (W2a m c)
def W3 : Valuation τ sig (Elt Ideal) := after hostOps0_3 (W2b m c)
def W4a : Valuation τ sig (Elt Ideal) := after O4a (W3 m c)
def W4b : Valuation τ sig (Elt Ideal) := after O4b (W4a m c)
def W5 : Valuation τ sig (Elt Ideal) := after hostOps0_5 (W4b m c)
def W6 : Valuation τ sig (Elt Ideal) := after hostOps0_6 (W5 m c)

theorem entry_W : entryContents (preI (F := Ideal)) m c = afterL [hostOps0_7, hostOps0_8, hostOps0_9, hostOps0_10] (W6 m c) := by
  unfold W6 W5 W4b W4a W3 W2b W2a W1 W0
  rw [← after_cut hostOps0_4 12, ← after_cut hostOps0_2 31]
  rfl

/-- An argument after the stretches. -/
theorem arg_W (r : Ref sig .tc) (h0 : r ∉ hostOps0_W ++ hostOps0_1_W) : W1 m c (Proc.devRef .tc r) = m ((c.tc : Thread nD τ).loc r) := (keep0 _ r h0).trans rfl

theorem W_v33 : W2a m c (Proc.devRef .tc main_v33) = xcv (m ((c.tc : Thread nD τ).loc main_arg0)) (m ((c.tc : Thread nD τ).loc main_arg1)) (m ((c.tc : Thread nD τ).loc main_arg2)) := by
  refine (rd_v33 (W1 m c)).trans ?_
  rw [arg_W m c main_arg1 (by decide), arg_W m c main_arg2 (by decide)]
  exact congrArg (xcvP · _ _) (rd_v2 (W0 m c))

theorem arg_W2a (r : Ref sig .tc) (h0 : r ∉ hostOps0_W ++ hostOps0_1_W) (h2 : r ∉ hostOps0_2_W.take 31) : W2a m c (Proc.devRef .tc r) = m ((c.tc : Thread nD τ).loc r) :=
  (keep2a _ r h2).trans (arg_W m c r h0)

/-- What the stretches between leave alone. -/
theorem keep_W4a (r : Ref sig .tc) (h2 : r ∉ hostOps0_2_W.drop 31) (h3 : r ∉ hostOps0_3_W) (h4 : r ∉ hostOps0_4_W.take 12) : W4a m c (Proc.devRef .tc r) = W2a m c (Proc.devRef .tc r) :=
  (keep4a _ r h4).trans ((keep3 _ r h3).trans (keep2b _ r h2))

theorem arg_W4a (r : Ref sig .tc) (h0 : r ∉ hostOps0_W ++ hostOps0_1_W) (h2 : r ∉ hostOps0_2_W.take 31) (h2' : r ∉ hostOps0_2_W.drop 31) (h3 : r ∉ hostOps0_3_W) (h4 : r ∉ hostOps0_4_W.take 12) :
    W4a m c (Proc.devRef .tc r) = m ((c.tc : Thread nD τ).loc r) :=
  (keep_W4a m c r h2' h3 h4).trans (arg_W2a m c r h0 h2)

theorem keep_W6 (r : Ref sig .tc) (h4 : r ∉ hostOps0_4_W.drop 12) (h5 : r ∉ hostOps0_5_W) (h6 : r ∉ hostOps0_6_W) : W6 m c (Proc.devRef .tc r) = W4a m c (Proc.devRef .tc r) :=
  (keep6 _ r h6).trans ((keep5 _ r h5).trans (keep4b _ r h4))

theorem W_v71 : W3 m c (Proc.devRef .tc main_v71) = mulf (cst 0xC1000000#32) (lgs (gat (xcv (m ((c.tc : Thread nD τ).loc main_arg0)) (m ((c.tc : Thread nD τ).loc main_arg1)) (m ((c.tc : Thread nD τ).loc main_arg2))) (wf (m ((c.tc : Thread nD τ).loc main_arg3))) (vf (m ((c.tc : Thread nD τ).loc main_arg4))))) := by
  refine (keep3 _ main_v71 (by decide)).trans ((rd_v71 (W2a m c)).trans ?_)
  rw [W_v33, arg_W2a m c main_arg3 (by decide) (by decide), arg_W2a m c main_arg4 (by decide) (by decide)]

theorem W_v69 : W3 m c (Proc.devRef .tc main_v69) = lgs (gat (xcv (m ((c.tc : Thread nD τ).loc main_arg0)) (m ((c.tc : Thread nD τ).loc main_arg1)) (m ((c.tc : Thread nD τ).loc main_arg2))) (wf (m ((c.tc : Thread nD τ).loc main_arg5))) (vf (m ((c.tc : Thread nD τ).loc main_arg6)))) := by
  refine (keep3 _ main_v69 (by decide)).trans ((rd_v69 (W2a m c)).trans ?_)
  rw [W_v33, arg_W2a m c main_arg5 (by decide) (by decide), arg_W2a m c main_arg6 (by decide) (by decide)]

theorem W_v73 : W3 m c (Proc.devRef .tc main_v73) = sfp (Host.negf (vf (m ((c.tc : Thread nD τ).loc main_arg7)))) := by
  refine (rd_v73 (W2b m c)).trans (congrArg sfp ((rd_v72 (W2a m c)).trans ?_))
  rw [arg_W2a m c main_arg7 (by decide) (by decide)]

theorem W_v33' : W3 m c (Proc.devRef .tc main_v33) = (xcv (m ((c.tc : Thread nD τ).loc main_arg0)) (m ((c.tc : Thread nD τ).loc main_arg1)) (m ((c.tc : Thread nD τ).loc main_arg2))) :=
  (keep3 _ main_v33 (by decide)).trans ((keep2b _ main_v33 (by decide)).trans (W_v33 m c))

theorem W_v33'' : W4a m c (Proc.devRef .tc main_v33) = (xcv (m ((c.tc : Thread nD τ).loc main_arg0)) (m ((c.tc : Thread nD τ).loc main_arg1)) (m ((c.tc : Thread nD τ).loc main_arg2))) :=
  (keep_W4a m c main_v33 (by decide) (by decide) (by decide)).trans (W_v33 m c)

theorem W_v77 : W6 m c (Proc.devRef .tc main_v77) = dec (gat (xcv (m ((c.tc : Thread nD τ).loc main_arg0)) (m ((c.tc : Thread nD τ).loc main_arg1)) (m ((c.tc : Thread nD τ).loc main_arg2))) (wf (m ((c.tc : Thread nD τ).loc main_arg3))) (vf (m ((c.tc : Thread nD τ).loc main_arg4)))) (vf (m ((c.tc : Thread nD τ).loc main_arg7))) := by
  refine (keep_W6 m c main_v77 (by decide) (by decide) (by decide)).trans ((rd_v77 (W3 m c)).trans ?_)
  rw [W_v71, W_v73]
  rfl

theorem W_v84 : W6 m c (Proc.devRef .tc main_v84) = inp (gat (xcv (m ((c.tc : Thread nD τ).loc main_arg0)) (m ((c.tc : Thread nD τ).loc main_arg1)) (m ((c.tc : Thread nD τ).loc main_arg2))) (wf (m ((c.tc : Thread nD τ).loc main_arg3))) (vf (m ((c.tc : Thread nD τ).loc main_arg4)))) (gat (xcv (m ((c.tc : Thread nD τ).loc main_arg0)) (m ((c.tc : Thread nD τ).loc main_arg1)) (m ((c.tc : Thread nD τ).loc main_arg2))) (wf (m ((c.tc : Thread nD τ).loc main_arg5))) (vf (m ((c.tc : Thread nD τ).loc main_arg6)))) (xcv (m ((c.tc : Thread nD τ).loc main_arg0)) (m ((c.tc : Thread nD τ).loc main_arg1)) (m ((c.tc : Thread nD τ).loc main_arg2))) (vf (m ((c.tc : Thread nD τ).loc main_arg7))) := by
  refine (keep_W6 m c main_v84 (by decide) (by decide) (by decide)).trans ((rd_v84 (W3 m c)).trans ?_)
  rw [W_v71, W_v73, W_v69, W_v33']
  rfl

theorem W_v122 : W5 m c (Proc.devRef .tc main_v122) = mulf (cst 0xC1000000#32) (lgs (gat (xcv (m ((c.tc : Thread nD τ).loc main_arg0)) (m ((c.tc : Thread nD τ).loc main_arg1)) (m ((c.tc : Thread nD τ).loc main_arg2))) (wb (m ((c.tc : Thread nD τ).loc main_arg3))) (vb (m ((c.tc : Thread nD τ).loc main_arg4))))) := by
  refine (keep5 _ main_v122 (by decide)).trans ((rd_v122 (W4a m c)).trans ?_)
  rw [W_v33'', arg_W4a m c main_arg3 (by decide) (by decide) (by decide) (by decide) (by decide), arg_W4a m c main_arg4 (by decide) (by decide) (by decide) (by decide) (by decide)]

theorem W_v120 : W5 m c (Proc.devRef .tc main_v120) = lgs (gat (xcv (m ((c.tc : Thread nD τ).loc main_arg0)) (m ((c.tc : Thread nD τ).loc main_arg1)) (m ((c.tc : Thread nD τ).loc main_arg2))) (wb (m ((c.tc : Thread nD τ).loc main_arg5))) (vb (m ((c.tc : Thread nD τ).loc main_arg6)))) := by
  refine (keep5 _ main_v120 (by decide)).trans ((rd_v120 (W4a m c)).trans ?_)
  rw [W_v33'', arg_W4a m c main_arg5 (by decide) (by decide) (by decide) (by decide) (by decide), arg_W4a m c main_arg6 (by decide) (by decide) (by decide) (by decide) (by decide)]

theorem W_v124 : W5 m c (Proc.devRef .tc main_v124) = sfp (Host.negf (vb (m ((c.tc : Thread nD τ).loc main_arg7)))) := by
  refine (rd_v124 (W4b m c)).trans (congrArg sfp ((rd_v123 (W4a m c)).trans ?_))
  rw [arg_W4a m c main_arg7 (by decide) (by decide) (by decide) (by decide) (by decide)]

theorem W_v128 : W6 m c (Proc.devRef .tc main_v128) = dec (gat (xcv (m ((c.tc : Thread nD τ).loc main_arg0)) (m ((c.tc : Thread nD τ).loc main_arg1)) (m ((c.tc : Thread nD τ).loc main_arg2))) (wb (m ((c.tc : Thread nD τ).loc main_arg3))) (vb (m ((c.tc : Thread nD τ).loc main_arg4)))) (vb (m ((c.tc : Thread nD τ).loc main_arg7))) := by
  refine (rd_v128 (W5 m c)).trans ?_
  rw [W_v122, W_v124]
  rfl

theorem W_v135 : W6 m c (Proc.devRef .tc main_v135) = inp (gat (xcv (m ((c.tc : Thread nD τ).loc main_arg0)) (m ((c.tc : Thread nD τ).loc main_arg1)) (m ((c.tc : Thread nD τ).loc main_arg2))) (wb (m ((c.tc : Thread nD τ).loc main_arg3))) (vb (m ((c.tc : Thread nD τ).loc main_arg4)))) (gat (xcv (m ((c.tc : Thread nD τ).loc main_arg0)) (m ((c.tc : Thread nD τ).loc main_arg1)) (m ((c.tc : Thread nD τ).loc main_arg2))) (wb (m ((c.tc : Thread nD τ).loc main_arg5))) (vb (m ((c.tc : Thread nD τ).loc main_arg6)))) (xcv (m ((c.tc : Thread nD τ).loc main_arg0)) (m ((c.tc : Thread nD τ).loc main_arg1)) (m ((c.tc : Thread nD τ).loc main_arg2))) (vb (m ((c.tc : Thread nD τ).loc main_arg7))) := by
  refine (rd_v135 (W5 m c)).trans ?_
  rw [W_v122, W_v124, W_v120, show W5 m c (Proc.devRef .tc main_v33) = (xcv (m ((c.tc : Thread nD τ).loc main_arg0)) (m ((c.tc : Thread nD τ).loc main_arg1)) (m ((c.tc : Thread nD τ).loc main_arg2))) from (keep5 _ main_v33 (by decide)).trans ((keep4b _ main_v33 (by decide)).trans (W_v33'' m c))]
  rfl

/-- The decays that the loop reads. -/
theorem entry_dec : entryContents (preI (F := Ideal)) m c (Proc.devRef .tc main_v148_0) = decS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) := by
  rw [entry_W]
  refine (rd_v148_0 (W6 m c)).trans ?_
  rw [W_v77, W_v128]
  rfl

/-- The inputs that the loop reads. -/
theorem entry_inp : entryContents (preI (F := Ideal)) m c (Proc.devRef .tc main_v148_1) = inpS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [entry_W]
  refine (rd_v148_1 (W6 m c)).trans ?_
  rw [W_v84, W_v135]
  rfl
end

end Cert.ReferenceScanIdeal.Value

end
-- ==== Proof.ScanMath.lean ====
/- The mathematics of the RG-LRU over real coefficients: the gates, the sequential recurrence, and the doubling scan within eight rows. -/
module

public import Idealize.ShloMosaic.PureOps.Ideal
public import Idealize.ShloMosaic.Lib.IdealHost

@[expose] public section

set_option maxRecDepth 16384

noncomputable section

namespace Cert.Proof.Scan

open Idealize.ShloMosaic

/-! ## The recurrence -/

/-- The states of `h ↦ α t · h + β t` from `h`. -/
def seq (h : EReal) (α β : ℕ → ℝ) : ℕ → EReal
  | 0 => h
  | t + 1 => (α t : EReal) * seq h α β t + (β t : EReal)

/-- The product of `n` coefficients from `s`. -/
def cA (α : ℕ → ℝ) (s : ℕ) : ℕ → ℝ
  | 0 => 1
  | n + 1 => α (s + n) * cA α s n

/-- What `n` steps from `s` add. -/
def cB (α β : ℕ → ℝ) (s : ℕ) : ℕ → ℝ
  | 0 => 0
  | n + 1 => α (s + n) * cB α β s n + β (s + n)

/-- A real factor that is not negative distributes over any sum. -/
theorem coe_distrib (a : ℝ) (h : 0 ≤ a) (x y : EReal) : (a : EReal) * (x + y) = a * x + a * y :=
  EReal.left_distrib_of_nonneg_of_ne_top (EReal.coe_nonneg.mpr h) (EReal.coe_ne_top a) x y

/-- `n` steps from `s` are one step with the composed coefficients. -/
theorem seq_add (h : EReal) (α β : ℕ → ℝ) (hα : ∀ t, 0 ≤ α t) (s n : ℕ) :
    seq h α β (s + n) = (cA α s n : EReal) * seq h α β s + (cB α β s n : EReal) := by
  induction n with
  | zero => simp [cA, cB]
  | succ n ih =>
    rw [← Nat.add_assoc]
    simp only [seq, cA, cB]
    rw [ih, coe_distrib _ (hα _), EReal.coe_mul, EReal.coe_add, EReal.coe_mul, mul_assoc, add_assoc]

/-- The composed product from `s` reads the coefficients from `s` on. -/
theorem cA_shift (α : ℕ → ℝ) (s n : ℕ) : cA α s n = cA (fun t => α (s + t)) 0 n := by
  induction n with
  | zero => rfl
  | succ n ih => simp only [cA, ih, Nat.zero_add]

/-- The composed sum from `s` reads the coefficients from `s` on. -/
theorem cB_shift (α β : ℕ → ℝ) (s n : ℕ) : cB α β s n = cB (fun t => α (s + t)) (fun t => β (s + t)) 0 n := by
  induction n with
  | zero => rfl
  | succ n ih => simp only [cB, ih, Nat.zero_add]

/-! ## The doubling scan within eight rows -/

/-- A forward doubling step of the products. -/
def dA (k : ℕ) (α : Fin 8 → ℝ) (i : Fin 8) : ℝ := α i * (if i.val < k then 1 else α ⟨(i.val + 8 - k) % 8, by omega⟩)

/-- A forward doubling step of the sums. -/
def dB (k : ℕ) (α β : Fin 8 → ℝ) (i : Fin 8) : ℝ := β i + (if i.val < k then 0 else α i * β ⟨(i.val + 8 - k) % 8, by omega⟩)

/-- A backward doubling step of the products. -/
def eA (k : ℕ) (α : Fin 8 → ℝ) (i : Fin 8) : ℝ := α i * (if i.val < k then α ⟨(i.val + 8 - k) % 8, by omega⟩ else 1)

/-- A backward doubling step of the sums. -/
def eB (k : ℕ) (α β : Fin 8 → ℝ) (i : Fin 8) : ℝ := β i + (if i.val < k then α i * β ⟨(i.val + 8 - k) % 8, by omega⟩ else 0)

/-- Three forward steps compose the products of all rows up to one. -/
theorem dA_three (α : ℕ → ℝ) (i : Fin 8) :
    dA 4 (dA 2 (dA 1 fun j => α j.val)) i = cA α 0 (i.val + 1) := by
  fin_cases i <;> simp [dA, cA] <;> ring

/-- Three forward steps compose the sums of all rows up to one. -/
theorem dB_three (α β : ℕ → ℝ) (i : Fin 8) :
    dB 4 (dA 2 (dA 1 fun j => α j.val)) (dB 2 (dA 1 fun j => α j.val) (dB 1 (fun j => α j.val) fun j => β j.val)) i = cB α β 0 (i.val + 1) := by
  fin_cases i <;> simp [dA, dB, cB] <;> ring

/-- Three backward steps compose the products of all rows from the last down to one. -/
theorem eA_three (α : ℕ → ℝ) (i : Fin 8) :
    eA 4 (eA 6 (eA 7 fun j => α (7 - j.val))) i = cA α 0 (8 - i.val) := by
  fin_cases i <;> simp [eA, cA] <;> ring

/-- Three backward steps compose the sums of all rows from the last down to one. -/
theorem eB_three (α β : ℕ → ℝ) (i : Fin 8) :
    eB 4 (eA 6 (eA 7 fun j => α (7 - j.val))) (eB 6 (eA 7 fun j => α (7 - j.val)) (eB 7 (fun j => α (7 - j.val)) fun j => β (7 - j.val))) i = cB α β 0 (8 - i.val) := by
  fin_cases i <;> simp [eA, eB, cB] <;> ring

/-! ## The gates -/

/-- The logistic function, at the infinities its limits. -/
def sg : EReal → ℝ
  | ⊥ => 0
  | ⊤ => 1
  | (r : ℝ) => (1 + Real.exp (-r))⁻¹

theorem sg_bot : sg ⊥ = 0 := rfl
theorem sg_top : sg ⊤ = 1 := rfl
theorem sg_coe (r : ℝ) : sg r = (1 + Real.exp (-r))⁻¹ := rfl

/-- The logistic function is not negative. -/
theorem sg_nonneg (g : EReal) : 0 ≤ sg g := by
  induction g with
  | bot => exact le_refl _
  | top => exact zero_le_one
  | coe r => exact inv_nonneg.mpr (by positivity)

/-- The quotient that the reference writes is the logistic function. -/
theorem sg_ref (g : EReal) : Ideal.div 1 (1 + Ideal.exp (-g)) = (sg g : EReal) := by
  induction g with
  | bot =>
    rw [EReal.neg_bot, Ideal.exp_top, EReal.add_top_of_ne_bot (show (1 : EReal) ≠ ⊥ from EReal.coe_ne_bot 1)]
    rw [sg_bot]
    simp [Ideal.div]
  | top =>
    rw [EReal.neg_top, Ideal.exp_bot, add_zero, Ideal.div, if_neg one_ne_zero, one_mul, ← EReal.coe_one, ← EReal.coe_inv, inv_one]
    rfl
  | coe r =>
    have h : (1 + Real.exp (-r) : ℝ) ≠ 0 := by positivity
    rw [← EReal.coe_neg, Ideal.exp_coe, ← EReal.coe_one, ← EReal.coe_add, Ideal.div_coe h, ← EReal.coe_mul, one_mul, one_div]
    rfl

/-- The hyperbolic tangent of half an argument is twice the logistic function less one. -/
theorem sg_ker (g : EReal) : Ideal.tanh (((1 / 2 : ℝ) : EReal) * g) = ((2 * sg g - 1 : ℝ) : EReal) := by
  induction g with
  | bot =>
    rw [EReal.coe_mul_bot_of_pos (by norm_num), Ideal.tanh_bot, sg_bot]
    norm_num
  | top =>
    rw [EReal.coe_mul_top_of_pos (by norm_num), Ideal.tanh_top, sg_top]
    norm_num
  | coe r =>
    rw [← EReal.coe_mul, Ideal.tanh_coe]
    refine congrArg _ ?_
    have h1 := Real.exp_pos (1 / 2 * r)
    have h2 : Real.exp (-(1 / 2 * r)) = (Real.exp (1 / 2 * r))⁻¹ := Real.exp_neg _
    have h3 : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, h2]
    rw [sg_coe, h3]
    have h4 : Real.exp (1 / 2 * r) ^ 2 + 1 ≠ 0 := by positivity
    field_simp
    ring

/-- The softplus of the negated argument. -/
def sp (l : ℝ) : ℝ := max (-l) 0 + Real.log (1 + Real.exp (-|l|))

/-- The kernel's softplus. -/
theorem sp_ker (l : ℝ) : max (0 - (l : EReal)) 0 + Ideal.log (1 + Ideal.exp (0 - max (l : EReal) (-(l : EReal)))) = (sp l : EReal) := by
  have h : ¬ (1 + Real.exp (-|l|) ≤ 0) := not_le.mpr (by positivity)
  have h1 : max (l : EReal) (-(l : EReal)) = ((|l| : ℝ) : EReal) := by
    rw [← EReal.coe_neg, abs_eq_max_neg]; exact (EReal.coe_strictMono.monotone.map_max).symm
  have h2 : max (0 - (l : EReal)) 0 = ((max (-l) 0 : ℝ) : EReal) := by
    rw [zero_sub, ← EReal.coe_neg, ← EReal.coe_zero]; exact (EReal.coe_strictMono.monotone.map_max).symm
  rw [h1, h2, zero_sub, ← EReal.coe_neg, Ideal.exp_coe, ← EReal.coe_one, ← EReal.coe_add, Ideal.log_coe, if_neg h, ← EReal.coe_add]
  rfl

/-- The reference's softplus. -/
theorem sp_ref (l : ℝ) : max (-(l : EReal)) 0 + Ideal.log (1 + Ideal.exp (-(max (-(l : EReal) - 0) (-(-(l : EReal) - 0))))) = (sp l : EReal) := by
  rw [← sp_ker, sub_zero, neg_neg, zero_sub, zero_sub, max_comm (-(l : EReal)) (l : EReal)]

/-- The decay. -/
def al (l : ℝ) (g : EReal) : ℝ := Real.exp (-8 * sg g * sp l)

/-- The input's coefficient. -/
def be (l : ℝ) (g gi : EReal) (x : ℝ) : ℝ := Real.sqrt (1 - al l g * al l g) * (sg gi * x)

/-- The decay is not negative. -/
theorem al_nonneg (l : ℝ) (g : EReal) : 0 ≤ al l g := (Real.exp_pos _).le

/-- The softplus is not negative. -/
theorem sp_nonneg (l : ℝ) : 0 ≤ sp l :=
  add_nonneg (le_max_right _ _) (Real.log_nonneg (by linarith [Real.exp_pos (-|l|)]))

/-- The decay is at most one. -/
theorem al_le_one (l : ℝ) (g : EReal) : al l g ≤ 1 :=
  Real.exp_le_one_iff.mpr (by nlinarith [mul_nonneg (sg_nonneg g) (sp_nonneg l)])

/-- The square of the decay leaves a root. -/
theorem one_sub_nonneg (l : ℝ) (g : EReal) : ¬ (1 - al l g * al l g < 0) :=
  not_lt.mpr (by nlinarith [al_nonneg l g, al_le_one l g])

/-- The kernel's decay. -/
theorem al_ker (l : ℝ) (g : EReal) :
    Ideal.exp ((((-4 : ℝ) : EReal) * (sp l : EReal)) * Ideal.tanh (((1 / 2 : ℝ) : EReal) * g) + ((-4 : ℝ) : EReal) * (sp l : EReal)) = (al l g : EReal) := by
  rw [sg_ker, ← EReal.coe_mul, ← EReal.coe_mul, ← EReal.coe_add, Ideal.exp_coe]
  refine congrArg _ (congrArg Real.exp ?_)
  ring

/-- The reference's decay. -/
theorem al_ref (l : ℝ) (g : EReal) :
    Ideal.exp ((((-8 : ℝ) : EReal) * (sg g : EReal)) * (sp l : EReal)) = (al l g : EReal) := by
  rw [← EReal.coe_mul, ← EReal.coe_mul, Ideal.exp_coe]
  rfl

/-- The kernel's coefficient of the input. -/
theorem be_ker (l : ℝ) (g gi : EReal) (x : ℝ) :
    Ideal.sqrt (1 - (al l g : EReal) * (al l g : EReal)) * ((((1 / 2 : ℝ) : EReal) * (x : EReal)) * Ideal.tanh (((1 / 2 : ℝ) : EReal) * gi) + ((1 / 2 : ℝ) : EReal) * (x : EReal))
      = (be l g gi x : EReal) := by
  rw [sg_ker, ← EReal.coe_mul, ← EReal.coe_mul, ← EReal.coe_mul, ← EReal.coe_add, ← EReal.coe_one, ← EReal.coe_sub, Ideal.sqrt_coe, if_neg (one_sub_nonneg l g), ← EReal.coe_mul]
  refine congrArg _ (congrArg (Real.sqrt (1 - al l g * al l g) * ·) ?_)
  ring

/-- The reference's coefficient of the input. -/
theorem be_ref (l : ℝ) (g gi : EReal) (x : ℝ) :
    Ideal.sqrt (-(Ideal.exp (((2 : ℝ) : EReal) * ((((-8 : ℝ) : EReal) * (sg g : EReal)) * (sp l : EReal))) - 1)) * ((sg gi : EReal) * (x : EReal)) = (be l g gi x : EReal) := by
  rw [← EReal.coe_mul, ← EReal.coe_mul, ← EReal.coe_mul, ← EReal.coe_mul, Ideal.exp_coe, ← EReal.coe_one, ← EReal.coe_sub, ← EReal.coe_neg]
  have h : -(Real.exp (2 * (-8 * sg g * sp l)) - 1) = 1 - al l g * al l g := by
    rw [show 2 * (-8 * sg g * sp l) = (-8 * sg g * sp l) + (-8 * sg g * sp l) by ring, Real.exp_add]
    simp only [al]; ring
  rw [h, Ideal.sqrt_coe, if_neg (one_sub_nonneg l g), ← EReal.coe_mul]
  rfl

/-! ## The constants -/

theorem c_zero : Ideal.ofBits .f32 0x00000000#32 = 0 := by simp [Ideal.ofBits, Ideal.ieee]
theorem c_one : Ideal.ofBits .f32 0x3F800000#32 = 1 := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_half : Ideal.ofBits .f32 0x3F000000#32 = ((1 / 2 : ℝ) : EReal) := by simp [Ideal.ofBits, Ideal.ieee, -EReal.coe_mul]; norm_num
theorem c_m4 : Ideal.ofBits .f32 0xC0800000#32 = ((-4 : ℝ) : EReal) := by simp [Ideal.ofBits, Ideal.ieee, -EReal.coe_mul]; norm_num
theorem c_m8 : Ideal.ofBits .f32 0xC1000000#32 = ((-8 : ℝ) : EReal) := by simp [Ideal.ofBits, Ideal.ieee, -EReal.coe_mul]; norm_num
theorem c_inf : Ideal.ofBits .f32 0x7F800000#32 = ⊤ := by simp [Ideal.ofBits, Ideal.ieee]

end Cert.Proof.Scan

end
-- ==== Proof.RefLoop.lean ====
/- The reference's loop: the recurrence of each row and column, position by position. -/
module

public import proofs.«01_k».proof.Proof.RefEntry
public import proofs.«01_k».proof.Proof.ScanMath
public import Idealize.ShloMosaic.Lib.Pipeline.ValueKit
public import Idealize.ShloMosaic.Lib.DynamicIndex

@[expose] public section

set_option maxRecDepth 16384

noncomputable section

namespace Cert.ReferenceScanIdeal.Value

open Cert.ReferenceScanIdeal Cert.ReferenceScanIdeal.Gen Idealize.ShloMosaic Idealize.ShloMosaic.TcCoe Idealize.SL.Sem Idealize.ShloMosaic.StableHlo Cert.Proof.Scan

theorem toIntv (k : ℕ) (hk : k < 4096) : (BitVec.ofNat 32 k).toInt = (k : Int) := by
  rw [BitVec.toInt_eq_toNat_of_lt] <;> rw [BitVec.toNat_ofNat] <;> omega

/-- A row of a stacked array at the loop's position. -/
theorem dsl (x : FVec Ideal S4096x8x2048 .f32) (k : ℕ) (hk : k < 4096) (r : Fin 8) (y : Fin 2048) :
    shapeCast S8x2048 (Host.dynamicSlice S1x8x2048 x (fun a => (((![(fun _ => BitVec.ofNat 32 k), constantI S_ 32 0#32, constantI S_ 32 0#32] : Fin 3 → (⟨S_, .i32⟩ : BufTy).Contents (Elt Ideal))) a (Shape.Idx.first h_S_)).toInt) sliceFits_S4096x8x2048_S1x8x2048) shapeCasts_S1x8x2048_S8x2048 (ix2 r y)
      = x (ix3 (⟨k, hk⟩ : Fin 4096) r y) := by
  have hs : S4096x8x2048.Slices ![k, 0, 0] S1x8x2048 := ⟨rfl, fun a => by fin_cases a <;> simp [Shape.size] <;> omega⟩
  rw [Host.dynamicSlice_eq_extractStridedSlice S1x8x2048 x _ ![k, 0, 0] _ hs (fun a => by
    fin_cases a
    · exact toIntv k hk
    · rfl
    · rfl)]
  pointwise

/-- The stored states after a row is stored at the loop's position. -/
theorem dus (x : FVec Ideal S4096x8x2048 .f32) (u : FVec Ideal S1x8x2048 .f32) (k : ℕ) (hk : k < 4096) (s : Fin 4096) (r : Fin 8) (y : Fin 2048) :
    Host.dynamicUpdateSlice x u (fun a => (((![(fun _ => BitVec.ofNat 32 k), constantI S_ 32 0#32, constantI S_ 32 0#32] : Fin 3 → (⟨S_, .i32⟩ : BufTy).Contents (Elt Ideal))) a (Shape.Idx.first h_S_)).toInt) updateFits_S4096x8x2048_S1x8x2048 (ix3 s r y)
      = if s.val = k then u (ix3 0 r y) else x (ix3 s r y) := by
  have hs : S4096x8x2048.Slices ![k, 0, 0] S1x8x2048 := ⟨rfl, fun a => by fin_cases a <;> simp [Shape.size] <;> omega⟩
  rw [Host.dynamicUpdateSlice_eq_updateSlice x u _ _ ![k, 0, 0] (fun a => by
    fin_cases a
    · show (min (max (BitVec.ofNat 32 k).toInt 0) ((4096 - 1 : ℕ) : Int)).toNat = k
      rw [toIntv k hk]
      omega
    · rfl
    · rfl) hs]
  rw [updateSlice_apply]
  by_cases e : s.val = k
  · rw [if_pos e, dif_pos (fun a => by
      fin_cases a
      · show k ≤ s.val ∧ s.val < k + 1
        omega
      · exact ⟨Nat.zero_le _, by show r.val < 0 + 8; omega⟩
      · exact ⟨Nat.zero_le _, by show y.val < 0 + 2048; omega⟩)]
    refine congrArg u (funext fun a => Fin.ext ?_)
    fin_cases a
    · show s.val - k = 0
      omega
    · rfl
    · rfl
  · rw [if_neg e, dif_neg (fun h => e (by
      have : k ≤ s.val ∧ s.val < k + 1 := h 0
      omega))]

/-- The loop's counter, the states it carries and the states it has stored, after `k` trips. -/
theorem loop_v (E : Valuation τ sig (Elt Ideal)) (r : Fin 8) (y : Fin 2048) (h0 : EReal) (α β : ℕ → ℝ)
    (hc : E (Proc.devRef .tc main_v148_2) = fun _ => (0#32 : BitVec 32))
    (hh : (E (Proc.devRef .tc main_v148_3) : FVec Ideal S8x2048 .f32) (ix2 r y) = h0)
    (ha : ∀ t : Fin 4096, (E (Proc.devRef .tc main_v148_0) : FVec Ideal S4096x8x2048 .f32) (ix3 t r y) = (α t.val : EReal))
    (hb : ∀ t : Fin 4096, (E (Proc.devRef .tc main_v148_1) : FVec Ideal S4096x8x2048 .f32) (ix3 t r y) = (β t.val : EReal)) :
    ∀ k ≤ 4096, (STEP^[k] E) (Proc.devRef .tc main_v148_2) = (fun _ => BitVec.ofNat 32 k)
      ∧ (STEP^[k] E) (Proc.devRef .tc main_v148_0) = E (Proc.devRef .tc main_v148_0)
      ∧ (STEP^[k] E) (Proc.devRef .tc main_v148_1) = E (Proc.devRef .tc main_v148_1)
      ∧ ((STEP^[k] E) (Proc.devRef .tc main_v148_3) : FVec Ideal S8x2048 .f32) (ix2 r y) = seq h0 α β k
      ∧ ∀ s : Fin 4096, s.val < k → ((STEP^[k] E) (Proc.devRef .tc main_v148_4) : FVec Ideal S4096x8x2048 .f32) (ix3 s r y) = seq h0 α β (s.val + 1)
  | 0, _ => ⟨hc, rfl, rfl, hh, fun s hs => absurd hs (Nat.not_lt_zero _)⟩
  | k + 1, hk => by
    obtain ⟨i2, i0, i1, i3, i4⟩ := loop_v E r y h0 α β hc hh ha hb k (by omega)
    rw [Function.iterate_succ_apply']
    generalize STEP^[k] E = V at i2 i0 i1 i3 i4 ⊢
    have hr : (res_main_while0b_v178 V : FVec Ideal S8x2048 .f32) (ix2 r y) = seq h0 α β (k + 1) := by
      unfold res_main_while0b_v178
      rw [i2, i0, i1]
      refine (congrArg₂ (fun a b => a * (V (Proc.devRef .tc main_v148_3) : FVec Ideal S8x2048 .f32) (ix2 r y) + b) ((dsl _ k (by omega) r y).trans (ha _)) ((dsl _ k (by omega) r y).trans (hb _))).trans ?_
      rw [i3]
      rfl
    refine ⟨?_, ?_, ?_, ?_, fun s hs => ?_⟩
    · rw [STEP_main_v148_2]
      unfold step_main_v148_2
      rw [i2]
      funext z
      show BitVec.ofNat 32 k + 1#32 = BitVec.ofNat 32 (k + 1)
      rw [BitVec.ofNat_add]
    · rw [STEP_main_v148_0, i0]
    · rw [STEP_main_v148_1, i1]
    · rw [STEP_main_v148_3]
      exact hr
    · rw [STEP_main_v148_4]
      unfold step_main_v148_4
      rw [i2]
      refine (dus _ _ k (by omega) s r y).trans ?_
      by_cases e : s.val = k
      · rw [if_pos e, e]
        refine .trans ?_ hr
        pointwise
      · rw [if_neg e]
        exact i4 s (by omega)

end Cert.ReferenceScanIdeal.Value

end
-- ==== Proof.RefVals.lean ====
/- The reference's arrays entry by entry: the short convolution, the gates, the decays and the inputs. -/
module

public import proofs.«01_k».proof.Proof.RefLoop

@[expose] public section

set_option maxRecDepth 16384

noncomputable section

namespace Cert.ReferenceScanIdeal.Value

open Cert.ReferenceScanIdeal Cert.ReferenceScanIdeal.Gen Idealize.ShloMosaic Idealize.ShloMosaic.TcCoe Idealize.SL.Sem Idealize.ShloMosaic.StableHlo Cert.Proof.Scan

section
variable (a0 : FVec Ideal S4x4096x4096 .f32) (a1 : FVec Ideal S4x2048 .f32) (a2 : FVec Ideal S2048 .f32)

/-- The entry of the recurrence half of the projection `n` rows into a padded grid row: zero beyond the row's ends. -/
theorem pad_v (g : Fin 256) (n : Fin 67) (k : Fin 2048) : padded a0 (ix3 g n k)
    = if h : 2 ≤ n.val ∧ n.val < 66 then a0 (ix3 (⟨g.val / 64, by omega⟩ : Fin 4) (⟨g.val % 64 * 64 + (n.val - 2), by omega⟩ : Fin 4096) (⟨k.val + 2048, by omega⟩ : Fin 4096)) else 0 := by
  pointwise [padded]
  by_cases h : 2 ≤ n.val ∧ n.val < 66
  · rw [dif_pos h, dif_pos ⟨h.1, by omega⟩]
    exact congrArg (fun k => a0 (ix3 _ _ k)) (Fin.ext (Nat.add_comm _ _))
  · rw [dif_neg h, dif_neg (fun h' => h ⟨h'.1, by omega⟩)]
    show (((0#32 : BitVec 32).toInt : ℝ) : EReal) = 0
    simp

/-- The recurrence half of the projection at a position. -/
abbrev half (b : Fin 4) (s : ℕ) (k : Fin 2048) : EReal := a0 (ix3 b (⟨s % 4096, by omega⟩ : Fin 4096) (⟨k.val + 2048, by omega⟩ : Fin 4096))

/-- The short convolution at a position: two positions before it in its grid row, itself and one after. -/
def cvR (b : Fin 4) (s : ℕ) (k : Fin 2048) : EReal :=
  a2 (ix1 k) + a1 (ix2 0 k) * (if 2 ≤ s % 64 then half a0 b (s - 2) k else 0) + a1 (ix2 1 k) * (if 1 ≤ s % 64 then half a0 b (s - 1) k else 0)
    + a1 (ix2 2 k) * half a0 b s k + a1 (ix2 3 k) * (if s % 64 < 63 then half a0 b (s + 1) k else 0)

/-- A tap of the convolution. -/
theorem tap (b : Fin 4) (s : Fin 4096) (k : Fin 2048) (n : ℕ) (hn : n < 4) (g : Fin 256) (hg : g.val = b.val * 64 + s.val / 64) (q : Fin 67) (hq : q.val = n + s.val % 64) :
    padded a0 (ix3 g q k) = if 2 ≤ n + s.val % 64 ∧ n + s.val % 64 < 66 then half a0 b (s.val + n - 2) k else 0 := by
  rw [pad_v]
  by_cases h : 2 ≤ n + s.val % 64 ∧ n + s.val % 64 < 66
  · rw [if_pos h, dif_pos (by omega)]
    exact congrArg₂ (fun b s => a0 (ix3 b s _)) (Fin.ext (by dsimp only; omega)) (Fin.ext (by dsimp only; omega))
  · rw [if_neg h, dif_neg (by omega)]

/-- The short convolution's entries. -/
theorem xcv_v (b : Fin 4) (s : Fin 4096) (k : Fin 2048) : xcv a0 a1 a2 (ix3 b s k) = cvR a0 a1 a2 b s.val k := by
  pointwise [xcv, xcvP, grd]
  rw [tap a0 b s k 0 (by omega) _ rfl _ (by dsimp only; omega), tap a0 b s k 1 (by omega) _ rfl _ (by dsimp only), tap a0 b s k 2 (by omega) _ rfl _ (by dsimp only), tap a0 b s k 3 (by omega) _ rfl _ (by dsimp only)]
  unfold cvR
  have h64 : s.val % 64 < 64 := Nat.mod_lt _ (by decide)
  have e0 : (2 ≤ 0 + s.val % 64 ∧ 0 + s.val % 64 < 66) ↔ 2 ≤ s.val % 64 := by omega
  have e1 : (2 ≤ 1 + s.val % 64 ∧ 1 + s.val % 64 < 66) ↔ 1 ≤ s.val % 64 := by omega
  have e2 : (2 ≤ 2 + s.val % 64 ∧ 2 + s.val % 64 < 66) ↔ True := by rw [iff_true]; omega
  have e3 : (2 ≤ 3 + s.val % 64 ∧ 3 + s.val % 64 < 66) ↔ s.val % 64 < 63 := by omega
  rw [if_congr e0 rfl rfl, if_congr e1 rfl rfl, if_congr e2 rfl rfl, if_congr e3 rfl rfl, if_pos trivial, show s.val + 1 - 2 = s.val - 1 by omega]
  rfl

/-- An extended real that is a real number. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.ite {x : EReal} {p : Prop} [Decidable p] (h : IsR x) : IsR (if p then x else 0) := by
  by_cases e : p
  · rw [if_pos e]; exact h
  · rw [if_neg e]; exact ⟨0, rfl⟩
theorem IsR.eq {x : EReal} : IsR x → x = (x.toReal : EReal) := fun ⟨a, ha⟩ => by rw [ha, EReal.toReal_coe]

/-- Finite inputs make a finite convolution. -/
theorem cvR_real (h0 : ∀ b s k, IsR (half a0 b s k)) (h1 : ∀ n k, IsR (a1 (ix2 n k))) (h2 : ∀ k, IsR (a2 (ix1 k))) (b : Fin 4) (s : ℕ) (k : Fin 2048) :
    IsR (cvR a0 a1 a2 b s k) :=
  ((((h2 k).add ((h1 0 k).mul (h0 b _ k).ite)).add ((h1 1 k).mul (h0 b _ k).ite)).add ((h1 2 k).mul (h0 b _ k))).add ((h1 3 k).mul (h0 b _ k).ite)

/-- The softplus term of a real parameter. -/
theorem sfp_v (l : ℝ) : (if -(l : EReal) ≠ -(l : EReal) then -(l : EReal) else max (-(l : EReal)) 0 + Ideal.log1p (Ideal.exp (-FloatOps.absf (F := Ideal) (φ := .f32) (-(l : EReal))))) = (sp l : EReal) := by
  rw [if_neg (fun h => h rfl), ← sp_ref, sub_zero]
  rfl

/-- A gate before the logistic function: its head's weights over the head's own channels. -/
theorem gat_v (x : FVec Ideal S4x4096x2048 .f32) (w : FVec Ideal S16x128x128 .f32) (v : FVec Ideal S2048 .f32) (b : Fin 4) (s : Fin 4096) (y : Fin 2048) :
    gat x w v (ix3 b s y) = (∑ i : Fin 128, w (ix3 (⟨y.val / 128, by omega⟩ : Fin 16) i (⟨y.val % 128, by omega⟩ : Fin 128)) * x (ix3 b s (⟨y.val / 128 * 128 + i.val, by omega⟩ : Fin 2048))) + v (ix1 y) := by
  pointwise [gat, chn]

/-- A decay. -/
theorem dec_v (g : FVec Ideal S4x4096x2048 .f32) (l : FVec Ideal S2048 .f32) (b : Fin 4) (s : Fin 4096) (y : Fin 2048) (l0 : ℝ) (hl : l (ix1 y) = (l0 : EReal)) :
    dec g l (ix3 b s y) = (al l0 (g (ix3 b s y)) : EReal) := by
  pointwise [dec, lga, lgs, cst, chn, sfp]
  rw [hl, sfp_v, c_m8, sg_ref, al_ref]

/-- An input of the recurrence. -/
theorem inp_v (g gi x : FVec Ideal S4x4096x2048 .f32) (l : FVec Ideal S2048 .f32) (b : Fin 4) (s : Fin 4096) (y : Fin 2048) (l0 x0 : ℝ) (hl : l (ix1 y) = (l0 : EReal)) (hx : x (ix3 b s y) = (x0 : EReal)) :
    inp g gi x l (ix3 b s y) = (be l0 (g (ix3 b s y)) (gi (ix3 b s y)) x0 : EReal) := by
  pointwise [inp, lga, lgs, cst, chn, sfp]
  rw [hl, hx, sfp_v, c_m8, c_two, sg_ref, sg_ref, be_ref]

/-- A stacked entry: the first four rows go forward, the last four backward. -/
theorem stk_v (f q : FVec Ideal S4x4096x2048 .f32) (t : Fin 4096) (r : Fin 8) (y : Fin 2048) :
    stk f q (ix3 t r y) = if h : r.val < 4 then f (ix3 (⟨r.val, h⟩ : Fin 4) t y) else q (ix3 (⟨r.val - 4, by omega⟩ : Fin 4) (⟨4095 - t.val, by omega⟩ : Fin 4096) y) := by
  pointwise [stk]
  by_cases h : r.val < 4
  · rw [dif_pos h, dif_pos h]
  · rw [dif_neg h, dif_neg h]
    show q (ix3 _ t.rev y) = _
    exact congrArg (fun t => q (ix3 _ t y)) (Fin.ext (by rw [Fin.val_rev]; dsimp only; omega))

/-- A state that the loop starts from. -/
theorem ini_v (h0 : FVec Ideal S4x2x2048 .f32) (r : Fin 8) (y : Fin 2048) :
    iniS h0 (ix2 r y) = if h : r.val < 4 then h0 (ix3 (⟨r.val, h⟩ : Fin 4) 0 y) else h0 (ix3 (⟨r.val - 4, by omega⟩ : Fin 4) 1 y) := by
  pointwise [iniS]
end

end Cert.ReferenceScanIdeal.Value

end
-- ==== Proof.RefResult.lean ====
/- What the reference's run leaves in its results: the two directions of the recurrence, gated, and their last states. -/
module

public import proofs.«01_k».proof.Proof.RefVals
public import proofs.«01_k».proof.Proof.RefEntry

@[expose] public section

set_option maxRecDepth 16384

noncomputable section

namespace Cert.ReferenceScanIdeal.Value

open Cert.ReferenceScanIdeal Cert.ReferenceScanIdeal.Gen Idealize.ShloMosaic Idealize.ShloMosaic.TcCoe Idealize.SL.Sem Idealize.ShloMosaic.StableHlo Cert.Proof.Scan

section
variable (a0 : FVec Ideal S4x4096x4096 .f32) (a1 : FVec Ideal S4x2048 .f32) (a2 : FVec Ideal S2048 .f32) (a3 : FVec Ideal S2x16x128x128 .f32) (a4 : FVec Ideal S2x2048 .f32)
  (a5 : FVec Ideal S2x16x128x128 .f32) (a6 : FVec Ideal S2x2048 .f32) (a7 : FVec Ideal S2x2048 .f32) (a8 : FVec Ideal S4x2x2048 .f32)

/-- The inputs that must be finite are. -/
structure Fin0 : Prop where
  h0 : ∀ b s k, IsR (half a0 b s k)
  h1 : ∀ n k, IsR (a1 (ix2 n k))
  h2 : ∀ k, IsR (a2 (ix1 k))
  h7 : ∀ d k, IsR (a7 (ix2 d k))

/-- A gate of a direction at a position, before the logistic function. -/
def gw (w : FVec Ideal S2x16x128x128 .f32) (v : FVec Ideal S2x2048 .f32) (d : Fin 2) (b : Fin 4) (s : ℕ) (y : Fin 2048) : EReal :=
  (∑ i : Fin 128, w (ix4 d (⟨y.val / 128, by omega⟩ : Fin 16) i (⟨y.val % 128, by omega⟩ : Fin 128)) * cvR a0 a1 a2 b s (⟨y.val / 128 * 128 + i.val, by omega⟩ : Fin 2048)) + v (ix2 d y)

/-- A direction's position at a step of the recurrence: the backward direction starts from the last. -/
def pos (d : Fin 2) (t : ℕ) : ℕ := if d = 0 then t else 4095 - t

/-- The decay of a direction at a step. -/
def alR (d : Fin 2) (b : Fin 4) (y : Fin 2048) (t : ℕ) : ℝ := al (a7 (ix2 d y)).toReal (gw a0 a1 a2 a3 a4 d b (pos d t) y)

/-- The input of a direction at a step. -/
def beR (d : Fin 2) (b : Fin 4) (y : Fin 2048) (t : ℕ) : ℝ :=
  be (a7 (ix2 d y)).toReal (gw a0 a1 a2 a3 a4 d b (pos d t) y) (gw a0 a1 a2 a5 a6 d b (pos d t) y) (cvR a0 a1 a2 b (pos d t) y).toReal

/-- A direction's state after a number of steps. -/
def staR (d : Fin 2) (b : Fin 4) (y : Fin 2048) (n : ℕ) : EReal := seq (a8 (ix3 b d y)) (alR a0 a1 a2 a3 a4 a7 d b y) (beR a0 a1 a2 a3 a4 a5 a6 a7 d b y) n

/-- The gate's activation. -/
def glR (g : EReal) : EReal :=
  g * (Ideal.ofBits .f32 0x3F000000#32 * (1 + Ideal.tanh (Ideal.ofBits .f32 0x3F4C422A#32 * (g + Ideal.ofBits .f32 0x3D372713#32 * ((g * g) * g)))))

/-- The gated output at a position. -/
def yR (b : Fin 4) (s : Fin 4096) (y : Fin 2048) : EReal :=
  glR (a0 (ix3 b s (⟨y.val, by omega⟩ : Fin 4096))) * (staR a0 a1 a2 a3 a4 a5 a6 a7 a8 0 b y (s.val + 1) + staR a0 a1 a2 a3 a4 a5 a6 a7 a8 1 b y (4096 - s.val))

theorem wf_v (w : FVec Ideal S2x16x128x128 .f32) (h : Fin 16) (i j : Fin 128) : wf w (ix3 h i j) = w (ix4 0 h i j) := by pointwise [wf]
theorem wb_v (w : FVec Ideal S2x16x128x128 .f32) (h : Fin 16) (i j : Fin 128) : wb w (ix3 h i j) = w (ix4 1 h i j) := by pointwise [wb]
theorem vf_v (v : FVec Ideal S2x2048 .f32) (y : Fin 2048) : vf v (ix1 y) = v (ix2 0 y) := by pointwise [vf]
theorem vb_v (v : FVec Ideal S2x2048 .f32) (y : Fin 2048) : vb v (ix1 y) = v (ix2 1 y) := by pointwise [vb]

theorem gf_v (w : FVec Ideal S2x16x128x128 .f32) (v : FVec Ideal S2x2048 .f32) (b : Fin 4) (s : Fin 4096) (y : Fin 2048) :
    gat (xcv a0 a1 a2) (wf w) (vf v) (ix3 b s y) = gw a0 a1 a2 w v 0 b s.val y := by
  rw [gat_v, vf_v]
  exact congrArg (· + _) (Finset.sum_congr rfl fun i _ => by rw [wf_v, xcv_v])
theorem gb_v (w : FVec Ideal S2x16x128x128 .f32) (v : FVec Ideal S2x2048 .f32) (b : Fin 4) (s : Fin 4096) (y : Fin 2048) :
    gat (xcv a0 a1 a2) (wb w) (vb v) (ix3 b s y) = gw a0 a1 a2 w v 1 b s.val y := by
  rw [gat_v, vb_v]
  exact congrArg (· + _) (Finset.sum_congr rfl fun i _ => by rw [wb_v, xcv_v])

variable (H : Fin0 a0 a1 a2 a7)
include H

theorem Fin0.cv (b : Fin 4) (s : ℕ) (k : Fin 2048) : cvR a0 a1 a2 b s k = ((cvR a0 a1 a2 b s k).toReal : EReal) := (cvR_real a0 a1 a2 H.h0 H.h1 H.h2 b s k).eq

theorem dec_f (t : Fin 4096) (b : Fin 4) (y : Fin 2048) : decS a0 a1 a2 a3 a4 a7 (ix3 t (⟨b.val, by omega⟩ : Fin 8) y) = (alR a0 a1 a2 a3 a4 a7 0 b y t.val : EReal) := by
  unfold decS
  rw [stk_v, dif_pos (show b.val < 4 from b.isLt)]
  refine (dec_v _ _ b t y _ ((vf_v a7 y).trans (H.h7 0 y).eq)).trans ?_
  rw [gf_v]
  rfl
theorem dec_b (t : Fin 4096) (b : Fin 4) (y : Fin 2048) : decS a0 a1 a2 a3 a4 a7 (ix3 t (⟨b.val + 4, by omega⟩ : Fin 8) y) = (alR a0 a1 a2 a3 a4 a7 1 b y t.val : EReal) := by
  unfold decS
  rw [stk_v, dif_neg (show ¬ b.val + 4 < 4 by omega)]
  refine (dec_v _ _ b _ y _ ((vb_v a7 y).trans (H.h7 1 y).eq)).trans ?_
  rw [gb_v]
  rfl
theorem inp_f (t : Fin 4096) (b : Fin 4) (y : Fin 2048) : inpS a0 a1 a2 a3 a4 a5 a6 a7 (ix3 t (⟨b.val, by omega⟩ : Fin 8) y) = (beR a0 a1 a2 a3 a4 a5 a6 a7 0 b y t.val : EReal) := by
  unfold inpS
  rw [stk_v, dif_pos (show b.val < 4 from b.isLt)]
  refine (inp_v _ _ _ _ b t y _ _ ((vf_v a7 y).trans (H.h7 0 y).eq) ((xcv_v a0 a1 a2 b t y).trans (Fin0.cv a0 a1 a2 a7 H b t.val y))).trans ?_
  rw [gf_v, gf_v]
  rfl
theorem inp_b (t : Fin 4096) (b : Fin 4) (y : Fin 2048) : inpS a0 a1 a2 a3 a4 a5 a6 a7 (ix3 t (⟨b.val + 4, by omega⟩ : Fin 8) y) = (beR a0 a1 a2 a3 a4 a5 a6 a7 1 b y t.val : EReal) := by
  unfold inpS
  rw [stk_v, dif_neg (show ¬ b.val + 4 < 4 by omega)]
  refine (inp_v _ _ _ _ b _ y _ _ ((vb_v a7 y).trans (H.h7 1 y).eq) ((xcv_v a0 a1 a2 b _ y).trans (Fin0.cv a0 a1 a2 a7 H b _ y))).trans ?_
  rw [gb_v, gb_v]
  rfl
end

section
variable (V : Valuation τ sig (Elt Ideal))

/-- The states that the loop has stored. -/
abbrev stored : FVec Ideal S4096x8x2048 .f32 := V (Proc.devRef .tc main_v148_4)

/-- The gated output, of what the loop leaves. -/
theorem out_y (b : Fin 4) (s : Fin 4096) (y : Fin 2048) : out_main_v171 V (ix3 b s y) = glR ((V (Proc.devRef .tc main_arg0) : FVec Ideal S4x4096x4096 .f32) (ix3 b s (⟨y.val, by omega⟩ : Fin 4096)))
    * (stored V (ix3 s (⟨b.val, by omega⟩ : Fin 8) y) + stored V (ix3 (⟨4095 - s.val, by omega⟩ : Fin 4096) (⟨b.val + 4, by omega⟩ : Fin 8) y)) := by
  pointwise [out_main_v171, glR]
  refine congrArg (fun v : EReal => _ * v) (congrArg (fun v : EReal => (_ : EReal) + v) ?_)
  show stored V (ix3 s.rev _ y) = _
  exact congrArg₂ (fun s r => stored V (ix3 s r y)) (Fin.ext (by rw [Fin.val_rev]; dsimp only; omega)) (Fin.ext (Nat.add_comm _ _))

/-- The last states, of what the loop leaves. -/
theorem out_h (b : Fin 4) (d : Fin 2) (y : Fin 2048) : out_main_v174 V (ix3 b d y) = (V (Proc.devRef .tc main_v148_3) : FVec Ideal S8x2048 .f32) (ix2 (⟨b.val + 4 * d.val, by omega⟩ : Fin 8) y) := by
  pointwise [out_main_v174]
  by_cases h : d.val < 1
  · rw [dif_pos h]
    exact congrArg (fun r => (V (Proc.devRef .tc main_v148_3) : FVec Ideal S8x2048 .f32) (ix2 r y)) (Fin.ext (by dsimp only; omega))
  · rw [dif_neg h]
    exact congrArg (fun r => (V (Proc.devRef .tc main_v148_3) : FVec Ideal S8x2048 .f32) (ix2 r y)) (Fin.ext (by dsimp only; omega))
end

section
variable (a0 : FVec Ideal S4x4096x4096 .f32) (a1 : FVec Ideal S4x2048 .f32) (a2 : FVec Ideal S2048 .f32) (a3 : FVec Ideal S2x16x128x128 .f32) (a4 : FVec Ideal S2x2048 .f32)
  (a5 : FVec Ideal S2x16x128x128 .f32) (a6 : FVec Ideal S2x2048 .f32) (a7 : FVec Ideal S2x2048 .f32) (a8 : FVec Ideal S4x2x2048 .f32)

/-- The gated output of the two directions. -/
def refY : FVec Ideal S4x4096x2048 .bf16 := fun i => yR a0 a1 a2 a3 a4 a5 a6 a7 a8 (i 0) (i 1) (i 2)

/-- The last state of each direction. -/
def refH : FVec Ideal S4x2x2048 .f32 := fun i => staR a0 a1 a2 a3 a4 a5 a6 a7 a8 (i 1) (i 0) (i 2) 4096
end

section
variable (m : (ℓ : Loc nD τ sig) → Buf (Elt Ideal) ℓ) (c : Dev nD) (H : Fin0 (m ((c.tc : Thread nD τ).loc main_arg0)) (m ((c.tc : Thread nD τ).loc main_arg1)) (m ((c.tc : Thread nD τ).loc main_arg2)) (m ((c.tc : Thread nD τ).loc main_arg7)))
include H

/-- What the loop leaves for the forward direction of a batch row and channel. -/
theorem loop_f (b : Fin 4) (y : Fin 2048) :
    ((STEP^[4096] (entryContents (preI (F := Ideal)) m c)) (Proc.devRef .tc main_v148_3) : FVec Ideal S8x2048 .f32) (ix2 (⟨b.val, by omega⟩ : Fin 8) y) = staR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) 0 b y 4096
      ∧ ∀ s : Fin 4096, stored (STEP^[4096] (entryContents (preI (F := Ideal)) m c)) (ix3 s (⟨b.val, by omega⟩ : Fin 8) y) = staR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) 0 b y (s.val + 1) := by
  have h := loop_v (entryContents (preI (F := Ideal)) m c) (⟨b.val, by omega⟩ : Fin 8) y _ _ _ (ctr_entry m c)
    (by rw [entry_ini, ini_v, dif_pos (show b.val < 4 from b.isLt)]) (fun t => by rw [entry_dec]; exact dec_f _ _ _ _ _ _ H t b y)
    (fun t => by rw [entry_inp]; exact inp_f _ _ _ _ _ _ _ _ H t b y) 4096 le_rfl
  refine ⟨h.2.2.2.1.trans ?_, fun s => (h.2.2.2.2 s s.isLt).trans ?_⟩
  · rfl
  · rfl

/-- What the loop leaves for the backward direction of a batch row and channel. -/
theorem loop_b (b : Fin 4) (y : Fin 2048) :
    ((STEP^[4096] (entryContents (preI (F := Ideal)) m c)) (Proc.devRef .tc main_v148_3) : FVec Ideal S8x2048 .f32) (ix2 (⟨b.val + 4, by omega⟩ : Fin 8) y) = staR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) 1 b y 4096
      ∧ ∀ s : Fin 4096, stored (STEP^[4096] (entryContents (preI (F := Ideal)) m c)) (ix3 s (⟨b.val + 4, by omega⟩ : Fin 8) y) = staR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) 1 b y (s.val + 1) := by
  have h := loop_v (entryContents (preI (F := Ideal)) m c) (⟨b.val + 4, by omega⟩ : Fin 8) y _ _ _ (ctr_entry m c)
    (by rw [entry_ini, ini_v, dif_neg (show ¬ b.val + 4 < 4 by omega)]) (fun t => by rw [entry_dec]; exact dec_b _ _ _ _ _ _ H t b y)
    (fun t => by rw [entry_inp]; exact inp_b _ _ _ _ _ _ _ _ H t b y) 4096 le_rfl
  refine ⟨h.2.2.2.1.trans ?_, fun s => (h.2.2.2.2 s s.isLt).trans ?_⟩
  · rfl
  · rfl

/-- The reference's first result is the gated output. -/
theorem ref_y : out_main_v171 (STEP^[4096] (entryContents (preI (F := Ideal)) m c)) = refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, s, y, rfl⟩ : ∃ b s y, i = ix3 b s y := ⟨i 0, i 1, i 2, eq_ix3 i⟩
  refine (out_y _ b s y).trans ?_
  refine congrArg₂ (fun a b : EReal => a * b) (congrArg (fun v : FVec Ideal S4x4096x4096 .f32 => glR (v _)) (iter_main_arg0 m c 4096)) (congrArg₂ (fun a b : EReal => a + b) ?_ ?_)
  · exact (loop_f m c H b y).2 s
  · refine ((loop_b m c H b y).2 (⟨4095 - s.val, by omega⟩ : Fin 4096)).trans ?_
    rw [show 4095 - s.val + 1 = 4096 - s.val by omega]
    rfl

/-- The reference's second result is the last state of each direction. -/
theorem ref_h : out_main_v174 (STEP^[4096] (entryContents (preI (F := Ideal)) m c)) = refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, d, y, rfl⟩ : ∃ b d y, i = ix3 b d y := ⟨i 0, i 1, i 2, eq_ix3 i⟩
  refine (out_h _ b d y).trans ?_
  obtain rfl | rfl : d = 0 ∨ d = 1 := by omega
  · exact (loop_f m c H b y).1
  · exact (loop_b m c H b y).1
end

end Cert.ReferenceScanIdeal.Value

end
-- ==== Proof.ScanPre.lean ====
/- What the RG-LRU call's precondition says: the convolution's inputs and the decay parameters are finite. -/
module

public import proofs.«01_k».proof.Proof.RefResult
public import proofs.«01_k».proof.Defs
public import Idealize.ShloMosaic.Lib.ReduceAll
public import Idealize.ShloMosaic.Lib.Pipeline.ValueKit

@[expose] public section

set_option maxRecDepth 16384

noncomputable section

namespace Cert.ReferenceScanIdeal.Value

open Idealize.ShloMosaic Cert.Proof.Scan

/-- An extended real of absolute value below infinity is a real number. -/
theorem isR_of (x : EReal) (h : FloatOps.cmpf (F := Ideal) (φ := .f32) .olt (FloatOps.absf (F := Ideal) (φ := .f32) x) (Ideal.ofBits .f32 0x7F800000#32) = 1#1) : IsR x := by
  rw [c_inf] at h
  have h' : (if max x (-x) < ⊤ then (1#1 : BitVec 1) else 0#1) = 1#1 := by
    refine .trans ?_ h
    show _ = BitVec.ofBool (decide (max x (-x) < ⊤))
    by_cases e : max x (-x) < ⊤
    · rw [if_pos e, decide_eq_true e]; rfl
    · rw [if_neg e, decide_eq_false e]; rfl
  have e : max x (-x) < ⊤ := by
    by_contra e
    rw [if_neg e] at h'
    exact absurd h' (by decide)
  induction x with
  | bot => simp at e
  | top => simp at e
  | coe r => exact ⟨r, rfl⟩

/-- The precondition gives the finite inputs. -/
theorem fin0_of (a0 : FVec Ideal S4x4096x4096 .f32) (a1 : FVec Ideal S4x2048 .f32) (a2 : FVec Ideal S2048 .f32) (a3 : FVec Ideal S2x16x128x128 .f32) (a4 : FVec Ideal S2x2048 .f32)
    (a5 : FVec Ideal S2x16x128x128 .f32) (a6 : FVec Ideal S2x2048 .f32) (a7 : FVec Ideal S2x2048 .f32) (a8 : FVec Ideal S4x2x2048 .f32)
    [Cert.Pre_finite.Facts] (h : Cert.Pre_finite.fn (F := Ideal) a0 a1 a2 a3 a4 a5 a6 a7 a8 = fun _ => 1#1) : Fin0 a0 a1 a2 a7 := by
  have h0 := congrFun h (fun i => i.elim0)
  unfold Cert.Pre_finite.fn Cert.Pre_finite.fn_part1 at h0
  obtain ⟨h1, e7⟩ := IntOp.andi_eq_one.1 h0
  obtain ⟨h2, e2⟩ := IntOp.andi_eq_one.1 h1
  obtain ⟨e0, e1⟩ := IntOp.andi_eq_one.1 h2
  have hs : Subsingleton Cert.Pre_finite.S_.Idx := ⟨fun a b => funext fun i => i.elim0⟩
  refine ⟨fun b s k => isR_of _ ?_, fun n k => isR_of _ ?_, fun k => isR_of _ ?_, fun d k => isR_of _ ?_⟩
  · refine .trans ?_ (Host.reduce_andi_all _ _ _ _ _ e0 (ix3 b (⟨s % 4096, by omega⟩ : Fin 4096) k))
    pointwise [half]
    rw [show (⟨k.val + 2048, by omega⟩ : Fin 4096) = ⟨2048 + k.val, by omega⟩ from Fin.ext (Nat.add_comm _ _)]
  · exact Host.reduce_andi_all _ _ _ _ _ e1 (ix2 n k)
  · exact Host.reduce_andi_all _ _ _ _ _ e2 (ix1 k)
  · exact Host.reduce_andi_all _ _ _ _ _ e7 (ix2 d k)

end Cert.ReferenceScanIdeal.Value

end
-- ==== Proof.ValMod.lean ====
/- The modulation vectors: the kernel writes the reference's term of its arguments. -/
module

public import proofs.«01_k».proof.Proof.Gen.KernelModIdeal.Value
public import proofs.«01_k».proof.Proof.RefMod
public import proofs.«01_k».proof.Proof.ScanPre
public import proofs.«01_k».proof.Proof.Gen.Pre_finite_mod
public import Idealize.ShloMosaic.Lib.Routing.OpsOne
public import Idealize.ShloMosaic.Lib.Pipeline.ValueKit

@[expose] public section

set_option maxRecDepth 16384

noncomputable section

namespace Cert.KernelModIdeal.Point

open Cert.KernelModIdeal Cert.KernelModIdeal.Gen Idealize.ShloMosaic Idealize.ShloMosaic.TcCoe Idealize.SL.Sem
open Idealize.ShloMosaic.Pipeline (Dat)
open Cert.ReferenceModIdeal.Value (REF CAT silu)
open Cert.ReferenceScanIdeal.Value (IsR)

/-- Of a real number nothing is left when it is taken from itself. -/
theorem sub_self_of {x : EReal} (h : IsR x) : x - x = 0 := by
  obtain ⟨r, rfl⟩ := h
  rw [← EReal.coe_sub, sub_self, EReal.coe_zero]

/-- The gated unit of a real number is one. -/
theorem silu_real {x : EReal} (h : IsR x) : IsR (silu x) := by
  refine h.mul ⟨_, Cert.Proof.Scan.sg_ref x⟩

/-- Where the scatter of the latent's rows at row 0 lands. -/
theorem lands_rows (i : IVec S1 32) (hi : (i (ix1 0)).toInt = 0) (a : Fin 4) (b : Fin 4096) (r : Fin 8) (k : Fin 4096) :
    scatter_S8x4096_S1_S4x4096_01_n_0_0.resultIdx? (ix2 a b) i = some (ix2 r k) ↔ r.val = a.val ∧ k = b := by
  have w0 : scatter_S8x4096_S1_S4x4096_01_n_0_0.window (ix2 a b) 0 = a.val := rfl
  have w1 : scatter_S8x4096_S1_S4x4096_01_n_0_0.window (ix2 a b) 1 = b.val := rfl
  have s0 : scatter_S8x4096_S1_S4x4096_01_n_0_0.start (ix2 a b) i 0 = 0 := by
    refine .trans ?_ hi
    exact congrArg (fun j => (i j).toInt) (funext fun a => match a with | ⟨0, _⟩ => Subsingleton.elim (α := Fin 1) _ _)
  have s1 : scatter_S8x4096_S1_S4x4096_01_n_0_0.start (ix2 a b) i 1 = 0 := rfl
  refine (Routing.resultIdx?_ix2 (R := 8) (C := 4096) scatter_S8x4096_S1_S4x4096_01_n_0_0 (ix2 a b) i r k).trans ?_
  rw [w0, w1, s0, s1, Fin.ext_iff]
  omega

/-- Where the scatter of the context's row at row 4 lands. -/
theorem lands_row (i : IVec S1 32) (hi : (i (ix1 0)).toInt = 4) (b : Fin 4096) (r : Fin 8) (k : Fin 4096) :
    scatter_S8x4096_S1_S4096_0_0_0_0.resultIdx? (ix1 b) i = some (ix2 r k) ↔ r.val = 4 ∧ k = b := by
  have w0 : scatter_S8x4096_S1_S4096_0_0_0_0.window (ix1 b) 0 = 0 := rfl
  have w1 : scatter_S8x4096_S1_S4096_0_0_0_0.window (ix1 b) 1 = b.val := rfl
  have s0 : scatter_S8x4096_S1_S4096_0_0_0_0.start (ix1 b) i 0 = 4 := by
    refine .trans ?_ hi
    exact congrArg (fun j => (i j).toInt) (funext fun a => match a with | ⟨0, _⟩ => Subsingleton.elim (α := Fin 1) _ _)
  have s1 : scatter_S8x4096_S1_S4096_0_0_0_0.start (ix1 b) i 1 = 0 := rfl
  refine (Routing.resultIdx?_ix2 (R := 8) (C := 4096) scatter_S8x4096_S1_S4096_0_0_0_0 (ix1 b) i r k).trans ?_
  rw [w0, w1, s0, s1, Fin.ext_iff]
  omega

/-- The rows that the host code writes into zeros are the conditioning rows. -/
theorem rows (a0 : FVec Ideal S4x4096 .f32) (a1 : FVec Ideal S4096 .f32) (r : Fin 8) (k : Fin 4096) :
    Host.scatter scatter_S8x4096_S1_S4096_0_0_0_0 (fun _ b => b)
      (Host.scatter scatter_S8x4096_S1_S4x4096_01_n_0_0 (fun _ b => b) (broadcastInDim S8x4096 ![] bcast_S_S8x4096 (constant S_ .f32 0x00000000#32))
        (broadcastInDim S1 ![] bcast_S_S1 (constantI S_ 32 0#32)) a0)
      (broadcastInDim S1 ![] bcast_S_S1 (constantI S_ 32 4#32)) a1 (ix2 r k) = CAT a0 a1 (ix2 r k) := by
  rw [Cert.ReferenceModIdeal.Value.cat]
  unfold Cert.ReferenceModIdeal.Value.cond
  have q0 : ∀ j, scatter_S8x4096_S1_S4096_0_0_0_0.resultIdx? j (broadcastInDim S1 ![] bcast_S_S1 (constantI S_ 32 4#32)) = some (ix2 r k) ↔ r.val = 4 ∧ k = j 0 := fun j => by
    conv_lhs => rw [eq_ix1 j]
    exact lands_row _ (by decide) (j 0) r k
  have q1 : ∀ j, scatter_S8x4096_S1_S4x4096_01_n_0_0.resultIdx? j (broadcastInDim S1 ![] bcast_S_S1 (constantI S_ 32 0#32)) = some (ix2 r k) ↔ r.val = (j 0).val ∧ k = j 1 := fun j => by
    conv_lhs => rw [eq_ix2 j]
    exact lands_rows _ (by decide) (j 0) (j 1) r k
  by_cases h4 : r.val = 4
  · rw [dif_neg (by omega), if_pos h4]
    exact Routing.scatter_set_hit _ _ _ _ _ _ (fun j hj => (congrArg a1 (eq_ix1 j)).trans (congrArg (fun t => a1 (ix1 t)) ((q0 j).1 hj).2.symm)) (ix1 k) ((q0 _).2 ⟨h4, rfl⟩)
  · rw [if_neg h4, Routing.scatter_set_miss _ _ _ _ _ fun j hj => h4 ((q0 j).1 hj).1]
    by_cases h : r.val < 4
    · rw [dif_pos h]
      refine Routing.scatter_set_hit _ _ _ _ _ _ (fun j hj => ?_) (ix2 ⟨r.val, h⟩ k) ((q1 _).2 ⟨rfl, rfl⟩)
      obtain ⟨e, f⟩ := (q1 j).1 hj
      rw [eq_ix2 j]
      exact congrArg a0 (congrArg₂ ix2 (Fin.ext e.symm) f.symm)
    · rw [dif_neg h, Routing.scatter_set_miss _ _ _ _ _ fun j hj => h (by rw [((q1 j).1 hj).1]; exact (j 0).isLt)]
      pointwise

variable (m : (ℓ : Loc nD τ sig) → Buf (Elt Ideal) ℓ)

/-- What the body stores, entry by entry, over the blocks it loads: three products of the split operands, and the bias. -/
theorem pay (s : FVec Ideal S8x4096 .f32) (w : FVec Ideal S4096x512 .f32) (b : FVec Ideal S1x512 .f32) (r : Fin 8) (l : Fin 512) :
    k0_pay1 (F := Ideal) s w b (ix2 r l) = (∑ k : Fin 4096, silu (s (ix2 r k)) * w (ix2 k l))
      + (∑ k : Fin 4096, (silu (s (ix2 r k)) - silu (s (ix2 r k))) * w (ix2 k l))
      + (∑ k : Fin 4096, silu (s (ix2 r k)) * (w (ix2 k l) - w (ix2 k l))) + b (ix2 0 l) := by
  pointwise [k0_pay1]
  rfl

/-- Of real operands the two remainders are zero. -/
theorem pay_real (s : FVec Ideal S8x4096 .f32) (w : FVec Ideal S4096x512 .f32) (b : FVec Ideal S1x512 .f32) (r : Fin 8) (l : Fin 512)
    (hs : ∀ k, IsR (s (ix2 r k))) (hw : ∀ k, IsR (w (ix2 k l))) :
    k0_pay1 (F := Ideal) s w b (ix2 r l) = (∑ k : Fin 4096, silu (s (ix2 r k)) * w (ix2 k l)) + b (ix2 0 l) := by
  rw [pay, Finset.sum_eq_zero (f := fun k => (silu (s (ix2 r k)) - silu (s (ix2 r k))) * w (ix2 k l)) (fun k _ => by rw [sub_self_of (silu_real (hs k)), zero_mul]),
    Finset.sum_eq_zero (f := fun k => silu (s (ix2 r k)) * (w (ix2 k l) - w (ix2 k l))) (fun k _ => by rw [sub_self_of (hw k), mul_zero]), add_zero, add_zero]

/-- Where each window's block lies at each point of the grid. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The column of the result that column `l` of a point's block is. -/
abbrev col (t : Fin cfg0.N) (l : Fin 512) : Fin 24576 := ⟨t.val * 512 + l.val, by have := t.isLt; change _ < 48 at this; omega⟩

/-- The block of the conditioning rows. -/
theorem b0 (c : Dev nD) (t : Fin cfg0.N) (r : Fin 8) (k : Fin 4096) : iblk m c 0 t (ix2 r k)
    = CAT (m ((c : Thread nD τ).loc main_arg0) : FVec Ideal S4x4096 .f32) (m ((c : Thread nD τ).loc main_arg1) : FVec Ideal S4096 .f32) (ix2 r k) := by
  blk_simp [iblk, idx t]
  entry_read
  rw [show (((View.whole main_v4).slice (win0_0.rect t)).emb (ix2 r k) : S8x4096.Idx) = ix2 r k by blk_ext [idx t]]
  exact rows _ _ r k

/-- The block of the weights. -/
theorem b1 (c : Dev nD) (t : Fin cfg0.N) (k : Fin 4096) (l : Fin 512) : iblk m c 1 t (ix2 k l)
    = (m ((c : Thread nD τ).loc main_arg2) : FVec Ideal S4096x24576 .f32) (ix2 k (col t l)) := by
  blk_ext [iblk, V, idx t]

/-- The block of the bias. -/
theorem b2 (c : Dev nD) (t : Fin cfg0.N) (l : Fin 512) : iblk m c 2 t (ix2 0 l)
    = (m ((c : Thread nD τ).loc main_arg3) : FVec Ideal S24576 .f32) (ix1 (col t l)) := by
  blk_simp [iblk, idx t]
  entry_read
  pointwise
  blk_ext [idx t]

/-- Where an entry of a point's block lies in the result. -/
theorem emb (t : Fin cfg0.N) (r : Fin 8) (l : Fin 512) : ((cfg0.win 3).blk t).view.emb (ix2 r l) = ix2 r (col t l) := by
  blk_ext [idx t]

/-- The arguments whose entries the precondition makes real numbers: the conditioning vectors and the weights. -/
structure Fin0 (a0 : FVec Ideal S4x4096 .f32) (a1 : FVec Ideal S4096 .f32) (a2 : FVec Ideal S4096x24576 .f32) : Prop where
  h0 : ∀ r k, IsR (a0 (ix2 r k))
  h1 : ∀ k, IsR (a1 (ix1 k))
  h2 : ∀ k y, IsR (a2 (ix2 k y))

/-- The conditioning rows are real numbers. -/
theorem Fin0.cat {a0 : FVec Ideal S4x4096 .f32} {a1 : FVec Ideal S4096 .f32} {a2 : FVec Ideal S4096x24576 .f32} (h : Fin0 a0 a1 a2) (r : Fin 8) (k : Fin 4096) :
    IsR (CAT a0 a1 (ix2 r k)) := by
  rw [Cert.ReferenceModIdeal.Value.cat]
  unfold Cert.ReferenceModIdeal.Value.cond
  split
  · exact h.h0 _ k
  · split
    · exact h.h1 k
    · exact ⟨0, EReal.coe_zero.symm⟩

/-- The precondition gives the real entries. -/
theorem fin0_of (a0 : FVec Ideal S4x4096 .f32) (a1 : FVec Ideal S4096 .f32) (a2 : FVec Ideal S4096x24576 .f32) (a3 : FVec Ideal S24576 .f32)
    [Cert.Pre_finite_mod.Facts] (h : Cert.Pre_finite_mod.fn (F := Ideal) a0 a1 a2 a3 = fun _ => 1#1) : Fin0 a0 a1 a2 := by
  have h0 := congrFun h (fun i => i.elim0)
  unfold Cert.Pre_finite_mod.fn at h0
  obtain ⟨h1, e2⟩ := IntOp.andi_eq_one.1 h0
  obtain ⟨e0, e1⟩ := IntOp.andi_eq_one.1 h1
  have hs : Subsingleton Cert.Pre_finite_mod.S_.Idx := ⟨fun a b => funext fun i => i.elim0⟩
  refine ⟨fun r k => Cert.ReferenceScanIdeal.Value.isR_of _ ?_, fun k => Cert.ReferenceScanIdeal.Value.isR_of _ ?_, fun k y => Cert.ReferenceScanIdeal.Value.isR_of _ ?_⟩
  · exact Host.reduce_andi_all _ _ _ _ _ e0 (ix2 r k)
  · exact Host.reduce_andi_all _ _ _ _ _ e1 (ix1 k)
  · exact Host.reduce_andi_all _ _ _ _ _ e2 (ix2 k y)

/-- What a point writes at an entry of its block is the reference's term where that entry lies. -/
theorem point (c : Dev nD) (h : Fin0 (m ((c : Thread nD τ).loc main_arg0)) (m ((c : Thread nD τ).loc main_arg1)) (m ((c : Thread nD τ).loc main_arg2)))
    (t : Fin cfg0.N) (r : Fin 8) (l : Fin 512) : k0_pay1 (iblk m c 0 t) (iblk m c 1 t) (iblk m c 2 t) (ix2 r l)
    = REF (m ((c : Thread nD τ).loc main_arg0) : FVec Ideal S4x4096 .f32) (m ((c : Thread nD τ).loc main_arg1) : FVec Ideal S4096 .f32) (m ((c : Thread nD τ).loc main_arg2) : FVec Ideal S4096x24576 .f32) (m ((c : Thread nD τ).loc main_arg3) : FVec Ideal S24576 .f32) (((cfg0.win 3).blk t).view.emb (ix2 r l)) := by
  rw [emb, Cert.ReferenceModIdeal.Value.ref]
  have hs : ∀ k, IsR (iblk m c 0 t (ix2 r k)) := fun k => (b0 m c t r k) ▸ h.cat r k
  have hw : ∀ k, IsR (iblk m c 1 t (ix2 k l)) := fun k => (b1 m c t k l) ▸ h.h2 k (col t l)
  refine (pay_real _ _ _ r l hs hw).trans ?_
  refine congrArg₂ (· + ·) (Finset.sum_congr rfl fun k _ => ?_) (b2 m c t l)
  exact congrArg₂ (fun a b : EReal => a * b) (congrArg silu (b0 m c t r k)) (b1 m c t k l)

/-- The result array after the run is the reference's term of the arguments. -/
theorem final (c : Dev nD) (h : Fin0 (m ((c : Thread nD τ).loc main_arg0)) (m ((c : Thread nD τ).loc main_arg1)) (m ((c : Thread nD τ).loc main_arg2))) :
    (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  obtain ⟨r, l, rfl⟩ : ∃ r l, y = ix2 r l := ⟨y 0, y 1, eq_ix2 y⟩
  blk_simp
  rw [after0_3]; frame_out
  exact point m c h t r l

end Cert.KernelModIdeal.Point

end
-- ==== Proof.ValNormCtx.lean ====
/- The modulated norm of the context: the kernel writes the reference's term of its arguments. -/
module

public import proofs.«01_k».proof.Proof.Gen.KernelNormCtxIdeal.Value
public import proofs.«01_k».proof.Proof.Gen.ReferenceNormCtxIdeal.Run
public import proofs.«01_k».proof.Proof.ValNorm
public import Idealize.ShloMosaic.PureOps.Ideal
public import Idealize.ShloMosaic.Lib.Pipeline.ValueKit

@[expose] public section

set_option maxRecDepth 16384

noncomputable section

namespace Cert.ReferenceNormCtxIdeal.Value

open Cert.ReferenceNormCtxIdeal Cert.ReferenceNormCtxIdeal.Gen Idealize.ShloMosaic Idealize.ShloMosaic.TcCoe Idealize.SL.Sem Idealize.ShloMosaic.StableHlo
open Cert.ReferenceNormIdeal.Value (nrm)

/-- The term that the reference's run leaves in its result, over its argument arrays: the modulated norm of the context. -/
def REF (a0 : FVec Ideal S4x256x4096 .f32) (a1 a2 a3 : FVec Ideal S4096 .f32) : FVec Ideal S4x256x4096 .bf16 :=
  truncf .bf16 (addf (mulf (mulf (mulf a0 (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf a0 a0) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 a1))) (broadcastInDim S4x256x4096 ![0, 1, 2] bcast_S1x1x4096_S4x256x4096_0_1_2 (broadcastInDim S1x1x4096 ![2] bcast_S4096_S1x1x4096_2 (addf (broadcastInDim S4096 ![] bcast_S_S4096 (constant S_ .f32 0x3F800000#32)) a3)))) (broadcastInDim S4x256x4096 ![0, 1, 2] bcast_S1x1x4096_S4x256x4096_0_1_2 (broadcastInDim S1x1x4096 ![2] bcast_S4096_S1x1x4096_2 a2))) bitsLt_bf16_f32

/-- The reference's term, entry by entry. -/
theorem ref (x : FVec Ideal S4x256x4096 .f32) (g h a : FVec Ideal S4096 .f32) (b : Fin 4) (s : Fin 256) (y : Fin 4096) :
    REF x g h a (ix3 b s y) = nrm (x (ix3 b s y)) (∑ k : Fin 4096, x (ix3 b s k) * x (ix3 b s k)) (g (ix1 y)) (a (ix1 y)) (h (ix1 y)) := by
  pointwise [REF]

end Cert.ReferenceNormCtxIdeal.Value

namespace Cert.KernelNormCtxIdeal.Point

open Cert.KernelNormCtxIdeal Cert.KernelNormCtxIdeal.Gen Idealize.ShloMosaic Idealize.ShloMosaic.TcCoe Idealize.SL.Sem
open Idealize.ShloMosaic.Pipeline (Dat)
open Cert.ReferenceNormCtxIdeal.Value (REF)
open Cert.ReferenceNormIdeal.Value (nrm)

variable (m : (ℓ : Loc nD τ sig) → Buf (Elt Ideal) ℓ)

/-- What the body stores, entry by entry, over the blocks it loads. -/
theorem pay (x : FVec Ideal S1x256x4096 .f32) (g : FVec Ideal S1x4096 .f32) (h a : FVec Ideal S1x1x4096 .f32) (r : Fin 256) (l : Fin 4096) :
    k0_pay1 (F := Ideal) x g h a (ix3 0 r l) = nrm (x (ix3 0 r l)) (∑ k : Fin 4096, x (ix3 0 r k) * x (ix3 0 r k)) (g (ix2 0 l)) (a (ix3 0 0 l)) (h (ix3 0 0 l)) := by
  pointwise [k0_pay1]

/-- Where each window's block lies at each point of the grid. -/
theorem idx : ∀ t : Fin cfg0.N, win0_0.index t = ![t.val, 0, 0] ∧ win0_1.index t = ![0, 0]
    ∧ win0_2.index t = ![0, 0, 0] ∧ win0_3.index t = ![0, 0, 0] ∧ win0_4.index t = ![t.val, 0, 0] :=
  (by decide +kernel : ∀ t : Fin grid0.N, _)

/-- The batch of a point. -/
abbrev bat (t : Fin cfg0.N) : Fin 4 := ⟨t.val, t.isLt⟩

/-- The block of the context. -/
theorem b0 (c : Dev nD) (t : Fin cfg0.N) (r : Fin 256) (k : Fin 4096) : iblk m c 0 t (ix3 0 r k)
    = (m ((c : Thread nD τ).loc main_arg0) : FVec Ideal S4x256x4096 .f32) (ix3 (bat t) r k) := by
  blk_ext [iblk, V, idx t]

/-- The block of the gain. -/
theorem b1 (c : Dev nD) (t : Fin cfg0.N) (l : Fin 4096) : iblk m c 1 t (ix2 0 l)
    = (m ((c : Thread nD τ).loc main_arg1) : FVec Ideal S4096 .f32) (ix1 l) := by
  blk_simp [iblk, idx t]
  entry_read
  pointwise
  blk_ext [idx t]

/-- The block of the shift. -/
theorem b2 (c : Dev nD) (t : Fin cfg0.N) (l : Fin 4096) : iblk m c 2 t (ix3 0 0 l)
    = (m ((c : Thread nD τ).loc main_arg2) : FVec Ideal S4096 .f32) (ix1 l) := by
  blk_simp [iblk, idx t]
  entry_read
  pointwise
  blk_ext [idx t]

/-- The block of the scale. -/
theorem b3 (c : Dev nD) (t : Fin cfg0.N) (l : Fin 4096) : iblk m c 3 t (ix3 0 0 l)
    = (m ((c : Thread nD τ).loc main_arg3) : FVec Ideal S4096 .f32) (ix1 l) := by
  blk_simp [iblk, idx t]
  entry_read
  pointwise
  blk_ext [idx t]

/-- Where an entry of a point's block lies in the result. -/
theorem emb (t : Fin cfg0.N) (r : Fin 256) (l : Fin 4096) : ((cfg0.win 4).blk t).view.emb (ix3 0 r l) = ix3 (bat t) r l := by
  blk_ext [idx t]

/-- What a point writes at an entry of its block is the reference's term where that entry lies. -/
theorem point (c : Dev nD) (t : Fin cfg0.N) (r : Fin 256) (l : Fin 4096) : k0_pay1 (iblk m c 0 t) (iblk m c 1 t) (iblk m c 2 t) (iblk m c 3 t) (ix3 0 r l)
    = REF (m ((c : Thread nD τ).loc main_arg0) : FVec Ideal S4x256x4096 .f32) (m ((c : Thread nD τ).loc main_arg1) : FVec Ideal S4096 .f32) (m ((c : Thread nD τ).loc main_arg2) : FVec Ideal S4096 .f32) (m ((c : Thread nD τ).loc main_arg3) : FVec Ideal S4096 .f32) (((cfg0.win 4).blk t).view.emb (ix3 0 r l)) := by
  rw [emb, Cert.ReferenceNormCtxIdeal.Value.ref]
  refine (pay _ _ _ _ r l).trans ?_
  exact Cert.ReferenceNormIdeal.Value.nrm_congr (b0 m c t r l) (Finset.sum_congr rfl fun k _ => congrArg₂ (fun a b : EReal => a * b) (b0 m c t r k) (b0 m c t r k)) (b1 m c t l) (b3 m c t l) (b2 m c t l)

/-- The result array after the run is the reference's term of the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨i, r, l, rfl⟩ : ∃ i r l, y = ix3 i r l := ⟨y 0, y 1, y 2, eq_ix3 y⟩
  obtain rfl : i = 0 := Subsingleton.elim _ _
  blk_simp
  rw [after0_4]; frame_out
  exact point m c t r l

end Cert.KernelNormCtxIdeal.Point

end
-- ==== Proof.ValLruCtx.lean ====
/- The RG-LRU columns of the context's projection: the kernel writes the reference's term of its arguments. -/
module

public import proofs.«01_k».proof.Proof.Gen.KernelLruCtxIdeal.Value
public import proofs.«01_k».proof.Proof.Gen.ReferenceLruCtxIdeal.Run
public import Idealize.ShloMosaic.PureOps.Ideal
public import Idealize.ShloMosaic.Lib.Pipeline.ValueKit

@[expose] public section

set_option maxRecDepth 16384

noncomputable section

namespace Cert.ReferenceLruCtxIdeal.Value

open Cert.ReferenceLruCtxIdeal Cert.ReferenceLruCtxIdeal.Gen Idealize.ShloMosaic Idealize.ShloMosaic.TcCoe Idealize.SL.Sem Idealize.ShloMosaic.StableHlo

/-- The term that the reference's run leaves in its result, over its argument arrays: the RG-LRU columns of the context's projection. -/
def REF (a0 : FVec Ideal S4x256x4096 .f32) (a1 : FVec Ideal S4096x10240 .f32) (a2 : FVec Ideal S10240 .f32) : FVec Ideal S1024x2048 .f32 :=
  shapeCast _ (addf (Host.dotGeneral dot_S4x256x4096_S4096x2048_S4x256x2048_2_0_01_1_n_n none a0 (extractStridedSlice S4096x2048 ![0, 8192] a1 slices_S4096x10240_S4096x2048_0_8192)) (broadcastInDim S4x256x2048 ![0, 1, 2] bcast_S1x1x2048_S4x256x2048_0_1_2 (broadcastInDim S1x1x2048 ![2] bcast_S2048_S1x1x2048_2 (extractStridedSlice S2048 ![8192] a2 slices_S10240_S2048_8192)))) shapeCasts_S4x256x2048_S1024x2048

/-- The reference's term, entry by entry: one row of `hc` against one column of the weights, plus the bias. -/
theorem ref (x : FVec Ideal S4x256x4096 .f32) (w : FVec Ideal S4096x10240 .f32) (b : FVec Ideal S10240 .f32) (R : Fin 1024) (C : Fin 2048) :
    REF x w b (ix2 R C) = (∑ k : Fin 4096, x (ix3 ⟨R.val / 256, by omega⟩ ⟨R.val % 256, by omega⟩ k)
      * w (ix2 k ⟨8192 + C.val, by omega⟩)) + b (ix1 ⟨8192 + C.val, by omega⟩) := by
  pointwise [REF]

end Cert.ReferenceLruCtxIdeal.Value

namespace Cert.KernelLruCtxIdeal.Point

open Cert.KernelLruCtxIdeal Cert.KernelLruCtxIdeal.Gen Idealize.ShloMosaic Idealize.ShloMosaic.TcCoe Idealize.SL.Sem
open Idealize.ShloMosaic.Pipeline (Dat)
open Cert.ReferenceLruCtxIdeal.Value (REF)

variable (m : (ℓ : Loc nD τ sig) → Buf (Elt Ideal) ℓ)

/-- What the body stores, entry by entry, over the blocks it loads. -/
theorem pay (x : FVec Ideal S1024x4096 .bf16) (w : FVec Ideal S4096x512 .bf16) (b : FVec Ideal S1x512 .f32) (r : Fin 1024) (l : Fin 512) :
    k0_pay1 (F := Ideal) x w b (ix2 r l) = (∑ k : Fin 4096, x (ix2 r k) * w (ix2 k l)) + b (ix2 0 l) := by
  pointwise [k0_pay1]

/-- Where each window's block lies at each point of the grid. -/
theorem idx : ∀ t : Fin cfg0.N, win0_0.index t = ![0, 0] ∧ win0_1.index t = ![0, t.val + 16]
    ∧ win0_2.index t = ![0, t.val + 16] ∧ win0_3.index t = ![0, t.val] :=
  (by decide +kernel : ∀ t : Fin grid0.N, _)

/-- The column of the result that column `l` of a point's block is. -/
abbrev col (t : Fin cfg0.N) (l : Fin 512) : Fin 2048 := ⟨t.val * 512 + l.val, by have := t.isLt; change _ < 4 at this; omega⟩

/-- The block of `hc`. -/
theorem b0 (c : Dev nD) (t : Fin cfg0.N) (r : Fin 1024) (k : Fin 4096) : iblk m c 0 t (ix2 r k)
    = (m ((c : Thread nD τ).loc main_arg0) : FVec Ideal S4x256x4096 .f32) (ix3 ⟨r.val / 256, by omega⟩ ⟨r.val % 256, by omega⟩ k) := by
  blk_simp [iblk, idx t]
  entry_read
  pointwise
  blk_ext [idx t]

/-- The block of the weights. -/
theorem b1 (c : Dev nD) (t : Fin cfg0.N) (k : Fin 4096) (l : Fin 512) : iblk m c 1 t (ix2 k l)
    = (m ((c : Thread nD τ).loc main_arg1) : FVec Ideal S4096x10240 .f32) (ix2 k ⟨8192 + (col t l).val, by omega⟩) := by
  blk_simp [iblk, idx t]
  entry_read
  pointwise
  blk_ext [idx t]

/-- The block of the bias. -/
theorem b2 (c : Dev nD) (t : Fin cfg0.N) (l : Fin 512) : iblk m c 2 t (ix2 0 l)
    = (m ((c : Thread nD τ).loc main_arg2) : FVec Ideal S10240 .f32) (ix1 ⟨8192 + (col t l).val, by omega⟩) := by
  blk_simp [iblk, idx t]
  entry_read
  pointwise
  blk_ext [idx t]

/-- Where an entry of a point's block lies in the result. -/
theorem emb (t : Fin cfg0.N) (r : Fin 1024) (l : Fin 512) : ((cfg0.win 3).blk t).view.emb (ix2 r l) = ix2 r (col t l) := by
  blk_ext [idx t]

/-- What a point writes at an entry of its block is the reference's term where that entry lies. -/
theorem point (c : Dev nD) (t : Fin cfg0.N) (r : Fin 1024) (l : Fin 512) : k0_pay1 (iblk m c 0 t) (iblk m c 1 t) (iblk m c 2 t) (ix2 r l)
    = REF (m ((c : Thread nD τ).loc main_arg0) : FVec Ideal S4x256x4096 .f32) (m ((c : Thread nD τ).loc main_arg1) : FVec Ideal S4096x10240 .f32) (m ((c : Thread nD τ).loc main_arg2) : FVec Ideal S10240 .f32) (((cfg0.win 3).blk t).view.emb (ix2 r l)) := by
  rw [emb, Cert.ReferenceLruCtxIdeal.Value.ref]
  refine (pay _ _ _ r l).trans ?_
  refine congrArg₂ (· + ·) (Finset.sum_congr rfl fun k _ => ?_) (b2 m c t l)
  exact congrArg₂ (fun a b : EReal => a * b) (b0 m c t r k) (b1 m c t k l)

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, l, rfl⟩ : ∃ r l, y = ix2 r l := ⟨y 0, y 1, eq_ix2 y⟩
  blk_simp
  rw [after0_3]; frame_out
  exact point m c t r l

end Cert.KernelLruCtxIdeal.Point

end
-- ==== Proof.ScanRun.lean ====
module

public import proofs.«01_k».proof.Proof.Gen.KernelScanIdeal.Frame.Runs

@[expose] public section

set_option maxRecDepth 16384

noncomputable section

namespace Cert.KernelScanIdeal.Val

open Cert.KernelScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first), with the proof that the body
    runs from whole staging memrefs and from four scratch buffers whose contents `fs0`, `fs1`, `fs2`, `fs3` are given:
    the outputs end with those pieces written, the inputs as they were, the scratch at some contents. -/
noncomputable def scanRun (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256 .f32) (harg7 : arg7.IsWhole) (arg8 : Memref sig .tc .vmem S2x1x256x256 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S1x2x256 .f32) (harg11 : arg11.IsWhole) (arg12 : Memref sig .tc .vmem S1x4096x256 .bf16) (harg12 : arg12.IsWhole) (arg13 : Memref sig .tc .vmem S1x2x256 .f32) (harg13 : arg13.IsWhole) (arg14 : Memref sig .tc .vmem S4096x256 .f32) (harg14 : arg14.IsWhole) (arg15 : Memref sig .tc .vmem S4096x256 .f32) (harg15 : arg15.IsWhole) (arg16 : Memref sig .tc .vmem S4096x256 .f32) (harg16 : arg16.IsWhole) (arg17 : Memref sig .tc .vmem S4096x256 .f32) (harg17 : arg17.IsWhole)
    (x0 : Vec F S1x4096x256 .f32) (x1 : Vec F S1x4096x256 .f32) (x2 : Vec F S4x256 .f32) (x3 : Vec F S1x256 .f32) (x4 : Vec F S2x1x256x256 .bf16) (x5 : Vec F S2x1x256 .f32) (x6 : Vec F S2x1x256x256 .bf16) (x7 : Vec F S2x1x256 .f32) (x8 : Vec F S2x1x256 .f32) (x9 : Vec F S1x2x256 .f32) (fs0 : BufTy.Contents (Elt F) arg14.view.ty) (fs1 : BufTy.Contents (Elt F) arg15.view.ty) (fs2 : BufTy.Contents (Elt F) arg16.view.ty) (fs3 : BufTy.Contents (Elt F) arg17.view.ty) :
    Σ' (L10 : List (View.Piece (Elt F) S1x4096x256 .bf16)), { L11 : List (View.Piece (Elt F) S1x2x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (arg14.view.loc (c : Thread nD τ) ↦[arg14.view.set]{fullShare} fs0) ∗ (arg15.view.loc (c : Thread nD τ) ↦[arg15.view.set]{fullShare} fs1) ∗ (arg16.view.loc (c : Thread nD τ) ↦[arg16.view.set]{fullShare} fs2) ∗ (arg17.view.loc (c : Thread nD τ) ↦[arg17.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_rglru_eq_skeleton]; unfold cc0_rglru_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, HS0, HS1, HS2, HS3, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelScanIdeal.Val

end
-- ==== Proof.ScanLoops.lean ====
module

public import proofs.«01_k».proof.Proof.Gen.KernelScanIdeal.Loops
public import Idealize.ShloMosaic.Lib.Pipeline.ValueKit
public import Idealize.ShloMosaic.Lib.VecWindow
public import Idealize.ShloMosaic.Lib.Tactic

@[expose] public section

set_option maxRecDepth 16384
set_option maxHeartbeats 2000000

noncomputable section

namespace Cert.KernelScanIdeal.Val

open Cert.KernelScanIdeal Cert.KernelScanIdeal.Gen Idealize.ShloMosaic Idealize.ShloMosaic.TcCoe Idealize.SL.Sem

variable {F : FTy → Type} [FloatOps F]

/-! ## Tiles of eight rows -/

/-- Tile `j` of a `4096 × 256` buffer: rows `8 j` to `8 j + 7`. -/
def tw (x : Vec F S4096x256 .f32) (j : ℕ) : Vec F S8x256 .f32 :=
  fun y => x (ix2 (⟨(8 * j + (y 0).val) % 4096, Nat.mod_lt _ (by decide)⟩ : Fin 4096) (y 1))

/-- The buffer with tile `j` replaced. -/
def tput (x : Vec F S4096x256 .f32) (j : ℕ) (w : Vec F S8x256 .f32) : Vec F S4096x256 .f32 :=
  VecWindow.put (s := S4096x256) x ![8 * j, 0] ![8, 256] w

theorem tw_tput_same (x : Vec F S4096x256 .f32) (j : ℕ) (hj : j < 512) (w : Vec F S8x256 .f32) : tw (tput x j w) j = w := by
  funext y
  have h0 : (y 0).val < 8 := (y 0).isLt
  have h1 : (y 1).val < 256 := (y 1).isLt
  unfold tw tput VecWindow.put
  rw [dif_pos]
  · refine congrArg w (funext fun a => Fin.ext ?_)
    fin_cases a
    · show (8 * j + (y 0).val) % 4096 - 8 * j = (y 0).val
      rw [Nat.mod_eq_of_lt (by omega)]; omega
    · show (y 1).val - 0 = (y 1).val
      omega
  · intro a
    fin_cases a
    · show 8 * j ≤ (8 * j + (y 0).val) % 4096 ∧ (8 * j + (y 0).val) % 4096 < 8 * j + 8
      rw [Nat.mod_eq_of_lt (by omega)]; omega
    · show 0 ≤ (y 1).val ∧ (y 1).val < 0 + 256
      omega

theorem tw_tput_ne (x : Vec F S4096x256 .f32) (j i : ℕ) (hi : i < 512) (hne : i ≠ j) (w : Vec F S8x256 .f32) :
    tw (tput x j w) i = tw x i := by
  funext y
  have h0 : (y 0).val < 8 := (y 0).isLt
  unfold tw tput VecWindow.put
  rw [dif_neg]
  intro h
  have := h 0
  have e : 8 * j ≤ (8 * i + (y 0).val) % 4096 ∧ (8 * i + (y 0).val) % 4096 < 8 * j + 8 := this
  rw [Nat.mod_eq_of_lt (by omega)] at e
  omega

/-- A load of eight whole rows reads a tile. -/
theorem readAt_tile (v : View sig .tc .vmem S4096x256 .f32) (f : v.ty.Contents (Elt F)) (off : Fin 2 → ℕ) (inb) (j : ℕ)
    (hj : j < 512) (h : off = ![8 * j, 0]) :
    v.readAt (Elt F) (Rect.unit off ![8, 256] inb).toLoadRect f = tw (v.read (Elt F) f) j := by
  subst h
  funext y
  have h0 : (y 0).val < 8 := (y 0).isLt
  show v.read (Elt F) f _ = v.read (Elt F) f _
  refine congrArg _ (funext fun a => Fin.ext ?_)
  fin_cases a
  · show 8 * j + 1 * (y 0).val = (8 * j + (y 0).val) % 4096
    rw [Nat.mod_eq_of_lt (by omega)]; omega
  · show 0 + 1 * (y 1).val = (y 1).val
    omega

/-- A store of eight whole rows replaces a tile. -/
theorem read_writes_tile (v : View sig .tc .vmem S4096x256 .f32) (f : v.ty.Contents (Elt F)) (off : Fin 2 → ℕ) (inb)
    (w : Vec F S8x256 .f32) (L : List (View.Piece (Elt F) S4096x256 .f32)) (j : ℕ) (h : off = ![8 * j, 0]) :
    v.read (Elt F) (v.writes (Elt F) f (⟨Rect.unit off ![8, 256] inb, w⟩ :: L)) = tput (v.read (Elt F) (v.writes (Elt F) f L)) j w :=
  View.read_writes_cons_put v f inb w L h

/-- One tile of the first-order recurrence, from the carry `h`: `a * h + b`, row by row. -/
def tT (h : FVec F S1x256 .f32) (a b : Vec F S8x256 .f32) : FVec F S8x256 .f32 :=
  addf (mulf a (broadcastTo S8x256 h broadcasts_S1x256_S8x256)) b

/-- The last row of a tile, the forward carry. -/
def tLast (w : FVec F S8x256 .f32) : FVec F S1x256 .f32 := extractStridedSlice S1x256 ![7, 0] w slices_S8x256_o7_0_S1x256

/-- The first row of a tile, the backward carry. -/
def tFirst (w : FVec F S8x256 .f32) : FVec F S1x256 .f32 := extractStridedSlice S1x256 ![0, 0] w slices_S8x256_o0_0_S1x256

theorem sc8 (w : FVec F S8x256 .f32) : shapeCast S8x256 w shapeCasts_S8x256_S8x256 = w := shapeCast_id w _

/-- The forward carries: `fC h a b j` is the carry into tile `j`. -/
def fC (h : FVec F S1x256 .f32) (a b : ℕ → Vec F S8x256 .f32) : ℕ → FVec F S1x256 .f32
  | 0 => h
  | j + 1 => tLast (tT (fC h a b j) (a j) (b j))

/-- The backward carries: `bC h a b n` is the carry into tile `511 - n`. -/
def bC (h : FVec F S1x256 .f32) (a b : ℕ → Vec F S8x256 .f32) : ℕ → FVec F S1x256 .f32
  | 0 => h
  | n + 1 => tFirst (tT (bC h a b n) (a (511 - n)) (b (511 - n)))

/-- A chunk of 512 rows of a buffer. -/
def cw (x : Vec F S4096x256 .f32) (k : ℕ) : Vec F S512x256 .f32 :=
  fun y => x (ix2 (⟨(512 * k + (y 0).val) % 4096, Nat.mod_lt _ (by decide)⟩ : Fin 4096) (y 1))

/-- A chunk of 512 rows of a staged block. -/
def cw3 (x : Vec F S1x4096x256 .f32) (k : ℕ) : Vec F S1x512x256 .f32 :=
  fun y => x (ix3 (0 : Fin 1) (⟨(512 * k + (y 1).val) % 4096, Nat.mod_lt _ (by decide)⟩ : Fin 4096) (y 2))

/-- Tile `j` of eight chunks of 512 rows. -/
def st8 (P : ℕ → Vec F S512x256 .f32) (j : ℕ) : Vec F S8x256 .f32 :=
  fun y => P (j / 64) (ix2 (⟨(8 * (j % 64) + (y 0).val) % 512, Nat.mod_lt _ (by decide)⟩ : Fin 512) (y 1))

theorem readAt_chunk (v : View sig .tc .vmem S4096x256 .f32) (f : v.ty.Contents (Elt F)) (off : Fin 2 → ℕ) (inb) (k : ℕ)
    (hk : k < 8) (h : off = ![512 * k, 0]) :
    v.readAt (Elt F) (Rect.unit off ![512, 256] inb).toLoadRect f = cw (v.read (Elt F) f) k := by
  subst h
  funext y
  have h0 : (y 0).val < 512 := (y 0).isLt
  show v.read (Elt F) f _ = v.read (Elt F) f _
  refine congrArg _ (funext fun a => Fin.ext ?_)
  fin_cases a
  · show 512 * k + 1 * (y 0).val = (512 * k + (y 0).val) % 4096
    rw [Nat.mod_eq_of_lt (by omega)]; omega
  · show 0 + 1 * (y 1).val = (y 1).val
    omega

theorem readAt_chunk3 (v : View sig .tc .vmem S1x4096x256 .f32) (f : v.ty.Contents (Elt F)) (off : Fin 3 → ℕ) (inb) (k : ℕ)
    (hk : k < 8) (h : off = ![0, 512 * k, 0]) :
    v.readAt (Elt F) (Rect.unit off ![1, 512, 256] inb).toLoadRect f = cw3 (v.read (Elt F) f) k := by
  subst h
  funext y
  have h0 : (y 0).val < 1 := (y 0).isLt
  have h1 : (y 1).val < 512 := (y 1).isLt
  show v.read (Elt F) f _ = v.read (Elt F) f _
  refine congrArg _ (funext fun a => Fin.ext ?_)
  fin_cases a
  · show 0 + 1 * (y 0).val = 0
    omega
  · show 512 * k + 1 * (y 1).val = (512 * k + (y 1).val) % 4096
    rw [Nat.mod_eq_of_lt (by omega)]; omega
  · show 0 + 1 * (y 2).val = (y 2).val
    omega

/-- A store of 512 whole rows: its tiles are the payload's, the others as they were. -/
theorem tw_writes_chunk (v : View sig .tc .vmem S4096x256 .f32) (f : v.ty.Contents (Elt F)) (off : Fin 2 → ℕ) (inb) (k : ℕ)
    (hk : k < 8) (h : off = ![512 * k, 0]) (w : Vec F S512x256 .f32) (L : List (View.Piece (Elt F) S4096x256 .f32)) (P : ℕ → Vec F S512x256 .f32)
    (hP : w = P k) (j : ℕ) (hj : j < 512) :
    tw (v.read (Elt F) (v.writes (Elt F) f (⟨Rect.unit off ![512, 256] inb, w⟩ :: L))) j
      = if j / 64 = k then st8 P j else tw (v.read (Elt F) (v.writes (Elt F) f L)) j := by
  funext y
  have h0 : (y 0).val < 8 := (y 0).isLt
  have h1 : (y 1).val < 256 := (y 1).isLt
  unfold tw
  by_cases e : j / 64 = k
  · rw [if_pos e, hP]
    unfold st8
    rw [e]
    refine View.read_writes_cons_rows_of_mem v f inb (P k) L _ _ h ?_ rfl
    show (8 * j + (y 0).val) % 4096 = 512 * k + (8 * (j % 64) + (y 0).val) % 512
    rw [Nat.mod_eq_of_lt (by omega), Nat.mod_eq_of_lt (by omega)]; omega
  · rw [if_neg e]
    refine View.read_writes_cons_rows_of_not_mem v f inb w L _ h (W := 512) rfl ?_
    show (8 * j + (y 0).val) % 4096 < 512 * k ∨ 512 * k + 512 ≤ (8 * j + (y 0).val) % 4096
    rw [Nat.mod_eq_of_lt (by omega)]; omega

/-- What one chunk of the coefficient loop computes: forward products, forward sums, backward products, backward sums. -/
structure Chunk (F : FTy → Type) [FloatOps F] where
  af : Vec F S512x256 .f32
  bf : Vec F S512x256 .f32
  ab : Vec F S512x256 .f32
  bb : Vec F S512x256 .f32

/-- The program's own values for a chunk `x`: the short convolution, the two gates, the decay, and the scan within tiles of eight. -/
def chunkOf (x : Vec F S1x512x256 .f32) (w0 w1 w2 w3 cb : Vec F S1x256 .f32) (wa0 wx0 wa1 wx1 : Vec F S1x1x256x256 .bf16)
    (ba0 bx0 lam0 ba1 bx1 lam1 : Vec F S1x1x256 .f32) : Chunk F :=
  let v18 := k0_pay18 x
  let v46 := k0_pay20 x cb w2 w0
  let v47 := k0_pay21 x
  let v83 := k0_pay25 v18 k0_pay19 v46 v47 k0_pay22 k0_pay23 w1 w3
  let v85 := k0_pay26 v18 k0_pay19 v46 v47 k0_pay22 k0_pay23 w1 w3
  let v88 := k0_pay27 v18 k0_pay19 v46 v47 k0_pay22 k0_pay23 w1 w3 wa0
  let v91 := k0_pay28 ba0
  let v130 := k0_pay30 v88 v91 lam0
  let v131 := k0_pay31 v83 v85 v88 v91 wx0 bx0 lam0
  let io : IVec S1x8x1 32 := iota .tc S1x8x1 32 [1] iota_S1x8x1_d1_w32
  let v195 := k0_pay42 v83 wa1 ba1
  let v203 := k0_pay43 v83 wx1 bx1
  let v209 := k0_pay45 lam1
  let v213 := k0_pay46 lam1
  { af := k0_pay40 (k0_pay38 v130 io k0_pay32)
    bf := k0_pay41 (k0_pay39 v130 v131 io k0_pay32)
    ab := k0_pay3 io (k0_pay50 v195 v209 v213) (k0_pay53 v195 v209 v213) (Scalar.ofBits .f32 0x3F800000#32) k0_pay54
    bb := k0_pay4 io (k0_pay50 v195 v209 v213) (k0_pay52 v85 v195 v203 v209 v213) (k0_pay53 v195 v209 v213) (Scalar.ofBits .f32 0x3F800000#32) k0_pay54 }

section
variable (𝒱 : Variants) (c : Dev nD) (bd : Option 𝒱.V) (i : grid0.Coords) (arg2 : Memref sig .tc .vmem S1x4096x256 .f32) (harg2 : arg2.IsWhole) (arg3 : Memref sig .tc .vmem S1x4096x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256 .f32) (harg7 : arg7.IsWhole) (arg8 : Memref sig .tc .vmem S2x1x256x256 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S1x2x256 .f32) (harg11 : arg11.IsWhole) (arg12 : Memref sig .tc .vmem S1x4096x256 .bf16) (harg12 : arg12.IsWhole) (arg13 : Memref sig .tc .vmem S1x2x256 .f32) (harg13 : arg13.IsWhole) (arg14 : Memref sig .tc .vmem S4096x256 .f32) (harg14 : arg14.IsWhole) (arg15 : Memref sig .tc .vmem S4096x256 .f32) (harg15 : arg15.IsWhole) (arg16 : Memref sig .tc .vmem S4096x256 .f32) (harg16 : arg16.IsWhole) (arg17 : Memref sig .tc .vmem S4096x256 .f32) (harg17 : arg17.IsWhole)

/-- The forward tiles a trip stores, newest first, as the program computes them. -/
def fwdPieces (X14 : BufTy.Contents (Elt F) arg14.view.ty) (h : FVec F S1x256 .f32) (f15 : BufTy.Contents (Elt F) arg15.view.ty) (k : Fin k0_t2_loop.trips) :
    List (View.Piece (Elt F) S4096x256 .f32) × FVec F S1x256 .f32 :=
  let a0 := arg14.view.readAt (Elt F) (Rect.unit (s := S4096x256) (k0_off3 k 0#32) ![8, 256] (k0_off3_inb k 0)).toLoadRect X14
  let a1 := arg14.view.readAt (Elt F) (Rect.unit (s := S4096x256) (k0_off3 k 1#32) ![8, 256] (k0_off3_inb k 1)).toLoadRect X14
  let a2 := arg14.view.readAt (Elt F) (Rect.unit (s := S4096x256) (k0_off3 k 2#32) ![8, 256] (k0_off3_inb k 2)).toLoadRect X14
  let a3 := arg14.view.readAt (Elt F) (Rect.unit (s := S4096x256) (k0_off3 k 3#32) ![8, 256] (k0_off3_inb k 3)).toLoadRect X14
  let b0 := arg15.view.readAt (Elt F) (Rect.unit (s := S4096x256) (k0_off3 k 0#32) ![8, 256] (k0_off3_inb k 0)).toLoadRect f15
  let L0 : List (View.Piece (Elt F) S4096x256 .f32) := [⟨(Rect.unit (s := S4096x256) (k0_off3 k 0#32) ![8, 256] (k0_off3_inb k 0)), k0_pay56 h a0 b0⟩]
  let b1 := arg15.view.readAt (Elt F) (Rect.unit (s := S4096x256) (k0_off3 k 1#32) ![8, 256] (k0_off3_inb k 1)).toLoadRect f15
  let L1 : List (View.Piece (Elt F) S4096x256 .f32) := ⟨(Rect.unit (s := S4096x256) (k0_off3 k 1#32) ![8, 256] (k0_off3_inb k 1)), k0_pay62 (k0_pay60 h a0 b0 a1) b1⟩ :: L0
  let b2 := arg15.view.readAt (Elt F) (Rect.unit (s := S4096x256) (k0_off3 k 2#32) ![8, 256] (k0_off3_inb k 2)).toLoadRect f15
  let L2 : List (View.Piece (Elt F) S4096x256 .f32) := ⟨(Rect.unit (s := S4096x256) (k0_off3 k 2#32) ![8, 256] (k0_off3_inb k 2)), k0_pay67 (k0_pay60 h a0 b0 a1) b1 a2 b2⟩ :: L1
  let b3 := arg15.view.readAt (Elt F) (Rect.unit (s := S4096x256) (k0_off3 k 3#32) ![8, 256] (k0_off3_inb k 3)).toLoadRect f15
  (⟨(Rect.unit (s := S4096x256) (k0_off3 k 3#32) ![8, 256] (k0_off3_inb k 3)), k0_pay10 (k0_pay68 (k0_pay60 h a0 b0 a1) b1 a2 b2) a3 b3⟩ :: L2, k0_pay11 (k0_pay68 (k0_pay60 h a0 b0 a1) b1 a2 b2) a3 b3)

/-- The backward tiles a trip stores, newest first, as the program computes them. -/
def bwdPieces (X16 : BufTy.Contents (Elt F) arg16.view.ty) (h : FVec F S1x256 .f32) (f17 : BufTy.Contents (Elt F) arg17.view.ty) (k : Fin k0_t2_loop.trips) :
    List (View.Piece (Elt F) S4096x256 .f32) × FVec F S1x256 .f32 :=
  let a0 := arg16.view.readAt (Elt F) (Rect.unit (s := S4096x256) (k0_off4 k 0#32) ![8, 256] (k0_off4_inb k 0)).toLoadRect X16
  let a1 := arg16.view.readAt (Elt F) (Rect.unit (s := S4096x256) (k0_off4 k 1#32) ![8, 256] (k0_off4_inb k 1)).toLoadRect X16
  let a2 := arg16.view.readAt (Elt F) (Rect.unit (s := S4096x256) (k0_off4 k 2#32) ![8, 256] (k0_off4_inb k 2)).toLoadRect X16
  let a3 := arg16.view.readAt (Elt F) (Rect.unit (s := S4096x256) (k0_off4 k 3#32) ![8, 256] (k0_off4_inb k 3)).toLoadRect X16
  let b0 := arg17.view.readAt (Elt F) (Rect.unit (s := S4096x256) (k0_off4 k 0#32) ![8, 256] (k0_off4_inb k 0)).toLoadRect f17
  let L0 : List (View.Piece (Elt F) S4096x256 .f32) := [⟨(Rect.unit (s := S4096x256) (k0_off4 k 0#32) ![8, 256] (k0_off4_inb k 0)), k0_pay58 h a0 b0⟩]
  let b1 := arg17.view.readAt (Elt F) (Rect.unit (s := S4096x256) (k0_off4 k 1#32) ![8, 256] (k0_off4_inb k 1)).toLoadRect (arg17.view.writes (Elt F) f17 L0)
  let L1 : List (View.Piece (Elt F) S4096x256 .f32) := ⟨(Rect.unit (s := S4096x256) (k0_off4 k 1#32) ![8, 256] (k0_off4_inb k 1)), k0_pay64 (k0_pay59 h a0 b0) a1 b1⟩ :: L0
  let b2 := arg17.view.readAt (Elt F) (Rect.unit (s := S4096x256) (k0_off4 k 2#32) ![8, 256] (k0_off4_inb k 2)).toLoadRect (arg17.view.writes (Elt F) f17 L1)
  let L2 : List (View.Piece (Elt F) S4096x256 .f32) := ⟨(Rect.unit (s := S4096x256) (k0_off4 k 2#32) ![8, 256] (k0_off4_inb k 2)), k0_pay8 (k0_pay65 (k0_pay59 h a0 b0) a1 b1) a2 b2⟩ :: L1
  let b3 := arg17.view.readAt (Elt F) (Rect.unit (s := S4096x256) (k0_off4 k 3#32) ![8, 256] (k0_off4_inb k 3)).toLoadRect (arg17.view.writes (Elt F) f17 L2)
  (⟨(Rect.unit (s := S4096x256) (k0_off4 k 3#32) ![8, 256] (k0_off4_inb k 3)), k0_pay13 (k0_pay65 (k0_pay59 h a0 b0) a1 b1) a2 b2 a3 b3⟩ :: L2, k0_pay14 (k0_pay65 (k0_pay59 h a0 b0) a1 b1) a2 b2 a3 b3)

section trip
variable (X14 : BufTy.Contents (Elt F) arg14.view.ty) (X16 : BufTy.Contents (Elt F) arg16.view.ty)
    (acc : FVec F S1x256 .f32 × FVec F S1x256 .f32) (f15 : BufTy.Contents (Elt F) arg15.view.ty)
    (f17 : BufTy.Contents (Elt F) arg17.view.ty) (k : Fin k0_t2_loop.trips)

theorem trip2_L15 : (tripL_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 k acc f15 f17).1 = (fwdPieces arg14 arg15 X14 acc.1 f15 k).1 := by
  unfold tripL_k0_t2 trip_k0_t2
  rfl

theorem trip2_L17 : (tripL_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 k acc f15 f17).2 = (bwdPieces arg16 arg17 X16 acc.2 f17 k).1 := by
  unfold tripL_k0_t2 trip_k0_t2
  rfl

theorem trip2_R : tripR_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 k acc f15 f17 = ((fwdPieces arg14 arg15 X14 acc.1 f15 k).2, (bwdPieces arg16 arg17 X16 acc.2 f17 k).2) := by
  unfold tripR_k0_t2 trip_k0_t2
  rfl

theorem e3_0 : k0_off3 k 0#32 = ![8 * (4 * k.val + 0), 0] :=
  (k0_off3_eq k 0).trans (congrArg (fun n : ℕ => (![n, 0] : Fin 2 → ℕ)) (by show _ + 8 * 0 = _; omega))

theorem e4_0 : k0_off4 k 0#32 = ![8 * (511 - 4 * k.val - 0), 0] :=
  (k0_off4_eq k 0).trans (congrArg (fun n : ℕ => (![n, 0] : Fin 2 → ℕ)) (by
    have hk : k.val < 128 := Nat.lt_of_lt_of_le k.isLt k0_t2_abs.2.1
    show 4088 - (_ + 8 * 0) = _; omega))

theorem e3_1 : k0_off3 k 1#32 = ![8 * (4 * k.val + 1), 0] :=
  (k0_off3_eq k 1).trans (congrArg (fun n : ℕ => (![n, 0] : Fin 2 → ℕ)) (by show _ + 8 * 1 = _; omega))

theorem e4_1 : k0_off4 k 1#32 = ![8 * (511 - 4 * k.val - 1), 0] :=
  (k0_off4_eq k 1).trans (congrArg (fun n : ℕ => (![n, 0] : Fin 2 → ℕ)) (by
    have hk : k.val < 128 := Nat.lt_of_lt_of_le k.isLt k0_t2_abs.2.1
    show 4088 - (_ + 8 * 1) = _; omega))

theorem e3_2 : k0_off3 k 2#32 = ![8 * (4 * k.val + 2), 0] :=
  (k0_off3_eq k 2).trans (congrArg (fun n : ℕ => (![n, 0] : Fin 2 → ℕ)) (by show _ + 8 * 2 = _; omega))

theorem e4_2 : k0_off4 k 2#32 = ![8 * (511 - 4 * k.val - 2), 0] :=
  (k0_off4_eq k 2).trans (congrArg (fun n : ℕ => (![n, 0] : Fin 2 → ℕ)) (by
    have hk : k.val < 128 := Nat.lt_of_lt_of_le k.isLt k0_t2_abs.2.1
    show 4088 - (_ + 8 * 2) = _; omega))

theorem e3_3 : k0_off3 k 3#32 = ![8 * (4 * k.val + 3), 0] :=
  (k0_off3_eq k 3).trans (congrArg (fun n : ℕ => (![n, 0] : Fin 2 → ℕ)) (by show _ + 8 * 3 = _; omega))

theorem e4_3 : k0_off4 k 3#32 = ![8 * (511 - 4 * k.val - 3), 0] :=
  (k0_off4_eq k 3).trans (congrArg (fun n : ℕ => (![n, 0] : Fin 2 → ℕ)) (by
    have hk : k.val < 128 := Nat.lt_of_lt_of_le k.isLt k0_t2_abs.2.1
    show 4088 - (_ + 8 * 3) = _; omega))

/-- The forward tiles of one trip, read as a function of the tiles it finds. -/
theorem fwd_spec (h : FVec F S1x256 .f32)
    (a b : ℕ → Vec F S8x256 .f32) (ha : ∀ j, tw (arg14.view.read (Elt F) X14) j = a j) (hb : ∀ j, tw (arg15.view.read (Elt F) f15) j = b j)
    (p0 p1 p2 p3 : FVec F S8x256 .f32)
    (hp0 : p0 = tT h (a (4 * k.val + 0)) (b (4 * k.val + 0)))
    (hp1 : p1 = tT (tLast p0) (a (4 * k.val + 1)) (b (4 * k.val + 1)))
    (hp2 : p2 = tT (tLast p1) (a (4 * k.val + 2)) (b (4 * k.val + 2)))
    (hp3 : p3 = tT (tLast p2) (a (4 * k.val + 3)) (b (4 * k.val + 3))) :
    (fwdPieces arg14 arg15 X14 h f15 k).2 = tLast p3
      ∧ arg15.view.read (Elt F) (arg15.view.writes (Elt F) f15 (fwdPieces arg14 arg15 X14 h f15 k).1)
        = tput (tput (tput (tput (arg15.view.read (Elt F) f15) (4 * k.val + 0) p0) (4 * k.val + 1) p1) (4 * k.val + 2) p2) (4 * k.val + 3) p3 := by
  have hk : k.val < 128 := Nat.lt_of_lt_of_le k.isLt k0_t2_abs.2.1
  unfold fwdPieces
  dsimp only
  rw [read_writes_tile _ _ _ _ _ _ _ (e3_3 k), read_writes_tile _ _ _ _ _ _ _ (e3_2 k), read_writes_tile _ _ _ _ _ _ _ (e3_1 k),
    read_writes_tile _ _ _ _ _ _ _ (e3_0 k)]
  rw [readAt_tile _ _ _ _ _ (by show 4 * k.val + 0 < 512; omega) (e3_0 k), readAt_tile _ _ _ _ _ (by show 4 * k.val + 1 < 512; omega) (e3_1 k),
    readAt_tile _ _ _ _ _ (by show 4 * k.val + 2 < 512; omega) (e3_2 k), readAt_tile _ _ _ _ _ (by show 4 * k.val + 3 < 512; omega) (e3_3 k),
    readAt_tile _ _ _ _ _ (by show 4 * k.val + 0 < 512; omega) (e3_0 k), readAt_tile _ _ _ _ _ (by show 4 * k.val + 1 < 512; omega) (e3_1 k),
    readAt_tile _ _ _ _ _ (by show 4 * k.val + 2 < 512; omega) (e3_2 k), readAt_tile _ _ _ _ _ (by show 4 * k.val + 3 < 512; omega) (e3_3 k)]
  simp only [ha, hb]
  subst hp3 hp2 hp1 hp0
  unfold k0_pay10 k0_pay67 k0_pay62 k0_pay56
  simp only [sc8]
  exact ⟨rfl, rfl⟩

/-- The backward tiles of one trip, read as a function of the tiles it finds. -/
theorem bwd_spec (h : FVec F S1x256 .f32)
    (a b : ℕ → Vec F S8x256 .f32) (ha : ∀ j, tw (arg16.view.read (Elt F) X16) j = a j) (hb : ∀ j, tw (arg17.view.read (Elt F) f17) j = b j)
    (p0 p1 p2 p3 : FVec F S8x256 .f32)
    (hp0 : p0 = tT h (a (511 - 4 * k.val - 0)) (b (511 - 4 * k.val - 0)))
    (hp1 : p1 = tT (tFirst p0) (a (511 - 4 * k.val - 1)) (b (511 - 4 * k.val - 1)))
    (hp2 : p2 = tT (tFirst p1) (a (511 - 4 * k.val - 2)) (b (511 - 4 * k.val - 2)))
    (hp3 : p3 = tT (tFirst p2) (a (511 - 4 * k.val - 3)) (b (511 - 4 * k.val - 3))) :
    (bwdPieces arg16 arg17 X16 h f17 k).2 = tFirst p3
      ∧ arg17.view.read (Elt F) (arg17.view.writes (Elt F) f17 (bwdPieces arg16 arg17 X16 h f17 k).1)
        = tput (tput (tput (tput (arg17.view.read (Elt F) f17) (511 - 4 * k.val - 0) p0) (511 - 4 * k.val - 1) p1) (511 - 4 * k.val - 2) p2) (511 - 4 * k.val - 3) p3 := by
  have hk : k.val < 128 := Nat.lt_of_lt_of_le k.isLt k0_t2_abs.2.1
  unfold bwdPieces
  dsimp only
  rw [readAt_tile arg16.view _ _ _ _ (by show 511 - 4 * k.val - 0 < 512; omega) (e4_0 k), readAt_tile arg16.view _ _ _ _ (by show 511 - 4 * k.val - 1 < 512; omega) (e4_1 k),
    readAt_tile arg16.view _ _ _ _ (by show 511 - 4 * k.val - 2 < 512; omega) (e4_2 k), readAt_tile arg16.view _ _ _ _ (by show 511 - 4 * k.val - 3 < 512; omega) (e4_3 k),
    readAt_tile arg17.view _ _ _ _ (by show 511 - 4 * k.val - 0 < 512; omega) (e4_0 k), readAt_tile arg17.view _ _ _ _ (by show 511 - 4 * k.val - 1 < 512; omega) (e4_1 k),
    readAt_tile arg17.view _ _ _ _ (by show 511 - 4 * k.val - 2 < 512; omega) (e4_2 k), readAt_tile arg17.view _ _ _ _ (by show 511 - 4 * k.val - 3 < 512; omega) (e4_3 k)]
  simp only [read_writes_tile _ _ _ _ _ _ _ (e4_3 k), read_writes_tile _ _ _ _ _ _ _ (e4_2 k), read_writes_tile _ _ _ _ _ _ _ (e4_1 k),
    read_writes_tile _ _ _ _ _ _ _ (e4_0 k), View.writes_nil]
  simp only [ha]
  rw [tw_tput_ne _ _ (511 - 4 * k.val - 1) (by omega) (by omega), tw_tput_ne _ _ (511 - 4 * k.val - 2) (by omega) (by omega), tw_tput_ne _ _ (511 - 4 * k.val - 2) (by omega) (by omega),
    tw_tput_ne _ _ (511 - 4 * k.val - 3) (by omega) (by omega), tw_tput_ne _ _ (511 - 4 * k.val - 3) (by omega) (by omega), tw_tput_ne _ _ (511 - 4 * k.val - 3) (by omega) (by omega)]
  simp only [hb]
  subst hp3 hp2 hp1 hp0
  unfold k0_pay13 k0_pay8 k0_pay64 k0_pay58
  simp only [sc8]
  exact ⟨rfl, rfl⟩

end trip

section scan
variable (X14 : BufTy.Contents (Elt F) arg14.view.ty) (X16 : BufTy.Contents (Elt F) arg16.view.ty)
    (G15 : BufTy.Contents (Elt F) arg15.view.ty) (G17 : BufTy.Contents (Elt F) arg17.view.ty) (init : FVec F S1x256 .f32 × FVec F S1x256 .f32)

/-- The scan's invariant: before trip `k` the carries are those into tiles `4 k` and `511 - 4 k`, the tiles passed hold the recurrence's
    values and the others what they held. -/
theorem st2_spec (a b a' b' : ℕ → Vec F S8x256 .f32) (ha : ∀ j, j < 512 → tw (arg14.view.read (Elt F) X14) j = a j)
    (hb : ∀ j, j < 512 → tw (arg15.view.read (Elt F) G15) j = b j)
    (ha' : ∀ j, j < 512 → tw (arg16.view.read (Elt F) X16) j = a' j) (hb' : ∀ j, j < 512 → tw (arg17.view.read (Elt F) G17) j = b' j) :
    ∀ k : ℕ, k ≤ k0_t2_loop.trips →
      (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 G15 G17 init k).1 = (fC init.1 a b (4 * k), bC init.2 a' b' (4 * k))
      ∧ (∀ j, j < 512 → tw (arg15.view.read (Elt F) (arg15.view.writes (Elt F) G15 (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 G15 G17 init k).2.1)) j
          = if j < 4 * k then tT (fC init.1 a b j) (a j) (b j) else b j)
      ∧ (∀ j, j < 512 → tw (arg17.view.read (Elt F) (arg17.view.writes (Elt F) G17 (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 G15 G17 init k).2.2)) j
          = if 511 - j < 4 * k then tT (bC init.2 a' b' (511 - j)) (a' j) (b' j) else b' j) := by
  intro k
  induction k with
  | zero =>
    intro _
    refine ⟨rfl, fun j hj => ?_, fun j hj => ?_⟩
    · rw [if_neg (by omega)]; exact hb j hj
    · rw [if_neg (by omega)]; exact hb' j hj
  | succ k ih =>
    intro hk
    have hk' : k < 128 := Nat.lt_of_lt_of_le (Nat.lt_of_succ_le hk) k0_t2_abs.2.1
    obtain ⟨i1, i2, i3⟩ := ih (by omega)
    rw [st_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 G15 G17 init ⟨k, hk⟩, trip2_R, trip2_L15, trip2_L17]
    dsimp only
    generalize st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X16 G15 G17 init k = st at i1 i2 i3 ⊢
    rw [View.writes_append, View.writes_append, i1]
    obtain ⟨f1, f2⟩ := fwd_spec arg14 arg15 X14 (arg15.view.writes (Elt F) G15 st.2.1) ⟨k, hk⟩
      (fC init.1 a b (4 * k)) _ _ (fun _ => rfl) (fun _ => rfl) _ _ _ _ rfl rfl rfl rfl
    obtain ⟨g1, g2⟩ := bwd_spec arg16 arg17 X16 (arg17.view.writes (Elt F) G17 st.2.2) ⟨k, hk⟩
      (bC init.2 a' b' (4 * k)) _ _ (fun _ => rfl) (fun _ => rfl) _ _ _ _ rfl rfl rfl rfl
    dsimp only at f1 f2 g1 g2 ⊢
    rw [f1, f2, g1, g2]
    rw [ha (4 * k + 0) (by omega), ha (4 * k + 1) (by omega), ha (4 * k + 2) (by omega), ha (4 * k + 3) (by omega),
      ha' (511 - 4 * k - 0) (by omega), ha' (511 - 4 * k - 1) (by omega), ha' (511 - 4 * k - 2) (by omega), ha' (511 - 4 * k - 3) (by omega)]
    rw [i2 (4 * k + 0) (by omega), i2 (4 * k + 1) (by omega), i2 (4 * k + 2) (by omega), i2 (4 * k + 3) (by omega),
      i3 (511 - 4 * k - 0) (by omega), i3 (511 - 4 * k - 1) (by omega), i3 (511 - 4 * k - 2) (by omega), i3 (511 - 4 * k - 3) (by omega)]
    rw [if_neg (by omega), if_neg (by omega), if_neg (by omega), if_neg (by omega), if_neg (by omega), if_neg (by omega), if_neg (by omega), if_neg (by omega)]
    refine ⟨?_, fun j hj => ?_, fun j hj => ?_⟩
    · refine Prod.ext ?_ ?_
      · rfl
      · show _ = bC init.2 a' b' (4 * k + 4)
        simp only [bC]
        rw [show 511 - (4 * k + 3) = 511 - 4 * k - 3 by omega, show 511 - (4 * k + 2) = 511 - 4 * k - 2 by omega, show 511 - (4 * k + 1) = 511 - 4 * k - 1 by omega]
        rfl
    · by_cases c3 : j = 4 * k + 3
      · subst c3; rw [tw_tput_same _ _ hj, if_pos (by omega)]; rfl
      rw [tw_tput_ne _ _ _ hj c3]
      by_cases c2 : j = 4 * k + 2
      · subst c2; rw [tw_tput_same _ _ hj, if_pos (by omega)]; rfl
      rw [tw_tput_ne _ _ _ hj c2]
      by_cases c1 : j = 4 * k + 1
      · subst c1; rw [tw_tput_same _ _ hj, if_pos (by omega)]; rfl
      rw [tw_tput_ne _ _ _ hj c1]
      by_cases c0 : j = 4 * k + 0
      · subst c0; rw [tw_tput_same _ _ hj, if_pos (by omega)]; rfl
      rw [tw_tput_ne _ _ _ hj c0, i2 j hj]
      by_cases l : j < 4 * k
      · rw [if_pos l, if_pos (by omega)]
      · rw [if_neg l, if_neg (by omega)]
    · by_cases c3 : j = 511 - 4 * k - 3
      · rw [c3, tw_tput_same _ _ (by omega), if_pos (by omega), show 511 - (511 - 4 * k - 3) = 4 * k + 3 by omega]
        simp only [bC]
        rw [show 511 - (4 * k + 2) = 511 - 4 * k - 2 by omega, show 511 - (4 * k + 1) = 511 - 4 * k - 1 by omega]
        rfl
      rw [tw_tput_ne _ _ _ hj c3]
      by_cases c2 : j = 511 - 4 * k - 2
      · rw [c2, tw_tput_same _ _ (by omega), if_pos (by omega), show 511 - (511 - 4 * k - 2) = 4 * k + 2 by omega]
        simp only [bC]
        rw [show 511 - (4 * k + 1) = 511 - 4 * k - 1 by omega]
        rfl
      rw [tw_tput_ne _ _ _ hj c2]
      by_cases c1 : j = 511 - 4 * k - 1
      · rw [c1, tw_tput_same _ _ (by omega), if_pos (by omega), show 511 - (511 - 4 * k - 1) = 4 * k + 1 by omega]
        rfl
      rw [tw_tput_ne _ _ _ hj c1]
      by_cases c0 : j = 511 - 4 * k - 0
      · rw [c0, tw_tput_same _ _ (by omega), if_pos (by omega), show 511 - (511 - 4 * k - 0) = 4 * k by omega]
      rw [tw_tput_ne _ _ _ hj c0, i3 j hj]
      by_cases l : 511 - j < 4 * k
      · rw [if_pos l, if_pos (by omega)]
      · rw [if_neg l, if_neg (by omega)]
end scan

section emit
variable (X3 : BufTy.Contents (Elt F) arg3.view.ty) (X15 : BufTy.Contents (Elt F) arg15.view.ty) (X17 : BufTy.Contents (Elt F) arg17.view.ty)

/-- What the emitting loop stores for a chunk. -/
def emitOf (s15 s17 : Vec F S4096x256 .f32) (g : Vec F S1x4096x256 .f32) (k : ℕ) : FVec F S1x512x256 .bf16 :=
  k0_pay17 (cw s15 k) (cw s17 k) (cw3 g k)

theorem trip3_L (k : Fin k0_t3_loop.trips) : tripL_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X15 X17 k
    = [⟨Rect.unit (s := S1x4096x256) (k0_off6 k) ![1, 512, 256] (k0_off6_inb k), emitOf (arg15.view.read (Elt F) X15) (arg17.view.read (Elt F) X17) (arg3.view.read (Elt F) X3) k.val⟩] := by
  have hk : k.val < 8 := Nat.lt_of_lt_of_le k.isLt (by decide)
  have e : tripL_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X15 X17 k = [⟨Rect.unit (s := S1x4096x256) (k0_off6 k) ![1, 512, 256] (k0_off6_inb k),
      k0_pay17 (arg15.view.readAt (Elt F) (Rect.unit (s := S4096x256) (k0_off5 k) ![512, 256] (k0_off5_inb k)).toLoadRect X15)
        (arg17.view.readAt (Elt F) (Rect.unit (s := S4096x256) (k0_off5 k) ![512, 256] (k0_off5_inb k)).toLoadRect X17)
        (arg3.view.readAt (Elt F) (Rect.unit (s := S1x4096x256) (k0_off6 k) ![1, 512, 256] (k0_off6_inb k)).toLoadRect X3)⟩] := by
    unfold tripL_k0_t3 trip_k0_t3
    rfl
  rw [e, readAt_chunk _ _ _ _ _ hk (k0_off5_eq k), readAt_chunk _ _ _ _ _ hk (k0_off5_eq k), readAt_chunk3 _ _ _ _ _ hk (k0_off6_eq k)]
  rfl

/-- What the emitting loop has stored before trip `k`: the rows of the chunks passed. -/
theorem pb3_spec (f : BufTy.Contents (Elt F) arg12.view.ty) : ∀ k : ℕ, k ≤ k0_t3_loop.trips → ∀ y : S1x4096x256.Idx, (y 1).val < 512 * k →
    arg12.view.read (Elt F) (arg12.view.writes (Elt F) f (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X15 X17 k)) y
      = emitOf (arg15.view.read (Elt F) X15) (arg17.view.read (Elt F) X17) (arg3.view.read (Elt F) X3) ((y 1).val / 512)
          (ix3 (0 : Fin 1) (⟨(y 1).val % 512, Nat.mod_lt _ (by decide)⟩ : Fin 512) (y 2)) := by
  intro k
  induction k with
  | zero => intro _ y hy; omega
  | succ k ih =>
    intro hk y hy
    have hk' : k < 8 := Nat.lt_of_lt_of_le (Nat.lt_of_succ_le hk) k0_t3_abs.2.1
    have h0 : (y 0).val < 1 := (y 0).isLt
    have h1 : (y 1).val < 4096 := (y 1).isLt
    have h2 : (y 2).val < 256 := (y 2).isLt
    rw [pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X15 X17 ⟨k, hk⟩, trip3_L]
    have h6 := k0_off6_eq ⟨k, hk⟩
    by_cases l : (y 1).val < 512 * k
    · rw [← ih (by omega) y l]
      exact View.read_writes_cons_unit_of_not_mem _ _ _ _ _ _ h6 1 (Or.inl l)
    · have hd : (y 1).val / 512 = k := by omega
      rw [hd]
      refine View.read_writes_cons_unit_of_mem _ _ _ _ _ _ _ h6 ?_
      intro a
      fin_cases a
      · show (y 0).val = 0 + 0
        omega
      · show (y 1).val = 512 * k + (y 1).val % 512
        omega
      · show (y 2).val = 0 + (y 2).val
        omega
end emit

section coeffs
variable (X2 : BufTy.Contents (Elt F) arg2.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)
  (X9 : BufTy.Contents (Elt F) arg9.view.ty) (X10 : BufTy.Contents (Elt F) arg10.view.ty)

/-- The chunk of trip `k`, from the staged blocks. -/
def chunkAt (x : Vec F S1x512x256 .f32) : Chunk F :=
  chunkOf x (arg4.view.readAt (Elt F) (Rect.unit (s := S4x256) ![0, 0] ![1, 256] (by decide)).toLoadRect X4)
    (arg4.view.readAt (Elt F) (Rect.unit (s := S4x256) ![1, 0] ![1, 256] (by decide)).toLoadRect X4)
    (arg4.view.readAt (Elt F) (Rect.unit (s := S4x256) ![2, 0] ![1, 256] (by decide)).toLoadRect X4)
    (arg4.view.readAt (Elt F) (Rect.unit (s := S4x256) ![3, 0] ![1, 256] (by decide)).toLoadRect X4)
    (arg5.view.readAt (Elt F) (Rect.unit (s := S1x256) ![0, 0] ![1, 256] (by decide)).toLoadRect X5)
    (arg6.view.readAt (Elt F) (Rect.unit (s := S2x1x256x256) ![0, 0, 0, 0] ![1, 1, 256, 256] (by decide)).toLoadRect X6)
    (arg8.view.readAt (Elt F) (Rect.unit (s := S2x1x256x256) ![0, 0, 0, 0] ![1, 1, 256, 256] (by decide)).toLoadRect X8)
    (arg6.view.readAt (Elt F) (Rect.unit (s := S2x1x256x256) ![1, 0, 0, 0] ![1, 1, 256, 256] (by decide)).toLoadRect X6)
    (arg8.view.readAt (Elt F) (Rect.unit (s := S2x1x256x256) ![1, 0, 0, 0] ![1, 1, 256, 256] (by decide)).toLoadRect X8)
    (arg7.view.readAt (Elt F) (Rect.unit (s := S2x1x256) ![0, 0, 0] ![1, 1, 256] (by decide)).toLoadRect X7)
    (arg9.view.readAt (Elt F) (Rect.unit (s := S2x1x256) ![0, 0, 0] ![1, 1, 256] (by decide)).toLoadRect X9)
    (arg10.view.readAt (Elt F) (Rect.unit (s := S2x1x256) ![0, 0, 0] ![1, 1, 256] (by decide)).toLoadRect X10)
    (arg7.view.readAt (Elt F) (Rect.unit (s := S2x1x256) ![1, 0, 0] ![1, 1, 256] (by decide)).toLoadRect X7)
    (arg9.view.readAt (Elt F) (Rect.unit (s := S2x1x256) ![1, 0, 0] ![1, 1, 256] (by decide)).toLoadRect X9)
    (arg10.view.readAt (Elt F) (Rect.unit (s := S2x1x256) ![1, 0, 0] ![1, 1, 256] (by decide)).toLoadRect X10)

theorem trip1_L14 (k : Fin k0_t1_loop.trips) : (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).1
    = [⟨Rect.unit (s := S4096x256) (k0_off2 k) ![512, 256] (k0_off2_inb k), (chunkAt arg4 arg5 arg6 arg7 arg8 arg9 arg10 X4 X5 X6 X7 X8 X9 X10 (arg2.view.readAt (Elt F) (Rect.unit (s := S1x4096x256) (k0_off1 k) ![1, 512, 256] (k0_off1_inb k)).toLoadRect X2)).af⟩] := by
  unfold tripL_k0_t1 trip_k0_t1
  rfl
theorem trip1_L15 (k : Fin k0_t1_loop.trips) : (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.1
    = [⟨Rect.unit (s := S4096x256) (k0_off2 k) ![512, 256] (k0_off2_inb k), (chunkAt arg4 arg5 arg6 arg7 arg8 arg9 arg10 X4 X5 X6 X7 X8 X9 X10 (arg2.view.readAt (Elt F) (Rect.unit (s := S1x4096x256) (k0_off1 k) ![1, 512, 256] (k0_off1_inb k)).toLoadRect X2)).bf⟩] := by
  unfold tripL_k0_t1 trip_k0_t1
  rfl
theorem trip1_L16 (k : Fin k0_t1_loop.trips) : (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.2.1
    = [⟨Rect.unit (s := S4096x256) (k0_off2 k) ![512, 256] (k0_off2_inb k), (chunkAt arg4 arg5 arg6 arg7 arg8 arg9 arg10 X4 X5 X6 X7 X8 X9 X10 (arg2.view.readAt (Elt F) (Rect.unit (s := S1x4096x256) (k0_off1 k) ![1, 512, 256] (k0_off1_inb k)).toLoadRect X2)).ab⟩] := by
  unfold tripL_k0_t1 trip_k0_t1
  rfl
theorem trip1_L17 (k : Fin k0_t1_loop.trips) : (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.2.2
    = [⟨Rect.unit (s := S4096x256) (k0_off2 k) ![512, 256] (k0_off2_inb k), (chunkAt arg4 arg5 arg6 arg7 arg8 arg9 arg10 X4 X5 X6 X7 X8 X9 X10 (arg2.view.readAt (Elt F) (Rect.unit (s := S1x4096x256) (k0_off1 k) ![1, 512, 256] (k0_off1_inb k)).toLoadRect X2)).bb⟩] := by
  unfold tripL_k0_t1 trip_k0_t1
  rfl

/-- The coefficient loop: before trip `k` the tiles of the chunks passed are the chunks' values. -/
theorem pb1_spec (G14 : BufTy.Contents (Elt F) arg14.view.ty) (G15 : BufTy.Contents (Elt F) arg15.view.ty) (G16 : BufTy.Contents (Elt F) arg16.view.ty)
    (G17 : BufTy.Contents (Elt F) arg17.view.ty) (C : ℕ → Chunk F)
    (hC : ∀ k, C k = chunkAt arg4 arg5 arg6 arg7 arg8 arg9 arg10 X4 X5 X6 X7 X8 X9 X10 (cw3 (arg2.view.read (Elt F) X2) k)) :
    ∀ k : ℕ, k ≤ k0_t1_loop.trips → ∀ j, j < 64 * k → j < 512 →
      tw (arg14.view.read (Elt F) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).1)) j = st8 (fun k => (C k).af) j
      ∧ tw (arg15.view.read (Elt F) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.1)) j = st8 (fun k => (C k).bf) j
      ∧ tw (arg16.view.read (Elt F) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.2.1)) j = st8 (fun k => (C k).ab) j
      ∧ tw (arg17.view.read (Elt F) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 k).2.2.2)) j = st8 (fun k => (C k).bb) j := by
  intro k
  induction k with
  | zero => intro _ j hj; omega
  | succ k ih =>
    intro hk j hj hj'
    have hk' : k < 8 := Nat.lt_of_lt_of_le (Nat.lt_of_succ_le hk) k0_t1_abs.2.1
    have h2 := k0_off2_eq ⟨k, hk⟩
    have hx := readAt_chunk3 arg2.view X2 (k0_off1 ⟨k, hk⟩) (k0_off1_inb ⟨k, hk⟩) k hk' (k0_off1_eq ⟨k, hk⟩)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X5 X6 X7 X8 X9 X10 ⟨k, hk⟩, trip1_L14, trip1_L15, trip1_L16, trip1_L17, hx, ← hC k]
    dsimp only
    have key := ih (by omega) j
    refine ⟨?_, ?_, ?_, ?_⟩
    · refine (tw_writes_chunk arg14.view G14 _ _ k hk' h2 _ _ (fun k => (C k).af) rfl j hj').trans ?_
      by_cases e : j / 64 = k
      · rw [if_pos e]
      · rw [if_neg e]; exact (key (by omega) hj').1
    · refine (tw_writes_chunk arg15.view G15 _ _ k hk' h2 _ _ (fun k => (C k).bf) rfl j hj').trans ?_
      by_cases e : j / 64 = k
      · rw [if_pos e]
      · rw [if_neg e]; exact (key (by omega) hj').2.1
    · refine (tw_writes_chunk arg16.view G16 _ _ k hk' h2 _ _ (fun k => (C k).ab) rfl j hj').trans ?_
      by_cases e : j / 64 = k
      · rw [if_pos e]
      · rw [if_neg e]; exact (key (by omega) hj').2.2.1
    · refine (tw_writes_chunk arg17.view G17 _ _ k hk' h2 _ _ (fun k => (C k).bb) rfl j hj').trans ?_
      by_cases e : j / 64 = k
      · rw [if_pos e]
      · rw [if_neg e]; exact (key (by omega) hj').2.2.2
end coeffs

end

end Cert.KernelScanIdeal.Val
end
-- ==== Proof.ScanOut.lean ====
module

public import proofs.«01_k».proof.Proof.ScanRun
public import proofs.«01_k».proof.Proof.ScanLoops

@[expose] public section

set_option maxRecDepth 16384
set_option maxHeartbeats 2000000

noncomputable section

namespace Cert.KernelScanIdeal.Val

open Cert.KernelScanIdeal Cert.KernelScanIdeal.Gen Idealize.ShloMosaic Idealize.ShloMosaic.TcCoe Idealize.SL.Sem

variable {F : FTy → Type} [FloatOps F]

/-! ## The values the body leaves, from the staged blocks alone -/

/-- Row `n` of the convolution's taps. -/
def row4 (x : Vec F S4x256 .f32) (n : Fin 4) : Vec F S1x256 .f32 := fun y => x (ix2 n (y 1))

/-- One direction's weights. -/
def dir4 (x : Vec F S2x1x256x256 .bf16) (d : Fin 2) : Vec F S1x1x256x256 .bf16 := fun y => x (ix4 d (0 : Fin 1) (y 2) (y 3))

/-- One direction's row of a bias. -/
def dir3 (x : Vec F S2x1x256 .f32) (d : Fin 2) : Vec F S1x1x256 .f32 := fun y => x (ix3 d (0 : Fin 1) (y 2))

/-- One direction's initial state. -/
def ini3 (x : Vec F S1x2x256 .f32) (d : Fin 2) : Vec F S1x1x256 .f32 := fun y => x (ix3 (0 : Fin 1) d (y 2))

section
variable (x0 : Vec F S1x4096x256 .f32) (x1 : Vec F S1x4096x256 .f32) (x2 : Vec F S4x256 .f32) (x3 : Vec F S1x256 .f32) (x4 : Vec F S2x1x256x256 .bf16)
  (x5 : Vec F S2x1x256 .f32) (x6 : Vec F S2x1x256x256 .bf16) (x7 : Vec F S2x1x256 .f32) (x8 : Vec F S2x1x256 .f32) (x9 : Vec F S1x2x256 .f32)

/-- Chunk `k`'s coefficients. -/
def chunks (k : ℕ) : Chunk F :=
  chunkOf (cw3 x0 k) (row4 x2 0) (row4 x2 1) (row4 x2 2) (row4 x2 3) x3 (dir4 x4 0) (dir4 x6 0) (dir4 x4 1) (dir4 x6 1)
    (dir3 x5 0) (dir3 x7 0) (dir3 x8 0) (dir3 x5 1) (dir3 x7 1) (dir3 x8 1)

/-- The forward carries of the block. -/
def carF : ℕ → FVec F S1x256 .f32 :=
  fC (k0_pay5 (ini3 x9 0)) (st8 fun k => (chunks x0 x2 x3 x4 x5 x6 x7 x8 k).af) (st8 fun k => (chunks x0 x2 x3 x4 x5 x6 x7 x8 k).bf)

/-- The backward carries of the block. -/
def carB : ℕ → FVec F S1x256 .f32 :=
  bC (k0_pay6 (ini3 x9 1)) (st8 fun k => (chunks x0 x2 x3 x4 x5 x6 x7 x8 k).ab) (st8 fun k => (chunks x0 x2 x3 x4 x5 x6 x7 x8 k).bb)

/-- The forward states, tile by tile. -/
def tilF (j : ℕ) : Vec F S8x256 .f32 :=
  tT (carF x0 x2 x3 x4 x5 x6 x7 x8 x9 j) (st8 (fun k => (chunks x0 x2 x3 x4 x5 x6 x7 x8 k).af) j) (st8 (fun k => (chunks x0 x2 x3 x4 x5 x6 x7 x8 k).bf) j)

/-- The backward states, tile by tile. -/
def tilB (j : ℕ) : Vec F S8x256 .f32 :=
  tT (carB x0 x2 x3 x4 x5 x6 x7 x8 x9 (511 - j)) (st8 (fun k => (chunks x0 x2 x3 x4 x5 x6 x7 x8 k).ab) j) (st8 (fun k => (chunks x0 x2 x3 x4 x5 x6 x7 x8 k).bb) j)

/-- The rows of a sequence of tiles. -/
def glue (T : ℕ → Vec F S8x256 .f32) : Vec F S4096x256 .f32 :=
  fun y => T ((y 0).val / 8) (ix2 (⟨(y 0).val % 8, Nat.mod_lt _ (by decide)⟩ : Fin 8) (y 1))

/-- The block of the first result. -/
def blkY : Vec F S1x4096x256 .bf16 := fun y =>
  emitOf (glue (tilF x0 x2 x3 x4 x5 x6 x7 x8 x9)) (glue (tilB x0 x2 x3 x4 x5 x6 x7 x8 x9)) x1 ((y 1).val / 512)
    (ix3 (0 : Fin 1) (⟨(y 1).val % 512, Nat.mod_lt _ (by decide)⟩ : Fin 512) (y 2))

/-- The block of the second result. -/
def blkH : Vec F S1x2x256 .f32 := fun y =>
  if (y 1).val = 0 then k0_pay15 (carF x0 x2 x3 x4 x5 x6 x7 x8 x9 512) (ix3 (0 : Fin 1) (0 : Fin 1) (y 2))
  else k0_pay16 (carB x0 x2 x3 x4 x5 x6 x7 x8 x9 512) (ix3 (0 : Fin 1) (0 : Fin 1) (y 2))
end

theorem glue_of_tw (x : Vec F S4096x256 .f32) (T : ℕ → Vec F S8x256 .f32) (h : ∀ j, j < 512 → tw x j = T j) : x = glue T := by
  funext y
  have h0 : (y 0).val < 4096 := (y 0).isLt
  show x y = T ((y 0).val / 8) _
  rw [← h ((y 0).val / 8) (by omega)]
  show x y = x _
  refine congrArg x (funext fun a => Fin.ext ?_)
  fin_cases a
  · show (y 0).val = (8 * ((y 0).val / 8) + (y 0).val % 8) % 4096
    rw [Nat.mod_eq_of_lt (by omega)]; omega
  · rfl

theorem ld4 (v : View sig .tc .vmem S4x256 .f32) (f : v.ty.Contents (Elt F)) (n : Fin 4) (inb) :
    v.readAt (Elt F) (Rect.unit (s := S4x256) ![n.val, 0] ![1, 256] inb).toLoadRect f = row4 (v.read (Elt F) f) n := by
  funext y
  have h0 : (y 0).val < 1 := (y 0).isLt
  show v.read (Elt F) f _ = v.read (Elt F) f _
  refine congrArg _ (funext fun a => Fin.ext ?_)
  fin_cases a
  · show n.val + 1 * (y 0).val = n.val
    omega
  · show 0 + 1 * (y 1).val = (y 1).val
    omega

theorem ld1 (v : View sig .tc .vmem S1x256 .f32) (f : v.ty.Contents (Elt F)) (inb) :
    v.readAt (Elt F) (Rect.unit (s := S1x256) ![0, 0] ![1, 256] inb).toLoadRect f = v.read (Elt F) f := by
  funext y
  show v.read (Elt F) f _ = v.read (Elt F) f _
  refine congrArg _ (funext fun a => Fin.ext ?_)
  fin_cases a
  · show 0 + 1 * (y 0).val = (y 0).val
    omega
  · show 0 + 1 * (y 1).val = (y 1).val
    omega

theorem ldW (v : View sig .tc .vmem S2x1x256x256 .bf16) (f : v.ty.Contents (Elt F)) (d : Fin 2) (inb) :
    v.readAt (Elt F) (Rect.unit (s := S2x1x256x256) ![d.val, 0, 0, 0] ![1, 1, 256, 256] inb).toLoadRect f = dir4 (v.read (Elt F) f) d := by
  funext y
  have h0 : (y 0).val < 1 := (y 0).isLt
  have h1 : (y 1).val < 1 := (y 1).isLt
  show v.read (Elt F) f _ = v.read (Elt F) f _
  refine congrArg _ (funext fun a => Fin.ext ?_)
  fin_cases a
  · show d.val + 1 * (y 0).val = d.val
    omega
  · show 0 + 1 * (y 1).val = 0
    omega
  · show 0 + 1 * (y 2).val = (y 2).val
    omega
  · show 0 + 1 * (y 3).val = (y 3).val
    omega

theorem ldB (v : View sig .tc .vmem S2x1x256 .f32) (f : v.ty.Contents (Elt F)) (d : Fin 2) (inb) :
    v.readAt (Elt F) (Rect.unit (s := S2x1x256) ![d.val, 0, 0] ![1, 1, 256] inb).toLoadRect f = dir3 (v.read (Elt F) f) d := by
  funext y
  have h0 : (y 0).val < 1 := (y 0).isLt
  have h1 : (y 1).val < 1 := (y 1).isLt
  show v.read (Elt F) f _ = v.read (Elt F) f _
  refine congrArg _ (funext fun a => Fin.ext ?_)
  fin_cases a
  · show d.val + 1 * (y 0).val = d.val
    omega
  · show 0 + 1 * (y 1).val = 0
    omega
  · show 0 + 1 * (y 2).val = (y 2).val
    omega

theorem ldH (v : View sig .tc .vmem S1x2x256 .f32) (f : v.ty.Contents (Elt F)) (d : Fin 2) (inb) :
    v.readAt (Elt F) (Rect.unit (s := S1x2x256) ![0, d.val, 0] ![1, 1, 256] inb).toLoadRect f = ini3 (v.read (Elt F) f) d := by
  funext y
  have h0 : (y 0).val < 1 := (y 0).isLt
  have h1 : (y 1).val < 1 := (y 1).isLt
  show v.read (Elt F) f _ = v.read (Elt F) f _
  refine congrArg _ (funext fun a => Fin.ext ?_)
  fin_cases a
  · show 0 + 1 * (y 0).val = 0
    omega
  · show d.val + 1 * (y 1).val = d.val
    omega
  · show 0 + 1 * (y 2).val = (y 2).val
    omega

/-- Two stores of one row each. -/
theorem twoRows (v : View sig .tc .vmem S1x2x256 .f32) (f : v.ty.Contents (Elt F)) (inb1 inb0) (w1 w0 : Vec F S1x1x256 .f32) (y : S1x2x256.Idx) :
    v.read (Elt F) (v.writes (Elt F) f [⟨Rect.unit (s := S1x2x256) ![0, 1, 0] ![1, 1, 256] inb1, w1⟩, ⟨Rect.unit (s := S1x2x256) ![0, 0, 0] ![1, 1, 256] inb0, w0⟩]) y
      = if (y 1).val = 0 then w0 (ix3 (0 : Fin 1) (0 : Fin 1) (y 2)) else w1 (ix3 (0 : Fin 1) (0 : Fin 1) (y 2)) := by
  have h0 : (y 0).val < 1 := (y 0).isLt
  have h1 : (y 1).val < 2 := (y 1).isLt
  by_cases l : (y 1).val = 0
  · rw [if_pos l]
    refine (View.read_writes_cons_unit_of_not_mem v f inb1 w1 _ y rfl 1 (Or.inl ?_)).trans ?_
    · show (y 1).val < 1
      omega
    refine View.read_writes_cons_unit_of_mem v f inb0 w0 _ y (ix3 (0 : Fin 1) (0 : Fin 1) (y 2)) rfl fun a => ?_
    fin_cases a
    · show (y 0).val = 0 + 0
      omega
    · show (y 1).val = 0 + 0
      omega
    · show (y 2).val = 0 + (y 2).val
      omega
  · rw [if_neg l]
    refine View.read_writes_cons_unit_of_mem v f inb1 w1 _ y (ix3 (0 : Fin 1) (0 : Fin 1) (y 2)) rfl fun a => ?_
    fin_cases a
    · show (y 0).val = 0 + 0
      omega
    · show (y 1).val = 1 + 0
      omega
    · show (y 2).val = 0 + (y 2).val
      omega

section
variable (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256 .f32) (harg7 : arg7.IsWhole) (arg8 : Memref sig .tc .vmem S2x1x256x256 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S1x2x256 .f32) (harg11 : arg11.IsWhole) (arg12 : Memref sig .tc .vmem S1x4096x256 .bf16) (harg12 : arg12.IsWhole) (arg13 : Memref sig .tc .vmem S1x2x256 .f32) (harg13 : arg13.IsWhole) (arg14 : Memref sig .tc .vmem S4096x256 .f32) (harg14 : arg14.IsWhole) (arg15 : Memref sig .tc .vmem S4096x256 .f32) (harg15 : arg15.IsWhole) (arg16 : Memref sig .tc .vmem S4096x256 .f32) (harg16 : arg16.IsWhole) (arg17 : Memref sig .tc .vmem S4096x256 .f32) (harg17 : arg17.IsWhole)
  (x0 : Vec F S1x4096x256 .f32) (x1 : Vec F S1x4096x256 .f32) (x2 : Vec F S4x256 .f32) (x3 : Vec F S1x256 .f32) (x4 : Vec F S2x1x256x256 .bf16) (x5 : Vec F S2x1x256 .f32) (x6 : Vec F S2x1x256x256 .bf16) (x7 : Vec F S2x1x256 .f32) (x8 : Vec F S2x1x256 .f32) (x9 : Vec F S1x2x256 .f32) (fs0 : BufTy.Contents (Elt F) arg14.view.ty) (fs1 : BufTy.Contents (Elt F) arg15.view.ty) (fs2 : BufTy.Contents (Elt F) arg16.view.ty) (fs3 : BufTy.Contents (Elt F) arg17.view.ty)

/-- The pieces of the coefficient loop. -/
def after1 : List (View.Piece (Elt F) S4096x256 .f32) × List (View.Piece (Elt F) S4096x256 .f32) × List (View.Piece (Elt F) S4096x256 .f32) × List (View.Piece (Elt F) S4096x256 .f32) :=
  pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread x0) (harg4.unread x2) (harg5.unread x3) (harg6.unread x4) (harg7.unread x5) (harg8.unread x6) (harg9.unread x7) (harg10.unread x8) k0_t1_loop.trips

/-- The carries and the pieces the scan loop leaves. -/
def after2 : (FVec F S1x256 .f32 × FVec F S1x256 .f32) × List (View.Piece (Elt F) S4096x256 .f32) × List (View.Piece (Elt F) S4096x256 .f32) :=
  st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt F) fs0 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).1) (arg16.view.writes (Elt F) fs2 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.1)
    (arg15.view.writes (Elt F) fs1 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.1) (arg17.view.writes (Elt F) fs3 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.2)
    (k0_pay5 (arg11.view.readAt (Elt F) (Rect.unit (s := S1x2x256) ![0, 0, 0] ![1, 1, 256] inb_S1x2x256_S1x1x256_0_0_0).toLoadRect (harg11.unread x9)),
     k0_pay6 (arg11.view.readAt (Elt F) (Rect.unit (s := S1x2x256) ![0, 1, 0] ![1, 1, 256] inb_S1x2x256_S1x1x256_0_1_0).toLoadRect (harg11.unread x9)))
    k0_t2_loop.trips

theorem run_L10 : (scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 fs0 fs1 fs2 fs3).1 = pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x1)
    (arg15.view.writes (Elt F) fs1 ((after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).2.1 ++ (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.1))
    (arg17.view.writes (Elt F) fs3 ((after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).2.2 ++ (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.2)) k0_t3_loop.trips := by
  unfold scanRun after2 after1
  rfl

theorem run_L11 : (scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 fs0 fs1 fs2 fs3).2.1 = [⟨Rect.unit (s := S1x2x256) ![0, 1, 0] ![1, 1, 256] inb_S1x2x256_S1x1x256_0_1_0, k0_pay16 (after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).1.2⟩,
    ⟨Rect.unit (s := S1x2x256) ![0, 0, 0] ![1, 1, 256] inb_S1x2x256_S1x1x256_0_0_0, k0_pay15 (after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).1.1⟩] := by
  unfold scanRun after2 after1
  rfl

/-- The coefficient buffers after the first loop. -/
theorem after1_spec (j : ℕ) (hj : j < 512) :
      tw (arg14.view.read (Elt F) (arg14.view.writes (Elt F) fs0 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).1)) j = st8 (fun k => (chunks x0 x2 x3 x4 x5 x6 x7 x8 k).af) j
      ∧ tw (arg15.view.read (Elt F) (arg15.view.writes (Elt F) fs1 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.1)) j = st8 (fun k => (chunks x0 x2 x3 x4 x5 x6 x7 x8 k).bf) j
      ∧ tw (arg16.view.read (Elt F) (arg16.view.writes (Elt F) fs2 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.1)) j = st8 (fun k => (chunks x0 x2 x3 x4 x5 x6 x7 x8 k).ab) j
      ∧ tw (arg17.view.read (Elt F) (arg17.view.writes (Elt F) fs3 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.2)) j = st8 (fun k => (chunks x0 x2 x3 x4 x5 x6 x7 x8 k).bb) j := by
  refine pb1_spec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ fs0 fs1 fs2 fs3 _ (fun k => ?_) k0_t1_loop.trips le_rfl j ?_ hj
  · unfold chunkAt chunks
    rw [harg2.read_unread]
    congr 1
    · rw [← harg4.read_unread x2]; exact (ld4 _ _ 0 _).symm.trans (by rw [harg4.read_unread]; rfl)
    · rw [← harg4.read_unread x2]; exact (ld4 _ _ 1 _).symm.trans (by rw [harg4.read_unread]; rfl)
    · rw [← harg4.read_unread x2]; exact (ld4 _ _ 2 _).symm.trans (by rw [harg4.read_unread]; rfl)
    · rw [← harg4.read_unread x2]; exact (ld4 _ _ 3 _).symm.trans (by rw [harg4.read_unread]; rfl)
    · exact ((ld1 _ _ _).trans (harg5.read_unread x3)).symm
    · exact ((ldW _ _ 0 _).trans (congrArg (dir4 · 0) (harg6.read_unread x4))).symm
    · exact ((ldW _ _ 0 _).trans (congrArg (dir4 · 0) (harg8.read_unread x6))).symm
    · exact ((ldW _ _ 1 _).trans (congrArg (dir4 · 1) (harg6.read_unread x4))).symm
    · exact ((ldW _ _ 1 _).trans (congrArg (dir4 · 1) (harg8.read_unread x6))).symm
    · exact ((ldB _ _ 0 _).trans (congrArg (dir3 · 0) (harg7.read_unread x5))).symm
    · exact ((ldB _ _ 0 _).trans (congrArg (dir3 · 0) (harg9.read_unread x7))).symm
    · exact ((ldB _ _ 0 _).trans (congrArg (dir3 · 0) (harg10.read_unread x8))).symm
    · exact ((ldB _ _ 1 _).trans (congrArg (dir3 · 1) (harg7.read_unread x5))).symm
    · exact ((ldB _ _ 1 _).trans (congrArg (dir3 · 1) (harg9.read_unread x7))).symm
    · exact ((ldB _ _ 1 _).trans (congrArg (dir3 · 1) (harg10.read_unread x8))).symm
  · have : k0_t1_loop.trips = 8 := rfl
    omega

/-- The carries and the state buffers after the second loop. -/
theorem after2_spec :
    (after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).1 = (carF x0 x2 x3 x4 x5 x6 x7 x8 x9 512, carB x0 x2 x3 x4 x5 x6 x7 x8 x9 512)
    ∧ arg15.view.read (Elt F) (arg15.view.writes (Elt F) fs1 ((after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).2.1 ++ (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.1)) = glue (tilF x0 x2 x3 x4 x5 x6 x7 x8 x9)
    ∧ arg17.view.read (Elt F) (arg17.view.writes (Elt F) fs3 ((after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3).2.2 ++ (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.2)) = glue (tilB x0 x2 x3 x4 x5 x6 x7 x8 x9) := by
  have sp := fun j hj => after1_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 fs0 fs1 fs2 fs3 j hj
  have ht : k0_t2_loop.trips = 128 := rfl
  have e5 := (ldH arg11.view (harg11.unread x9) 0 inb_S1x2x256_S1x1x256_0_0_0).trans (congrArg (ini3 · 0) (harg11.read_unread x9))
  have e6 := (ldH arg11.view (harg11.unread x9) 1 inb_S1x2x256_S1x1x256_0_1_0).trans (congrArg (ini3 · 1) (harg11.read_unread x9))
  obtain ⟨h1, h2, h3⟩ := st2_spec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt F) fs0 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).1) (arg16.view.writes (Elt F) fs2 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.1)
    (arg15.view.writes (Elt F) fs1 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.1) (arg17.view.writes (Elt F) fs3 (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8).2.2.2)
    (k0_pay5 (arg11.view.readAt (Elt F) (Rect.unit (s := S1x2x256) ![0, 0, 0] ![1, 1, 256] inb_S1x2x256_S1x1x256_0_0_0).toLoadRect (harg11.unread x9)),
     k0_pay6 (arg11.view.readAt (Elt F) (Rect.unit (s := S1x2x256) ![0, 1, 0] ![1, 1, 256] inb_S1x2x256_S1x1x256_0_1_0).toLoadRect (harg11.unread x9)))
    _ _ _ _ (fun j hj => (sp j hj).1) (fun j hj => (sp j hj).2.1) (fun j hj => (sp j hj).2.2.1) (fun j hj => (sp j hj).2.2.2) k0_t2_loop.trips le_rfl
  refine ⟨?_, ?_, ?_⟩
  · unfold after2 carF carB
    refine h1.trans ?_
    dsimp only
    refine Prod.ext ?_ ?_
    · exact congrArg (fun h => fC (k0_pay5 h) _ _ 512) e5
    · exact congrArg (fun h => bC (k0_pay6 h) _ _ 512) e6
  · refine glue_of_tw _ _ fun j hj => ?_
    rw [View.writes_append]
    refine (h2 j hj).trans ?_
    rw [if_pos (by omega)]
    exact congrArg (fun h => tT (fC (k0_pay5 h) _ _ j) _ _) e5
  · refine glue_of_tw _ _ fun j hj => ?_
    rw [View.writes_append]
    refine (h3 j hj).trans ?_
    rw [if_pos (by omega)]
    exact congrArg (fun h => tT (bC (k0_pay6 h) _ _ (511 - j)) _ _) e6

/-- What the body leaves in the first result's staging memref. -/
theorem read10 (f : BufTy.Contents (Elt F) arg12.view.ty) : arg12.view.read (Elt F) (arg12.view.writes (Elt F) f (scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 fs0 fs1 fs2 fs3).1) = blkY x0 x1 x2 x3 x4 x5 x6 x7 x8 x9 := by
  funext y
  have h1 : (y 1).val < 4096 := (y 1).isLt
  have ht : k0_t3_loop.trips = 8 := rfl
  obtain ⟨-, e15, e17⟩ := after2_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3
  rw [run_L10]
  refine (pb3_spec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ f k0_t3_loop.trips le_rfl y (by omega)).trans ?_
  rw [e15, e17, harg3.read_unread]
  rfl

/-- What the body leaves in the second result's staging memref. -/
theorem read11 (f : BufTy.Contents (Elt F) arg13.view.ty) : arg13.view.read (Elt F) (arg13.view.writes (Elt F) f (scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 fs0 fs1 fs2 fs3).2.1) = blkH x0 x2 x3 x4 x5 x6 x7 x8 x9 := by
  obtain ⟨e, -, -⟩ := after2_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x6 x7 x8 x9 fs0 fs1 fs2 fs3
  rw [run_L11, e]
  funext y
  exact twoRows arg13.view f _ _ _ _ y
end

end Cert.KernelScanIdeal.Val
end
-- ==== Proof.ScanFrame.lean ====
module

public import proofs.«01_k».proof.Proof.ScanOut
public import Idealize.ShloMosaic.Lib.Claim

@[expose] public section

-- membership in a rectangle of production extents (`View.cover_of_tiled`): the elaborator's structural look
-- recurses once per coordinate of the long axes
set_option maxRecDepth 16384

noncomputable section

namespace Cert.KernelScanIdeal.Val

open Cert.KernelScanIdeal Cert.KernelScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the point's blocks of the two results. -/
def outsAt0 (c : Dev nD) (t : Fin cfg0.N) : Vec F S1x4096x256 .bf16 × Vec F S1x2x256 .f32 :=
  (blkY (iblk m c 0 t) (iblk m c 1 t) (iblk m c 2 t) (iblk m c 3 t) (iblk m c 4 t) (iblk m c 5 t) (iblk m c 6 t) (iblk m c 7 t) (iblk m c 8 t) (iblk m c 9 t), blkH (iblk m c 0 t) (iblk m c 2 t) (iblk m c 3 t) (iblk m c 4 t) (iblk m c 5 t) (iblk m c 6 t) (iblk m c 7 t) (iblk m c 8 t) (iblk m c 9 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t).1 := by dsimp only [dats]
theorem after0_11 (c : Dev nD) (t : Fin cfg0.N) : (dats m 0 c).after 11 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  unfold owns
  icases HS0 with ⟨%d12, %g0, -, HS0⟩
  icases HS1 with ⟨%d13, %g1, -, HS1⟩
  icases HS2 with ⟨%d14, %g2, -, HS2⟩
  icases HS3 with ⟨%d15, %g3, -, HS3⟩
  iapply ((scanRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) g0 g1 g2 g3).2.2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr
    swap; · iexact H10
    ipureintro; exact read10 c _ _ _ _ _ _ _ _ _ _ _ _ _ _ _ _ _ _ _ _ _ _ _ _ _ _ _ _ _ _ _ _ _ _ _ _ _ _ _ _ _ _ _ _ _ _ _ _
  iexists _; isplitr
  swap; · iexact H11
  ipureintro; exact read11 c _ _ _ _ _ _ _ _ _ _ _ _ _ _ _ _ _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every argument array ends unchanged and every semaphore counter at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelScanIdeal.Val

end
-- ==== Proof.ScanSame.lean ====
/- `KernelScan` and `KernelScanIdeal` are one program, read at the machine's values. -/
module

public import proofs.«01_k».proof.Proof.Gen.KernelScanIdeal
public import proofs.«01_k».proof.Proof.Gen.KernelScan
public import proofs.«01_k».proof.Defs

@[expose] public section

set_option maxRecDepth 16384

noncomputable section

namespace Cert.Proof

open Idealize.ShloMosaic Idealize.SL.Sem

set_option maxHeartbeats 1000000 in
/-- The two kernel bodies are one. -/
theorem body_same : @Cert.KernelScan.cc0_rglru Bits _ Cert.KernelScan.Gen.facts = @Cert.KernelScanIdeal.cc0_rglru Bits _ Cert.KernelScanIdeal.Gen.facts := rfl

set_option maxHeartbeats 4000000 in
/-- The two host programs are one. -/
theorem main_same : @Cert.KernelScan.main Bits _ Cert.KernelScan.Gen.facts = @Cert.KernelScanIdeal.main Bits _ Cert.KernelScanIdeal.Gen.facts := rfl

set_option maxHeartbeats 4000000 in
/-- The two tables of kernel bodies are one. -/
theorem bodies_same : @Cert.KernelScan.defs₀ Bits _ Cert.KernelScan.Gen.facts = @Cert.KernelScanIdeal.defs₀ Bits _ Cert.KernelScanIdeal.Gen.facts := by
  unfold Cert.KernelScan.defs₀ Cert.KernelScanIdeal.defs₀
  refine congrArg Defs.onTc ?_
  funext l a
  match l, a with
  | 0, (t, s) =>
    dsimp only
    rw [body_same]
    rfl

set_option maxHeartbeats 4000000 in
/-- The two body tables, the pipeline's included, are one. -/
theorem defs_same : @Cert.KernelScan.defs Bits _ Cert.KernelScan.Gen.facts = @Cert.KernelScanIdeal.defs Bits _ Cert.KernelScanIdeal.Gen.facts := by
  unfold Cert.KernelScan.defs Cert.KernelScanIdeal.defs
  exact congrArg (Idealize.ShloMosaic.Pipeline.defs _) bodies_same

end Cert.Proof

end
-- ==== Proof.ScanClaim.lean ====
/- The frames of the RG-LRU call and of its reference. -/
module

public import proofs.«01_k».proof.Proof.ScanFrame
public import proofs.«01_k».proof.Proof.ScanSame
public import proofs.«01_k».proof.Proof.Gen.Pre_finite
public import proofs.«01_k».proof.Proof.Gen.KernelScan
public import proofs.«01_k».proof.Proof.Gen.ReferenceScanIdeal.Run
public import proofs.«01_k».proof.Defs

@[expose] public section

set_option maxRecDepth 16384

noncomputable section

namespace Cert.Proof

open Idealize.ShloMosaic Idealize.SL.Sem

set_option maxHeartbeats 1000000 in
/-- `KernelScan` runs, keeps its arguments and leaves the machine quiescent: the run of `KernelScanIdeal`, which is stated over any carrier, at the machine's. -/
theorem frameKernelScan : Cert.quiescent_KernelScan (hKernelScan := Cert.KernelScan.Gen.facts) := fun m ρ _ => by
  rw [defs_same, main_same]
  exact Cert.KernelScanIdeal.Val.frame (F := Bits) m ρ

/-- `KernelScanIdeal` runs, keeps its arguments and leaves the machine quiescent. -/
theorem frameKernelScanIdeal : Cert.quiescent_KernelScanIdeal (hKernelScanIdeal := Cert.KernelScanIdeal.Gen.facts) :=
  fun m ρ _ => Cert.KernelScanIdeal.Val.frame m ρ

/-- `ReferenceScanIdeal` runs, keeps its arguments and leaves the machine quiescent. -/
theorem frameReferenceScanIdeal : Cert.quiescent_ReferenceScanIdeal (hReferenceScanIdeal := Cert.ReferenceScanIdeal.Gen.facts) := by
  intro m g _
  exact (θ_run Cert.ReferenceScanIdeal.defs _ _).mono (fun r h => ⟨fun c => (h c).2.2, sem_eq_zero_of_no_sems (by decide) r.2⟩)
    (Cert.ReferenceScanIdeal.Value.run m g)

/-- `KernelScanIdeal` runs, keeps its arguments and leaves the machine quiescent, under the precondition of the value claim. -/
theorem frameKernelScanIdealFinite : Cert.quiescent_KernelScanIdeal_pre_finite (hKernelScanIdeal := Cert.KernelScanIdeal.Gen.facts) (hPre_finite := Cert.Pre_finite.Gen.facts) :=
  fun m ρ _ => Cert.KernelScanIdeal.Val.frame m ρ

/-- `ReferenceScanIdeal` runs, keeps its arguments and leaves the machine quiescent, under the precondition of the value claim. -/
theorem frameReferenceScanIdealFinite : Cert.quiescent_ReferenceScanIdeal_pre_finite (hReferenceScanIdeal := Cert.ReferenceScanIdeal.Gen.facts) (hPre_finite := Cert.Pre_finite.Gen.facts) :=
  fun m ρ _ => frameReferenceScanIdeal m ρ trivial

end Cert.Proof

end
-- ==== Proof.ScanBlk.lean ====
/- The RG-LRU call's blocks entry by entry, over the argument arrays. -/
module

public import proofs.«01_k».proof.Proof.ScanFrame
public import Idealize.ShloMosaic.Lib.Pipeline.ValueKit

@[expose] public section

set_option maxRecDepth 16384

noncomputable section

namespace Cert.KernelScanIdeal.Val

open Cert.KernelScanIdeal Cert.KernelScanIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point of the grid. -/
theorem idx : ∀ t : Fin cfg0.N, win0_0.index t = ![t.val / 8, 0, t.val % 8 + 8] ∧ win0_1.index t = ![t.val / 8, 0, t.val % 8]
    ∧ win0_2.index t = ![0, t.val % 8] ∧ win0_3.index t = ![0, t.val % 8] ∧ win0_4.index t = ![0, t.val % 8, 0, 0] ∧ win0_5.index t = ![0, 0, t.val % 8]
    ∧ win0_6.index t = ![0, t.val % 8, 0, 0] ∧ win0_7.index t = ![0, 0, t.val % 8] ∧ win0_8.index t = ![0, 0, t.val % 8] ∧ win0_9.index t = ![t.val / 8, 0, t.val % 8]
    ∧ win0_10.index t = ![t.val / 8, 0, t.val % 8] ∧ win0_11.index t = ![t.val / 8, 0, t.val % 8] :=
  (by decide +kernel : ∀ t : Fin grid0.N, _)

/-- The batch row of a point. -/
abbrev bat (t : Fin cfg0.N) : Fin 4 := ⟨t.val / 8, by have := t.isLt; change _ < 32 at this; omega⟩

/-- The channel that column `l` of a point's block is. -/
abbrev chan (t : Fin cfg0.N) (l : Fin 256) : Fin 2048 := ⟨t.val % 8 * 256 + l.val, by omega⟩

/-- The block of the recurrence half. -/
theorem b0 (c : Dev nD) (t : Fin cfg0.N) (s : Fin 4096) (l : Fin 256) : iblk m c 0 t (ix3 0 s l)
    = (m ((c : Thread nD τ).loc main_arg0) : FVec Ideal S4x4096x4096 .f32) (ix3 (bat t) s (⟨(chan t l).val + 2048, by omega⟩ : Fin 4096)) := by
  blk_simp [iblk, idx t]
  entry_read
  pointwise
  blk_ext [idx t]

/-- The block of the gate half. -/
theorem b1 (c : Dev nD) (t : Fin cfg0.N) (s : Fin 4096) (l : Fin 256) : iblk m c 1 t (ix3 0 s l)
    = (m ((c : Thread nD τ).loc main_arg0) : FVec Ideal S4x4096x4096 .f32) (ix3 (bat t) s (⟨(chan t l).val, by omega⟩ : Fin 4096)) := by
  blk_simp [iblk, idx t]
  entry_read
  pointwise
  blk_ext [idx t]

/-- The block of the convolution's weights. -/
theorem b2 (c : Dev nD) (t : Fin cfg0.N) (n : Fin 4) (l : Fin 256) : iblk m c 2 t (ix2 n l)
    = (m ((c : Thread nD τ).loc main_arg1) : FVec Ideal S4x2048 .f32) (ix2 n (chan t l)) := by
  blk_simp [iblk, idx t]
  entry_read
  pointwise
  blk_ext [idx t]

/-- The block of the convolution's bias. -/
theorem b3 (c : Dev nD) (t : Fin cfg0.N) (l : Fin 256) : iblk m c 3 t (ix2 0 l)
    = (m ((c : Thread nD τ).loc main_arg2) : FVec Ideal S2048 .f32) (ix1 (chan t l)) := by
  blk_simp [iblk, idx t]
  entry_read
  pointwise
  blk_ext [idx t]

/-- The block of the recurrence gate's bias. -/
theorem b5 (c : Dev nD) (t : Fin cfg0.N) (d : Fin 2) (l : Fin 256) : iblk m c 5 t (ix3 d 0 l)
    = Ideal.ofBits .f32 0x3F000000#32 * (m ((c : Thread nD τ).loc main_arg4) : FVec Ideal S2x2048 .f32) (ix2 d (chan t l)) := by
  blk_simp [iblk, idx t]
  entry_read
  pointwise
  refine congrArg (fun v : EReal => _ * v) ?_
  blk_ext [idx t]

/-- The block of the input gate's bias. -/
theorem b7 (c : Dev nD) (t : Fin cfg0.N) (d : Fin 2) (l : Fin 256) : iblk m c 7 t (ix3 d 0 l)
    = Ideal.ofBits .f32 0x3F000000#32 * (m ((c : Thread nD τ).loc main_arg6) : FVec Ideal S2x2048 .f32) (ix2 d (chan t l)) := by
  blk_simp [iblk, idx t]
  entry_read
  pointwise
  refine congrArg (fun v : EReal => _ * v) ?_
  blk_ext [idx t]

/-- The block of the decay parameters. -/
theorem b8 (c : Dev nD) (t : Fin cfg0.N) (d : Fin 2) (l : Fin 256) : iblk m c 8 t (ix3 d 0 l)
    = (m ((c : Thread nD τ).loc main_arg7) : FVec Ideal S2x2048 .f32) (ix2 d (chan t l)) := by
  blk_simp [iblk, idx t]
  entry_read
  pointwise
  blk_ext [idx t]

/-- The block of the initial states. -/
theorem b9 (c : Dev nD) (t : Fin cfg0.N) (d : Fin 2) (l : Fin 256) : iblk m c 9 t (ix3 0 d l)
    = (m ((c : Thread nD τ).loc main_arg8) : FVec Ideal S4x2x2048 .f32) (ix3 (bat t) d (chan t l)) := by
  blk_simp [iblk, idx t]
  entry_read
  pointwise
  blk_ext [idx t]

/-- Where an entry of a point's block lies in the first result. -/
theorem emb10 (t : Fin cfg0.N) (s : Fin 4096) (l : Fin 256) : ((cfg0.win 10).blk t).view.emb (ix3 0 s l) = ix3 (bat t) s (chan t l) := by
  blk_ext [idx t]

/-- Where an entry of a point's block lies in the second result. -/
theorem emb11 (t : Fin cfg0.N) (d : Fin 2) (l : Fin 256) : ((cfg0.win 11).blk t).view.emb (ix3 0 d l) = ix3 (bat t) d (chan t l) := by
  blk_ext [idx t]

end Cert.KernelScanIdeal.Val

end
-- ==== Proof.ScanDiag.lean ====
/- The block-diagonal weights of the RG-LRU call entry by entry. -/
module

public import proofs.«01_k».proof.Proof.ScanFrame
public import Idealize.ShloMosaic.Lib.Pipeline.ValueKit

@[expose] public section

set_option maxRecDepth 16384

noncomputable section

namespace Cert.KernelScanIdeal.Val

open Cert.KernelScanIdeal Cert.KernelScanIdeal.Gen Idealize.ShloMosaic Idealize.ShloMosaic.TcCoe Idealize.SL.Sem
open Idealize.ShloMosaic.Pipeline (Dat)

/-- The identity matrix's entries. -/
theorem eye (p q : ℕ) (hp : p < 2) (hq : q < 2) : FloatOps.uitofp (F := Ideal) FTy.f32 (IntOp.cmpi CmpIPredicate.eq (IntOp.addi (BitVec.ofNat 32 p) 0#32) (BitVec.ofNat 32 q)) = if p = q then (1 : EReal) else 0 := by
  obtain rfl | rfl : p = 0 ∨ p = 1 := by omega
  all_goals obtain rfl | rfl : q = 0 ∨ q = 1 := by omega
  · show (((1#1 : BitVec 1).toNat : ℝ) : EReal) = _
    simp
  · show (((0#1 : BitVec 1).toNat : ℝ) : EReal) = _
    simp
  · show (((0#1 : BitVec 1).toNat : ℝ) : EReal) = _
    simp
  · show (((1#1 : BitVec 1).toNat : ℝ) : EReal) = _
    simp

/-- An entry of the block-diagonal weights. -/
theorem diag (w : FVec Ideal S2x16x128x128 .f32) (d : Fin 2) (T : Fin 8) (z l : Fin 256) :
    Ideal.ofBits .f32 0x3F000000#32 * w (ix4 d (⟨T.val * 2 + z.val / 128, by omega⟩ : Fin 16) (⟨z.val % 128, by omega⟩ : Fin 128) (⟨l.val % 128, by omega⟩ : Fin 128))
      * FloatOps.uitofp (F := Ideal) FTy.f32 (IntOp.cmpi CmpIPredicate.eq (IntOp.addi (BitVec.ofNat 32 (z.val / 128)) 0#32) (BitVec.ofNat 32 (l.val / 128)))
    = if z.val / 128 = l.val / 128 then Ideal.ofBits .f32 0x3F000000#32 * w (ix4 d (⟨(T.val * 256 + l.val) / 128, by omega⟩ : Fin 16) (⟨z.val % 128, by omega⟩ : Fin 128) (⟨(T.val * 256 + l.val) % 128, by omega⟩ : Fin 128)) else 0 := by
  rw [eye (z.val / 128) (l.val / 128) (by omega) (by omega)]
  have e1 : z.val / 128 = l.val / 128 → T.val * 2 + z.val / 128 = (T.val * 256 + l.val) / 128 := by omega
  have e2 : l.val % 128 = (T.val * 256 + l.val) % 128 := by omega
  by_cases h : z.val / 128 = l.val / 128
  · rw [if_pos h, if_pos h, mul_one]
    exact congrArg₂ (fun (a : Fin 16) (b : Fin 128) => Ideal.ofBits .f32 0x3F000000#32 * w (ix4 d a (⟨z.val % 128, by omega⟩ : Fin 128) b)) (Fin.ext (e1 h)) (Fin.ext e2)
  · rw [if_neg h, if_neg h, mul_zero]

end Cert.KernelScanIdeal.Val

end
-- ==== Proof.ScanBlkW.lean ====
/- The blocks of the RG-LRU call's block-diagonal weights entry by entry, over the argument arrays. -/
module

public import proofs.«01_k».proof.Proof.ScanBlk
public import proofs.«01_k».proof.Proof.ScanDiag
public import Idealize.ShloMosaic.Lib.Pipeline.ValueKit

@[expose] public section

set_option maxRecDepth 16384

noncomputable section

namespace Cert.KernelScanIdeal.Val

open Cert.KernelScanIdeal Cert.KernelScanIdeal.Gen Idealize.ShloMosaic Idealize.ShloMosaic.TcCoe Idealize.SL.Sem
open Idealize.ShloMosaic.Pipeline (Dat)

variable (m : (ℓ : Loc nD τ sig) → Buf (Elt Ideal) ℓ)

/-- Where an entry of a point's block of the recurrence gate's weights lies. -/
theorem emb4 (t : Fin cfg0.N) (d : Fin 2) (z l : Fin 256) : ((View.whole main_v15).slice (win0_4.rect t)).emb (ix4 d 0 z l) = ix4 d (⟨t.val % 8, by omega⟩ : Fin 8) z l := by
  blk_ext [idx t]

/-- The block of the recurrence gate's weights: the heads' own, halved, on the diagonal. -/
theorem b4 (c : Dev nD) (t : Fin cfg0.N) (d : Fin 2) (z l : Fin 256) : iblk m c 4 t (ix4 d 0 z l)
    = if z.val / 128 = l.val / 128 then Ideal.ofBits .f32 0x3F000000#32 * (m ((c : Thread nD τ).loc main_arg3) : FVec Ideal S2x16x128x128 .f32) (ix4 d (⟨(chan t l).val / 128, by omega⟩ : Fin 16) (⟨z.val % 128, by omega⟩ : Fin 128) (⟨(chan t l).val % 128, by omega⟩ : Fin 128)) else 0 := by
  blk_simp [iblk, idx t]
  entry_read
  pointwise
  simp only [emb4 t d z l]
  exact diag (m ((c : Thread nD τ).loc main_arg3)) d (⟨t.val % 8, by omega⟩ : Fin 8) z l

/-- Where an entry of a point's block of the input gate's weights lies. -/
theorem emb6 (t : Fin cfg0.N) (d : Fin 2) (z l : Fin 256) : ((View.whole main_v31).slice (win0_6.rect t)).emb (ix4 d 0 z l) = ix4 d (⟨t.val % 8, by omega⟩ : Fin 8) z l := by
  blk_ext [idx t]

/-- The block of the input gate's weights: the heads' own, halved, on the diagonal. -/
theorem b6 (c : Dev nD) (t : Fin cfg0.N) (d : Fin 2) (z l : Fin 256) : iblk m c 6 t (ix4 d 0 z l)
    = if z.val / 128 = l.val / 128 then Ideal.ofBits .f32 0x3F000000#32 * (m ((c : Thread nD τ).loc main_arg5) : FVec Ideal S2x16x128x128 .f32) (ix4 d (⟨(chan t l).val / 128, by omega⟩ : Fin 16) (⟨z.val % 128, by omega⟩ : Fin 128) (⟨(chan t l).val % 128, by omega⟩ : Fin 128)) else 0 := by
  blk_simp [iblk, idx t]
  entry_read
  pointwise
  simp only [emb6 t d z l]
  exact diag (m ((c : Thread nD τ).loc main_arg5)) d (⟨t.val % 8, by omega⟩ : Fin 8) z l

end Cert.KernelScanIdeal.Val

end
-- ==== Proof.ScanTile.lean ====
/- The values of a chunk of 512 rows over the reals: the convolution, the gates, and the doubling scan within each tile of eight rows. -/
module

public import proofs.«01_k».proof.Proof.ScanMath
public import proofs.«01_k».proof.Proof.ScanLoops
public import Idealize.ShloMosaic.Lib.Pipeline.ValueKit

@[expose] public section

set_option maxRecDepth 16384

noncomputable section

namespace Cert.KernelScanIdeal.Val

open Cert.KernelScanIdeal Cert.KernelScanIdeal.Gen Idealize.ShloMosaic Idealize.ShloMosaic.TcCoe Idealize.SL.Sem
open Cert.Proof.Scan

/-- The masks of the rows from one, two and four on. -/
theorem mge1 : ∀ i : Fin 8, IntOp.cmpi CmpIPredicate.sge (BitVec.ofNat 32 i.val) 1#32 = if i.val < 1 then 0#1 else 1#1 := by decide +kernel
theorem nge1 (i : ℕ) : IntOp.cmpi CmpIPredicate.sge (BitVec.ofNat 32 (i % 8)) 1#32 = if i % 8 < 1 then 0#1 else 1#1 := mge1 ⟨i % 8, Nat.mod_lt _ (by decide)⟩
theorem mge2 : ∀ i : Fin 8, IntOp.cmpi CmpIPredicate.sge (BitVec.ofNat 32 i.val) 2#32 = if i.val < 2 then 0#1 else 1#1 := by decide +kernel
theorem nge2 (i : ℕ) : IntOp.cmpi CmpIPredicate.sge (BitVec.ofNat 32 (i % 8)) 2#32 = if i % 8 < 2 then 0#1 else 1#1 := mge2 ⟨i % 8, Nat.mod_lt _ (by decide)⟩
theorem mge4 : ∀ i : Fin 8, IntOp.cmpi CmpIPredicate.sge (BitVec.ofNat 32 i.val) 4#32 = if i.val < 4 then 0#1 else 1#1 := by decide +kernel
theorem nge4 (i : ℕ) : IntOp.cmpi CmpIPredicate.sge (BitVec.ofNat 32 (i % 8)) 4#32 = if i % 8 < 4 then 0#1 else 1#1 := mge4 ⟨i % 8, Nat.mod_lt _ (by decide)⟩

/-- The masks of the rows before seven, six and four. -/
theorem mlt7 : ∀ i : Fin 8, IntOp.cmpi CmpIPredicate.slt (BitVec.ofNat 32 i.val) 7#32 = if i.val < 7 then 1#1 else 0#1 := by decide +kernel
theorem nlt7 (i : ℕ) : IntOp.cmpi CmpIPredicate.slt (BitVec.ofNat 32 (i % 8)) 7#32 = if i % 8 < 7 then 1#1 else 0#1 := mlt7 ⟨i % 8, Nat.mod_lt _ (by decide)⟩
theorem mlt6 : ∀ i : Fin 8, IntOp.cmpi CmpIPredicate.slt (BitVec.ofNat 32 i.val) 6#32 = if i.val < 6 then 1#1 else 0#1 := by decide +kernel
theorem nlt6 (i : ℕ) : IntOp.cmpi CmpIPredicate.slt (BitVec.ofNat 32 (i % 8)) 6#32 = if i % 8 < 6 then 1#1 else 0#1 := mlt6 ⟨i % 8, Nat.mod_lt _ (by decide)⟩
theorem mlt4 : ∀ i : Fin 8, IntOp.cmpi CmpIPredicate.slt (BitVec.ofNat 32 i.val) 4#32 = if i.val < 4 then 1#1 else 0#1 := by decide +kernel
theorem nlt4 (i : ℕ) : IntOp.cmpi CmpIPredicate.slt (BitVec.ofNat 32 (i % 8)) 4#32 = if i % 8 < 4 then 1#1 else 0#1 := mlt4 ⟨i % 8, Nat.mod_lt _ (by decide)⟩

/-- A selection by a decided bit. -/
theorem selN (p : Prop) [Decidable p] (a b : EReal) : Scalar.select (if p then 0#1 else 1#1) a b = if p then b else a := by
  by_cases h : p
  · rw [if_pos h, if_pos h]; rfl
  · rw [if_neg h, if_neg h]; rfl

/-- A selection by a decided bit. -/
theorem selP (p : Prop) [Decidable p] (a b : EReal) : Scalar.select (if p then 1#1 else 0#1) a b = if p then a else b := by
  by_cases h : p
  · rw [if_pos h, if_pos h]; rfl
  · rw [if_neg h, if_neg h]; rfl

/-- A selected real. -/
theorem coeIte (p : Prop) [Decidable p] (x y : ℝ) : ((if p then x else y : ℝ) : EReal) = if p then (x : EReal) else (y : EReal) := by
  split_ifs <;> rfl

/-- A forward step of the products, over the extended reals. -/
theorem dA_coe (k : ℕ) (α : Fin 8 → ℝ) (i : Fin 8) : (dA k α i : EReal) = (α i : EReal) * if i.val < k then 1 else (α ⟨(i.val + 8 - k) % 8, by omega⟩ : EReal) := by
  rw [dA, EReal.coe_mul, coeIte, EReal.coe_one]

/-- A backward step of the products, over the extended reals. -/
theorem eA_coe (k : ℕ) (α : Fin 8 → ℝ) (i : Fin 8) : (eA k α i : EReal) = (α i : EReal) * if i.val < k then (α ⟨(i.val + 8 - k) % 8, by omega⟩ : EReal) else 1 := by
  rw [eA, EReal.coe_mul, coeIte, EReal.coe_one]

/-- The positions within a tile, as the body counts them. -/
abbrev io : IVec S1x8x1 32 := iota .tc S1x8x1 32 [1] iota_S1x8x1_d1_w32

/-- The tile of a chunk's row. -/
abbrev tq (r : Fin 512) : Fin 64 := ⟨r.val / 8, by omega⟩

/-- The place of a chunk's row in its tile. -/
abbrev tr (r : Fin 512) : Fin 8 := ⟨r.val % 8, by omega⟩

section Fwd
variable (v w : FVec Ideal S64x8x256 .f32) (α β : Fin 8 → ℝ) (p : Fin 64) (y : Fin 256)

/-- The first forward step of the products. -/
theorem pay34v (hv : ∀ i, v (ix3 p i y) = (α i : EReal)) (i : Fin 8) : k0_pay34 (F := Ideal) v io k0_pay32 (ix3 p i y) = (dA 1 α i : EReal) := by
  pointwise [k0_pay34, k0_pay33, k0_pay32]
  simp only [mge1, selN, hv, dA, EReal.coe_mul, coeIte, EReal.coe_one]

/-- The second forward step of the products. -/
theorem pay36v (hv : ∀ i, v (ix3 p i y) = (α i : EReal)) (i : Fin 8) : k0_pay36 (F := Ideal) v io k0_pay32 (ix3 p i y) = (dA 2 (dA 1 α) i : EReal) := by
  pointwise [k0_pay36, k0_pay35]
  simp only [mge2, selN, pay34v v α p y hv]
  exact (dA_coe 2 (dA 1 α) _).symm

/-- The products of a tile's rows up to each. -/
theorem pay38v (r : Fin 512) (hv : ∀ i, v (ix3 (tq r) i y) = (α i : EReal)) :
    k0_pay38 (F := Ideal) v io k0_pay32 (ix2 r y) = (dA 4 (dA 2 (dA 1 α)) (tr r) : EReal) := by
  pointwise [k0_pay38, k0_pay37]
  simp only [nge4, selN, pay36v v α _ y hv]
  exact (dA_coe 4 (dA 2 (dA 1 α)) _).symm

/-- The sums of a tile's rows up to each. -/
theorem pay39v (r : Fin 512) (hv : ∀ i, v (ix3 (tq r) i y) = (α i : EReal)) (hw : ∀ i, w (ix3 (tq r) i y) = (β i : EReal)) :
    k0_pay39 (F := Ideal) v w io k0_pay32 (ix2 r y) = (dB 4 (dA 2 (dA 1 α)) (dB 2 (dA 1 α) (dB 1 α β)) (tr r) : EReal) := by
  have h33 : ∀ i : Fin 8, k0_pay33 io k0_pay32 (ix3 0 i 0) = IntOp.cmpi CmpIPredicate.sge (BitVec.ofNat 32 i.val) 1#32 := fun i => by
    pointwise [k0_pay33, k0_pay32]
  pointwise [k0_pay39, k0_pay37, k0_pay35]
  simp only [h33, nge4, nge2, nge1, selN, pay36v v α _ y hv, pay34v v α _ y hv, hv, hw]
  simp only [dB, EReal.coe_add, EReal.coe_mul, coeIte, EReal.coe_zero]
end Fwd

section Bwd
variable (v w : FVec Ideal S64x8x256 .f32) (α β : Fin 8 → ℝ) (y : Fin 256) (v195 : FVec Ideal S512x256 .f32) (v209 v213 : FVec Ideal S1x256 .f32) (r : Fin 512)

/-- The first backward step of the products. -/
theorem pay50v (hv : ∀ i, k0_pay48 (F := Ideal) v195 v209 v213 (ix3 (tq r) i y) = (α i : EReal)) (i : Fin 8) :
    k0_pay50 (F := Ideal) v195 v209 v213 (ix3 (tq r) i y) = (eA 7 α i : EReal) := by
  pointwise [k0_pay50, k0_pay49]
  simp only [mlt7, selP, hv, eA, EReal.coe_mul, coeIte, EReal.coe_one]

/-- The second backward step of the products. -/
theorem pay1v (hv : ∀ i, k0_pay48 (F := Ideal) v195 v209 v213 (ix3 (tq r) i y) = (α i : EReal)) (i : Fin 8) :
    k0_pay1 (F := Ideal) (k0_pay50 v195 v209 v213) (k0_pay53 v195 v209 v213) (1 : EReal) k0_pay54 (ix3 (tq r) i y) = (eA 6 (eA 7 α) i : EReal) := by
  pointwise [k0_pay1, k0_pay53, k0_pay54, k0_pay51]
  simp only [mlt6, selP, pay50v α y v195 v209 v213 r hv]
  exact (eA_coe 6 (eA 7 α) _).symm

/-- The products of a tile's rows from the last down to each. -/
theorem pay3v (hv : ∀ i, k0_pay48 (F := Ideal) v195 v209 v213 (ix3 (tq r) i y) = (α i : EReal)) :
    k0_pay3 (F := Ideal) io (k0_pay50 v195 v209 v213) (k0_pay53 v195 v209 v213) (Scalar.ofBits .f32 0x3F800000#32) k0_pay54 (ix2 r y) = (eA 4 (eA 6 (eA 7 α)) (tr r) : EReal) := by
  pointwise [k0_pay3, k0_pay2]
  simp only [nlt4, selP, pay1v α y v195 v209 v213 r hv]
  exact (eA_coe 4 (eA 6 (eA 7 α)) _).symm

/-- The first two backward steps of the sums. -/
theorem pay52v (v85 v203 : FVec Ideal S512x256 .f32) (hv : ∀ i, k0_pay48 (F := Ideal) v195 v209 v213 (ix3 (tq r) i y) = (α i : EReal))
    (hw : ∀ i : Fin 8, Ideal.sqrt (1 - k0_pay47 (F := Ideal) v195 v209 v213 (ix2 ⟨r.val / 8 * 8 + i.val, by omega⟩ y) * k0_pay47 (F := Ideal) v195 v209 v213 (ix2 ⟨r.val / 8 * 8 + i.val, by omega⟩ y))
      * (v85 (ix2 ⟨r.val / 8 * 8 + i.val, by omega⟩ y) * v203 (ix2 ⟨r.val / 8 * 8 + i.val, by omega⟩ y) + v85 (ix2 ⟨r.val / 8 * 8 + i.val, by omega⟩ y)) = (β i : EReal)) (i : Fin 8) :
    k0_pay52 (F := Ideal) v85 v195 v203 v209 v213 (ix3 (tq r) i y) = (eB 6 (eA 7 α) (eB 7 α β) i : EReal) := by
  pointwise [k0_pay52, k0_pay49, k0_pay51]
  have hw' : ∀ n : ℕ, _ := fun n => hw ⟨n % 8, Nat.mod_lt _ (by decide)⟩
  dsimp only at hw'
  simp only [hw, hw', mlt6, mlt7, nlt7, selP, pay50v α y v195 v209 v213 r hv, hv]
  simp only [eB, EReal.coe_add, EReal.coe_mul, coeIte, EReal.coe_zero]

/-- The sums of a tile's rows from the last down to each. -/
theorem pay4v (u : FVec Ideal S64x8x256 .f32) (γ : Fin 8 → ℝ) (hv : ∀ i, k0_pay48 (F := Ideal) v195 v209 v213 (ix3 (tq r) i y) = (α i : EReal)) (hu : ∀ i, u (ix3 (tq r) i y) = (γ i : EReal)) :
    k0_pay4 (F := Ideal) io (k0_pay50 v195 v209 v213) u (k0_pay53 v195 v209 v213) (Scalar.ofBits .f32 0x3F800000#32) k0_pay54 (ix2 r y) = (eB 4 (eA 6 (eA 7 α)) γ (tr r) : EReal) := by
  pointwise [k0_pay4, k0_pay2]
  simp only [nlt4, selP, pay1v α y v195 v209 v213 r hv, hu]
  simp only [eB, EReal.coe_add, EReal.coe_mul, coeIte, EReal.coe_zero]
end Bwd

end Cert.KernelScanIdeal.Val

end
-- ==== Proof.ScanChunk.lean ====
/- The values of a chunk of 512 rows over the reals: the convolution, the gates, and the composed coefficients of its tiles. -/
module

public import proofs.«01_k».proof.Proof.ScanTile

@[expose] public section

set_option maxRecDepth 16384

noncomputable section

namespace Cert.KernelScanIdeal.Val

open Cert.KernelScanIdeal Cert.KernelScanIdeal.Gen Idealize.ShloMosaic Idealize.ShloMosaic.TcCoe Idealize.SL.Sem
open Cert.Proof.Scan

/-- The mask of the row two before. -/
theorem mp2 : ∀ r : Fin 512, IntOp.andi (IntOp.cmpi CmpIPredicate.sge (IntOp.addi (IntOp.andi (BitVec.ofNat 32 r.val) 63#32) 4294967294#32) 0#32)
    (IntOp.cmpi CmpIPredicate.slt (IntOp.addi (IntOp.andi (BitVec.ofNat 32 r.val) 63#32) 4294967294#32) 64#32) = if r.val % 64 < 2 then 0#1 else 1#1 := by
  decide +kernel

/-- The mask of the row before. -/
theorem mp1 : ∀ r : Fin 512, IntOp.andi (IntOp.cmpi CmpIPredicate.sge (IntOp.addi (IntOp.andi (BitVec.ofNat 32 r.val) 63#32) 4294967295#32) 0#32)
    (IntOp.cmpi CmpIPredicate.slt (IntOp.addi (IntOp.andi (BitVec.ofNat 32 r.val) 63#32) 4294967295#32) 64#32) = if r.val % 64 < 1 then 0#1 else 1#1 := by
  decide +kernel

/-- The mask of the row after. -/
theorem mn1 : ∀ r : Fin 512, IntOp.andi (IntOp.cmpi CmpIPredicate.sge (IntOp.addi (IntOp.andi (BitVec.ofNat 32 r.val) 63#32) 1#32) 0#32)
    (IntOp.cmpi CmpIPredicate.slt (IntOp.addi (IntOp.andi (BitVec.ofNat 32 r.val) 63#32) 1#32) 64#32) = if r.val % 64 = 63 then 0#1 else 1#1 := by
  decide +kernel

/-- The short convolution within a chunk. -/
def cvE (x : FVec Ideal S1x512x256 .f32) (w0 w1 w2 w3 cb : FVec Ideal S1x256 .f32) (r : Fin 512) (k : Fin 256) : EReal :=
  cb (ix2 0 k) + w2 (ix2 0 k) * x (ix3 0 r k) + (if r.val % 64 < 2 then 0 else w0 (ix2 0 k) * x (ix3 0 ⟨(r.val + 512 - 2) % 512, by omega⟩ k))
    + (if r.val % 64 < 1 then 0 else w1 (ix2 0 k) * x (ix3 0 ⟨(r.val + 512 - 1) % 512, by omega⟩ k))
    + (if r.val % 64 = 63 then 0 else w3 (ix2 0 k) * x (ix3 0 ⟨(r.val + 512 - 511) % 512, by omega⟩ k))

/-- A gate before its hyperbolic tangent. -/
def gE (X : Fin 512 → Fin 256 → ℝ) (w : FVec Ideal S1x1x256x256 .bf16) (b : FVec Ideal S1x1x256 .f32) (r : Fin 512) (y : Fin 256) : EReal :=
  (∑ k : Fin 256, (X r k : EReal) * w (ix4 0 0 k y)) + b (ix3 0 0 y)

section
variable (x : FVec Ideal S1x512x256 .f32) (w0 w1 w2 w3 cb : FVec Ideal S1x256 .f32) (wa0 wx0 wa1 wx1 : FVec Ideal S1x1x256x256 .bf16)
    (ba0 bx0 lam0 ba1 bx1 lam1 : FVec Ideal S1x1x256 .f32) (X : Fin 512 → Fin 256 → ℝ) (y : Fin 256)
    (G0 I0 G1 I1 : Fin 512 → EReal) (l0 l1 : ℝ)

/-- The convolution's value. -/
theorem pay24v (r : Fin 512) (k : Fin 256) :
    k0_pay24 (F := Ideal) (k0_pay18 x) k0_pay19 (k0_pay20 x cb w2 w0) (k0_pay21 x) k0_pay22 k0_pay23 w1 w3 (ix2 r k) = cvE x w0 w1 w2 w3 cb r k := by
  pointwise [k0_pay24, k0_pay18, k0_pay19, k0_pay20, k0_pay21, k0_pay22, k0_pay23, cvE]
  simp only [mp2, mp1, mn1, selN]

/-- The forward decay's gate. -/
theorem pay27v (hX : ∀ r k, cvE x w0 w1 w2 w3 cb r k = (X r k : EReal)) (r : Fin 512) :
    k0_pay27 (F := Ideal) (k0_pay18 x) k0_pay19 (k0_pay20 x cb w2 w0) (k0_pay21 x) k0_pay22 k0_pay23 w1 w3 wa0 (ix2 r y) + k0_pay28 (F := Ideal) ba0 (ix2 r y) = gE X wa0 ba0 r y := by
  pointwise [k0_pay27, k0_pay28, k0_pay25, gE]
  simp only [pay24v, hX]

/-- Half the convolution's value. -/
theorem pay26v (hX : ∀ r k, cvE x w0 w1 w2 w3 cb r k = (X r k : EReal)) (r : Fin 512) (k : Fin 256) :
    k0_pay26 (F := Ideal) (k0_pay18 x) k0_pay19 (k0_pay20 x cb w2 w0) (k0_pay21 x) k0_pay22 k0_pay23 w1 w3 (ix2 r k) = ((1 / 2 : ℝ) : EReal) * (X r k : EReal) := by
  pointwise [k0_pay26]
  simp only [pay24v, hX, c_half]

/-- A backward gate. -/
theorem pay42v (hX : ∀ r k, cvE x w0 w1 w2 w3 cb r k = (X r k : EReal)) (r : Fin 512) :
    k0_pay42 (F := Ideal) (k0_pay25 (k0_pay18 x) k0_pay19 (k0_pay20 x cb w2 w0) (k0_pay21 x) k0_pay22 k0_pay23 w1 w3) wa1 ba1 (ix2 r y) = Ideal.tanh (gE X wa1 ba1 r y) := by
  pointwise [k0_pay42, k0_pay25, gE]
  simp only [pay24v, hX]

/-- The other backward gate. -/
theorem pay43v (hX : ∀ r k, cvE x w0 w1 w2 w3 cb r k = (X r k : EReal)) (r : Fin 512) :
    k0_pay43 (F := Ideal) (k0_pay25 (k0_pay18 x) k0_pay19 (k0_pay20 x cb w2 w0) (k0_pay21 x) k0_pay22 k0_pay23 w1 w3) wx1 bx1 (ix2 r y) = Ideal.tanh (gE X wx1 bx1 r y) := by
  pointwise [k0_pay43, k0_pay25, gE]
  simp only [pay24v, hX]

/-- A decay from its gate. -/
theorem pay29v (u v : FVec Ideal S512x256 .f32) (hl : lam0 (ix3 0 0 y) = (l0 : EReal)) (r : Fin 512) (g : EReal) (hg : u (ix2 r y) + v (ix2 r y) = ((1 / 2 : ℝ) : EReal) * g) :
    k0_pay29 (F := Ideal) u v lam0 (ix2 r y) = (al l0 g : EReal) := by
  pointwise [k0_pay29]
  rw [hg, hl, c_m4, ← al_ker, ← sp_ker]
  rfl

/-- A backward decay from its gate. -/
theorem pay47v (u : FVec Ideal S512x256 .f32) (hl : lam1 (ix3 0 0 y) = (l1 : EReal)) (r : Fin 512) (g : EReal) (hg : u (ix2 r y) = Ideal.tanh (((1 / 2 : ℝ) : EReal) * g)) :
    k0_pay47 (F := Ideal) u (k0_pay45 lam1) (k0_pay46 lam1) (ix2 r y) = (al l1 g : EReal) := by
  pointwise [k0_pay47, k0_pay45, k0_pay46, k0_pay44]
  rw [hg, hl, c_m4, ← al_ker, ← sp_ker]
  rfl
/-- A row of a tile of a chunk. -/
abbrev rw8 (r : Fin 512) (i : Fin 8) : Fin 512 := ⟨r.val / 8 * 8 + i.val, by omega⟩

section Coef
variable (hX : ∀ r k, cvE x w0 w1 w2 w3 cb r k = (X r k : EReal)) (α β : ℕ → ℝ) (T : ℕ)
include hX

/-- The forward decays of a tile. -/
theorem a0v (hl : lam0 (ix3 0 0 y) = (l0 : EReal)) (hG : ∀ r, gE X wa0 ba0 r y = ((1 / 2 : ℝ) : EReal) * G0 r) (r : Fin 512) (i : Fin 8) :
    k0_pay30 (F := Ideal) (k0_pay27 (k0_pay18 x) k0_pay19 (k0_pay20 x cb w2 w0) (k0_pay21 x) k0_pay22 k0_pay23 w1 w3 wa0) (k0_pay28 ba0) lam0 (ix3 (tq r) i y) = (al l0 (G0 (rw8 r i)) : EReal) := by
  pointwise [k0_pay30]
  exact pay29v lam0 y l0 _ _ hl _ _ ((pay27v x w0 w1 w2 w3 cb wa0 ba0 X y hX _).trans (hG _))

/-- The forward coefficients of the input of a tile. -/
theorem b0v (hl : lam0 (ix3 0 0 y) = (l0 : EReal)) (hG : ∀ r, gE X wa0 ba0 r y = ((1 / 2 : ℝ) : EReal) * G0 r) (hI : ∀ r, gE X wx0 bx0 r y = ((1 / 2 : ℝ) : EReal) * I0 r) (r : Fin 512) (i : Fin 8) :
    k0_pay31 (F := Ideal) (k0_pay25 (k0_pay18 x) k0_pay19 (k0_pay20 x cb w2 w0) (k0_pay21 x) k0_pay22 k0_pay23 w1 w3) (k0_pay26 (k0_pay18 x) k0_pay19 (k0_pay20 x cb w2 w0) (k0_pay21 x) k0_pay22 k0_pay23 w1 w3)
      (k0_pay27 (k0_pay18 x) k0_pay19 (k0_pay20 x cb w2 w0) (k0_pay21 x) k0_pay22 k0_pay23 w1 w3 wa0) (k0_pay28 ba0) wx0 bx0 lam0 (ix3 (tq r) i y) = (be l0 (G0 (rw8 r i)) (I0 (rw8 r i)) (X (rw8 r i) y) : EReal) := by
  have ha (r : Fin 512) : k0_pay29 (F := Ideal) (k0_pay27 (k0_pay18 x) k0_pay19 (k0_pay20 x cb w2 w0) (k0_pay21 x) k0_pay22 k0_pay23 w1 w3 wa0) (k0_pay28 ba0) lam0 (ix2 r y) = (al l0 (G0 r) : EReal) :=
    pay29v lam0 y l0 _ _ hl _ _ ((pay27v x w0 w1 w2 w3 cb wa0 ba0 X y hX _).trans (hG _))
  have hi (r : Fin 512) : (∑ k : Fin 256, (X r k : EReal) * wx0 (ix4 0 0 k y)) + bx0 (ix3 0 0 y) = ((1 / 2 : ℝ) : EReal) * I0 r := hI r
  rw [← be_ker]
  pointwise [k0_pay31, k0_pay25]
  simp only [ha, pay26v x w0 w1 w2 w3 cb X hX, pay24v, hX, hi]

/-- The backward decays of a tile. -/
theorem a1v (hl : lam1 (ix3 0 0 y) = (l1 : EReal)) (hG : ∀ r, gE X wa1 ba1 r y = ((1 / 2 : ℝ) : EReal) * G1 r) (r : Fin 512) :
    k0_pay47 (F := Ideal) (k0_pay42 (k0_pay25 (k0_pay18 x) k0_pay19 (k0_pay20 x cb w2 w0) (k0_pay21 x) k0_pay22 k0_pay23 w1 w3) wa1 ba1) (k0_pay45 lam1) (k0_pay46 lam1) (ix2 r y) = (al l1 (G1 r) : EReal) :=
  pay47v lam1 y l1 _ hl _ _ ((pay42v x w0 w1 w2 w3 cb wa1 ba1 X y hX _).trans (congrArg Ideal.tanh (hG _)))

/-- The forward products that a chunk holds. -/
theorem chunk_af (hl : lam0 (ix3 0 0 y) = (l0 : EReal)) (hG : ∀ r, gE X wa0 ba0 r y = ((1 / 2 : ℝ) : EReal) * G0 r)
    (hα : ∀ r : Fin 512, al l0 (G0 r) = α (T + r.val)) (r : Fin 512) :
    (chunkOf (F := Ideal) x w0 w1 w2 w3 cb wa0 wx0 wa1 wx1 ba0 bx0 lam0 ba1 bx1 lam1).af (ix2 r y) = (cA α (T + r.val / 8 * 8) (r.val % 8 + 1) : EReal) := by
  rw [cA_shift, ← dA_three _ (tr r)]
  dsimp only [chunkOf]
  refine .trans ?_ (pay38v _ (fun j => α (T + r.val / 8 * 8 + j.val)) y r fun i => (a0v x w0 w1 w2 w3 cb wa0 ba0 lam0 X y G0 l0 hX hl hG r i).trans (congrArg _ ?_))
  · pointwise [k0_pay40]
  · rw [hα, Nat.add_assoc]

/-- The forward sums that a chunk holds. -/
theorem chunk_bf (hl : lam0 (ix3 0 0 y) = (l0 : EReal)) (hG : ∀ r, gE X wa0 ba0 r y = ((1 / 2 : ℝ) : EReal) * G0 r) (hI : ∀ r, gE X wx0 bx0 r y = ((1 / 2 : ℝ) : EReal) * I0 r)
    (hα : ∀ r : Fin 512, al l0 (G0 r) = α (T + r.val)) (hβ : ∀ r : Fin 512, be l0 (G0 r) (I0 r) (X r y) = β (T + r.val)) (r : Fin 512) :
    (chunkOf (F := Ideal) x w0 w1 w2 w3 cb wa0 wx0 wa1 wx1 ba0 bx0 lam0 ba1 bx1 lam1).bf (ix2 r y) = (cB α β (T + r.val / 8 * 8) (r.val % 8 + 1) : EReal) := by
  rw [cB_shift, ← dB_three _ _ (tr r)]
  dsimp only [chunkOf]
  refine .trans ?_ (pay39v _ _ (fun j => α (T + r.val / 8 * 8 + j.val)) (fun j => β (T + r.val / 8 * 8 + j.val)) y r
    (fun i => (a0v x w0 w1 w2 w3 cb wa0 ba0 lam0 X y G0 l0 hX hl hG r i).trans (congrArg _ ?_))
    (fun i => (b0v x w0 w1 w2 w3 cb wa0 wx0 ba0 bx0 lam0 X y G0 I0 l0 hX hl hG hI r i).trans (congrArg _ ?_)))
  · pointwise [k0_pay41]
  · rw [hα, Nat.add_assoc]
  · rw [hβ, Nat.add_assoc]

/-- The backward products that a chunk holds. -/
theorem chunk_ab (hl : lam1 (ix3 0 0 y) = (l1 : EReal)) (hG : ∀ r, gE X wa1 ba1 r y = ((1 / 2 : ℝ) : EReal) * G1 r)
    (hα : ∀ r : Fin 512, al l1 (G1 r) = α (T + (511 - r.val))) (r : Fin 512) :
    (chunkOf (F := Ideal) x w0 w1 w2 w3 cb wa0 wx0 wa1 wx1 ba0 bx0 lam0 ba1 bx1 lam1).ab (ix2 r y) = (cA α (T + (63 - r.val / 8) * 8) (8 - r.val % 8) : EReal) := by
  rw [cA_shift, ← eA_three _ (tr r)]
  dsimp only [chunkOf]
  refine (pay3v (fun j => α (T + (63 - r.val / 8) * 8 + (7 - j.val))) y _ _ _ r fun i => .trans ?_ ((a1v x w0 w1 w2 w3 cb wa1 ba1 lam1 X y G1 l1 hX hl hG (rw8 r i)).trans (congrArg _ ?_)))
  · pointwise [k0_pay48]
  · rw [hα]
    refine congrArg α ?_
    simp only
    omega

/-- The backward sums that a chunk holds. -/
theorem chunk_bb (hl : lam1 (ix3 0 0 y) = (l1 : EReal)) (hG : ∀ r, gE X wa1 ba1 r y = ((1 / 2 : ℝ) : EReal) * G1 r) (hI : ∀ r, gE X wx1 bx1 r y = ((1 / 2 : ℝ) : EReal) * I1 r)
    (hα : ∀ r : Fin 512, al l1 (G1 r) = α (T + (511 - r.val))) (hβ : ∀ r : Fin 512, be l1 (G1 r) (I1 r) (X r y) = β (T + (511 - r.val))) (r : Fin 512) :
    (chunkOf (F := Ideal) x w0 w1 w2 w3 cb wa0 wx0 wa1 wx1 ba0 bx0 lam0 ba1 bx1 lam1).bb (ix2 r y) = (cB α β (T + (63 - r.val / 8) * 8) (8 - r.val % 8) : EReal) := by
  have hv (i : Fin 8) : k0_pay48 (F := Ideal) (k0_pay42 (k0_pay25 (k0_pay18 x) k0_pay19 (k0_pay20 x cb w2 w0) (k0_pay21 x) k0_pay22 k0_pay23 w1 w3) wa1 ba1) (k0_pay45 lam1) (k0_pay46 lam1) (ix3 (tq r) i y)
      = (α (T + (63 - r.val / 8) * 8 + (7 - i.val)) : EReal) := by
    refine .trans ?_ ((a1v x w0 w1 w2 w3 cb wa1 ba1 lam1 X y G1 l1 hX hl hG (rw8 r i)).trans (congrArg _ ?_))
    · pointwise [k0_pay48]
    · rw [hα]
      refine congrArg α ?_
      simp only
      omega
  rw [cB_shift, ← eB_three _ _ (tr r)]
  dsimp only [chunkOf]
  refine (pay4v (fun j => α (T + (63 - r.val / 8) * 8 + (7 - j.val))) y _ _ _ r _ _ hv
    (pay52v (fun j => α (T + (63 - r.val / 8) * 8 + (7 - j.val))) (fun j => β (T + (63 - r.val / 8) * 8 + (7 - j.val))) y _ _ _ r _ _ hv fun i => ?_))
  · rw [show (⟨r.val / 8 * 8 + i.val, by omega⟩ : Fin 512) = rw8 r i from rfl, a1v x w0 w1 w2 w3 cb wa1 ba1 lam1 X y G1 l1 hX hl hG, pay26v x w0 w1 w2 w3 cb X hX,
      pay43v x w0 w1 w2 w3 cb wx1 bx1 X y hX, hI, be_ker, hβ]
    refine congrArg (fun n => (β n : EReal)) ?_
    simp only
    omega
end Coef
end

end Cert.KernelScanIdeal.Val

end
-- ==== Proof.ScanSeq.lean ====
/- The scan of a block as the recurrence of one column over all its positions. -/
module

public import proofs.«01_k».proof.Proof.ScanOut
public import proofs.«01_k».proof.Proof.ScanChunk

@[expose] public section

set_option maxRecDepth 16384

noncomputable section

namespace Cert.KernelScanIdeal.Val

open Cert.KernelScanIdeal Cert.KernelScanIdeal.Gen Idealize.ShloMosaic Idealize.ShloMosaic.TcCoe Idealize.SL.Sem Cert.Proof.Scan

/-- The gated linear unit's factor of a gate, as the kernel computes it. -/
def gl (g : EReal) : EReal :=
  g * (Ideal.ofBits .f32 0x3F000000#32 * (1 + Ideal.tanh (Ideal.ofBits .f32 0x3F4C422A#32 * (g + Ideal.ofBits .f32 0x3D372713#32 * (g * (g * g))))))

/-- An entry of the first result from the states and the gate. -/
theorem pay17v (f b : FVec Ideal S512x256 .f32) (g : FVec Ideal S1x512x256 .f32) (r : Fin 512) (y : Fin 256) :
    k0_pay17 (F := Ideal) f b g (ix3 0 r y) = gl (g (ix3 0 r y)) * (f (ix2 r y) + b (ix2 r y)) := by
  pointwise [k0_pay17, gl]

/-- A row of a tile from the carry into it. -/
theorem tTv (h : FVec Ideal S1x256 .f32) (a b : Vec Ideal S8x256 .f32) (i : Fin 8) (y : Fin 256) :
    tT (F := Ideal) h a b (ix2 i y) = a (ix2 i y) * h (ix2 0 y) + b (ix2 i y) := by
  pointwise [tT]

/-- The carry out of a forward tile. -/
theorem tLastv (w : FVec Ideal S8x256 .f32) (y : Fin 256) : tLast (F := Ideal) w (ix2 0 y) = w (ix2 7 y) := by
  pointwise [tLast]

/-- The carry out of a backward tile. -/
theorem tFirstv (w : FVec Ideal S8x256 .f32) (y : Fin 256) : tFirst (F := Ideal) w (ix2 0 y) = w (ix2 0 y) := by
  pointwise [tFirst]

section
variable (y : Fin 256) (h : FVec Ideal S1x256 .f32) (a b : ℕ → Vec Ideal S8x256 .f32) (h0 : EReal) (α β : ℕ → ℝ) (hα : ∀ t, 0 ≤ α t) (hh : h (ix2 0 y) = h0)
include hα hh

/-- The forward carries are the recurrence at the tiles' first positions. -/
theorem fC_seq (ha : ∀ j < 512, ∀ i : Fin 8, a j (ix2 i y) = (cA α (8 * j) (i.val + 1) : EReal)) (hb : ∀ j < 512, ∀ i : Fin 8, b j (ix2 i y) = (cB α β (8 * j) (i.val + 1) : EReal)) :
    ∀ j ≤ 512, fC (F := Ideal) h a b j (ix2 0 y) = seq h0 α β (8 * j)
  | 0, _ => hh
  | j + 1, hj => by
    refine (tLastv _ y).trans ((tTv _ _ _ 7 y).trans ?_)
    rw [ha j (by omega), hb j (by omega), fC_seq ha hb j (by omega)]
    exact (seq_add h0 α β hα (8 * j) 8).symm

/-- The backward carries are the recurrence of the reversed sequence. -/
theorem bC_seq (ha : ∀ j < 512, ∀ i : Fin 8, a j (ix2 i y) = (cA α (8 * (511 - j)) (8 - i.val) : EReal)) (hb : ∀ j < 512, ∀ i : Fin 8, b j (ix2 i y) = (cB α β (8 * (511 - j)) (8 - i.val) : EReal)) :
    ∀ n ≤ 512, bC (F := Ideal) h a b n (ix2 0 y) = seq h0 α β (8 * n)
  | 0, _ => hh
  | n + 1, hn => by
    refine (tFirstv _ y).trans ((tTv _ _ _ 0 y).trans ?_)
    rw [ha (511 - n) (by omega), hb (511 - n) (by omega), bC_seq ha hb n (by omega), show 511 - (511 - n) = n by omega]
    exact (seq_add h0 α β hα (8 * n) 8).symm
end

section
variable (x0 : Vec Ideal S1x4096x256 .f32) (x1 : Vec Ideal S1x4096x256 .f32) (x2 : Vec Ideal S4x256 .f32) (x3 : Vec Ideal S1x256 .f32) (x4 : Vec Ideal S2x1x256x256 .bf16)
  (x5 : Vec Ideal S2x1x256 .f32) (x6 : Vec Ideal S2x1x256x256 .bf16) (x7 : Vec Ideal S2x1x256 .f32) (x8 : Vec Ideal S2x1x256 .f32) (x9 : Vec Ideal S1x2x256 .f32)

/-- What the blocks hold for a column: `X` is the short convolution, `G` and `I` the two gates of a direction at a position, `l` its decay parameter. -/
structure Col (y : Fin 256) where
  X : ℕ → Fin 256 → ℝ
  G : Fin 2 → ℕ → EReal
  I : Fin 2 → ℕ → EReal
  l : Fin 2 → ℝ
  hX : ∀ k < 8, ∀ (r : Fin 512) (z : Fin 256), cvE (cw3 x0 k) (row4 x2 0) (row4 x2 1) (row4 x2 2) (row4 x2 3) x3 r z = (X (512 * k + r.val) z : EReal)
  hG : ∀ (d : Fin 2) (s : ℕ), s < 4096 → (∑ z : Fin 256, (X s z : EReal) * x4 (ix4 d 0 z y)) + x5 (ix3 d 0 y) = ((1 / 2 : ℝ) : EReal) * G d s
  hI : ∀ (d : Fin 2) (s : ℕ), s < 4096 → (∑ z : Fin 256, (X s z : EReal) * x6 (ix4 d 0 z y)) + x7 (ix3 d 0 y) = ((1 / 2 : ℝ) : EReal) * I d s
  hl : ∀ d : Fin 2, x8 (ix3 d 0 y) = (l d : EReal)

namespace Col
variable {x0 x2 x3 x4 x5 x6 x7 x8} {y : Fin 256} (C : Col x0 x2 x3 x4 x5 x6 x7 x8 y)

/-- The forward decays, by position. -/
def a0 (t : ℕ) : ℝ := al (C.l 0) (C.G 0 t)
/-- The forward inputs, by position. -/
def b0 (t : ℕ) : ℝ := be (C.l 0) (C.G 0 t) (C.I 0 t) (C.X t y)
/-- The backward decays, from the last position. -/
def a1 (t : ℕ) : ℝ := al (C.l 1) (C.G 1 (4095 - t))
/-- The backward inputs, from the last position. -/
def b1 (t : ℕ) : ℝ := be (C.l 1) (C.G 1 (4095 - t)) (C.I 1 (4095 - t)) (C.X (4095 - t) y)
/-- The forward states. -/
def F (t : ℕ) : EReal := seq (x9 (ix3 0 0 y)) C.a0 C.b0 t
/-- The backward states, from the last position. -/
def B (t : ℕ) : EReal := seq (x9 (ix3 0 1 y)) C.a1 C.b1 t

/-- The backward position of a row of a chunk. -/
theorem pos1 (j : ℕ) (hj : j < 512) (r : Fin 512) : 512 * (j / 64) + r.val = 4095 - (512 * (7 - j / 64) + (511 - r.val)) := by omega

theorem tile_af (j : ℕ) (hj : j < 512) (i : Fin 8) : st8 (fun k => (chunks x0 x2 x3 x4 x5 x6 x7 x8 k).af) j (ix2 i y) = (cA C.a0 (8 * j) (i.val + 1) : EReal) := by
  have hi : i.val < 8 := i.isLt
  refine (chunk_af (cw3 x0 (j / 64)) (row4 x2 0) (row4 x2 1) (row4 x2 2) (row4 x2 3) x3 (dir4 x4 0) (dir4 x6 0) (dir4 x4 1) (dir4 x6 1) (dir3 x5 0) (dir3 x7 0) (dir3 x8 0) (dir3 x5 1) (dir3 x7 1) (dir3 x8 1) (fun r => C.X (512 * (j / 64) + r.val)) y (fun r => C.G 0 (512 * (j / 64) + r.val)) (C.l 0) (fun r z => C.hX (j / 64) (by omega) r z) C.a0 (512 * (j / 64)) (C.hl 0) (fun r => C.hG 0 (512 * (j / 64) + r.val) (by omega)) (fun r => rfl) (⟨(8 * (j % 64) + i.val) % 512, Nat.mod_lt _ (by decide)⟩ : Fin 512)).trans ?_
  refine congrArg Real.toEReal (congrArg₂ (cA C.a0) ?_ ?_) <;> dsimp only <;> omega

theorem tile_bf (j : ℕ) (hj : j < 512) (i : Fin 8) : st8 (fun k => (chunks x0 x2 x3 x4 x5 x6 x7 x8 k).bf) j (ix2 i y) = (cB C.a0 C.b0 (8 * j) (i.val + 1) : EReal) := by
  have hi : i.val < 8 := i.isLt
  refine (chunk_bf (cw3 x0 (j / 64)) (row4 x2 0) (row4 x2 1) (row4 x2 2) (row4 x2 3) x3 (dir4 x4 0) (dir4 x6 0) (dir4 x4 1) (dir4 x6 1) (dir3 x5 0) (dir3 x7 0) (dir3 x8 0) (dir3 x5 1) (dir3 x7 1) (dir3 x8 1) (fun r => C.X (512 * (j / 64) + r.val)) y (fun r => C.G 0 (512 * (j / 64) + r.val)) (fun r => C.I 0 (512 * (j / 64) + r.val)) (C.l 0) (fun r z => C.hX (j / 64) (by omega) r z) C.a0 C.b0 (512 * (j / 64)) (C.hl 0) (fun r => C.hG 0 (512 * (j / 64) + r.val) (by omega)) (fun r => C.hI 0 (512 * (j / 64) + r.val) (by omega)) (fun r => rfl) (fun r => rfl) (⟨(8 * (j % 64) + i.val) % 512, Nat.mod_lt _ (by decide)⟩ : Fin 512)).trans ?_
  refine congrArg Real.toEReal (congrArg₂ (cB C.a0 C.b0) ?_ ?_) <;> dsimp only <;> omega

theorem tile_ab (j : ℕ) (hj : j < 512) (i : Fin 8) : st8 (fun k => (chunks x0 x2 x3 x4 x5 x6 x7 x8 k).ab) j (ix2 i y) = (cA C.a1 (8 * (511 - j)) (8 - i.val) : EReal) := by
  have hi : i.val < 8 := i.isLt
  refine (chunk_ab (cw3 x0 (j / 64)) (row4 x2 0) (row4 x2 1) (row4 x2 2) (row4 x2 3) x3 (dir4 x4 0) (dir4 x6 0) (dir4 x4 1) (dir4 x6 1) (dir3 x5 0) (dir3 x7 0) (dir3 x8 0) (dir3 x5 1) (dir3 x7 1) (dir3 x8 1) (fun r => C.X (512 * (j / 64) + r.val)) y (fun r => C.G 1 (512 * (j / 64) + r.val)) (C.l 1) (fun r z => C.hX (j / 64) (by omega) r z) C.a1 (512 * (7 - j / 64)) (C.hl 1) (fun r => C.hG 1 (512 * (j / 64) + r.val) (by omega)) (fun r => congrArg (fun n => al (C.l 1) (C.G 1 n)) (pos1 j hj r)) (⟨(8 * (j % 64) + i.val) % 512, Nat.mod_lt _ (by decide)⟩ : Fin 512)).trans ?_
  refine congrArg Real.toEReal (congrArg₂ (cA C.a1) ?_ ?_) <;> dsimp only <;> omega

theorem tile_bb (j : ℕ) (hj : j < 512) (i : Fin 8) : st8 (fun k => (chunks x0 x2 x3 x4 x5 x6 x7 x8 k).bb) j (ix2 i y) = (cB C.a1 C.b1 (8 * (511 - j)) (8 - i.val) : EReal) := by
  have hi : i.val < 8 := i.isLt
  refine (chunk_bb (cw3 x0 (j / 64)) (row4 x2 0) (row4 x2 1) (row4 x2 2) (row4 x2 3) x3 (dir4 x4 0) (dir4 x6 0) (dir4 x4 1) (dir4 x6 1) (dir3 x5 0) (dir3 x7 0) (dir3 x8 0) (dir3 x5 1) (dir3 x7 1) (dir3 x8 1) (fun r => C.X (512 * (j / 64) + r.val)) y (fun r => C.G 1 (512 * (j / 64) + r.val)) (fun r => C.I 1 (512 * (j / 64) + r.val)) (C.l 1) (fun r z => C.hX (j / 64) (by omega) r z) C.a1 C.b1 (512 * (7 - j / 64)) (C.hl 1) (fun r => C.hG 1 (512 * (j / 64) + r.val) (by omega)) (fun r => C.hI 1 (512 * (j / 64) + r.val) (by omega)) (fun r => congrArg (fun n => al (C.l 1) (C.G 1 n)) (pos1 j hj r)) (fun r => congrArg (fun n => be (C.l 1) (C.G 1 n) (C.I 1 n) (C.X n y)) (pos1 j hj r)) (⟨(8 * (j % 64) + i.val) % 512, Nat.mod_lt _ (by decide)⟩ : Fin 512)).trans ?_
  refine congrArg Real.toEReal (congrArg₂ (cB C.a1 C.b1) ?_ ?_) <;> dsimp only <;> omega

theorem carF_v (j : ℕ) (hj : j ≤ 512) : carF x0 x2 x3 x4 x5 x6 x7 x8 x9 j (ix2 0 y) = C.F x9 (8 * j) := by
  refine fC_seq y _ _ _ (x9 (ix3 0 0 y)) C.a0 C.b0 (fun t => al_nonneg _ _) ?_ (fun j hj i => C.tile_af j hj i) (fun j hj i => C.tile_bf j hj i) j hj
  pointwise [k0_pay5, ini3]

theorem carB_v (n : ℕ) (hn : n ≤ 512) : carB x0 x2 x3 x4 x5 x6 x7 x8 x9 n (ix2 0 y) = C.B x9 (8 * n) := by
  refine bC_seq y _ _ _ (x9 (ix3 0 1 y)) C.a1 C.b1 (fun t => al_nonneg _ _) ?_ (fun j hj i => C.tile_ab j hj i) (fun j hj i => C.tile_bb j hj i) n hn
  pointwise [k0_pay6, ini3]

/-- The forward states of a tile. -/
theorem tilF_v (j : ℕ) (hj : j < 512) (i : Fin 8) : tilF x0 x2 x3 x4 x5 x6 x7 x8 x9 j (ix2 i y) = C.F x9 (8 * j + (i.val + 1)) := by
  refine (tTv _ _ _ i y).trans ?_
  rw [C.tile_af j hj i, C.tile_bf j hj i, C.carF_v x9 j (by omega)]
  exact (seq_add _ _ _ (fun t => al_nonneg _ _) _ _).symm

/-- The backward states of a tile. -/
theorem tilB_v (j : ℕ) (hj : j < 512) (i : Fin 8) : tilB x0 x2 x3 x4 x5 x6 x7 x8 x9 j (ix2 i y) = C.B x9 (8 * (511 - j) + (8 - i.val)) := by
  refine (tTv _ _ _ i y).trans ?_
  rw [C.tile_ab j hj i, C.tile_bb j hj i, C.carB_v x9 (511 - j) (by omega)]
  exact (seq_add _ _ _ (fun t => al_nonneg _ _) _ _).symm

/-- The forward state after a position. -/
theorem gluF (s : Fin 4096) : glue (tilF x0 x2 x3 x4 x5 x6 x7 x8 x9) (ix2 s y) = C.F x9 (s.val + 1) := by
  refine (C.tilF_v x9 (s.val / 8) (by omega) ⟨s.val % 8, by omega⟩).trans (congrArg (C.F x9) ?_)
  dsimp only
  omega

/-- The backward state after a position. -/
theorem gluB (s : Fin 4096) : glue (tilB x0 x2 x3 x4 x5 x6 x7 x8 x9) (ix2 s y) = C.B x9 (4096 - s.val) := by
  refine (C.tilB_v x9 (s.val / 8) (by omega) ⟨s.val % 8, by omega⟩).trans (congrArg (C.B x9) ?_)
  dsimp only
  omega

/-- The first result's block. -/
theorem blkY_v (s : Fin 4096) : blkY x0 x1 x2 x3 x4 x5 x6 x7 x8 x9 (ix3 0 s y) = gl (x1 (ix3 0 s y)) * (C.F x9 (s.val + 1) + C.B x9 (4096 - s.val)) := by
  rw [← C.gluF x9 s, ← C.gluB x9 s]
  have e : (⟨(512 * (s.val / 512) + s.val % 512) % 4096, by omega⟩ : Fin 4096) = s := Fin.ext (by dsimp only; omega)
  refine (pay17v _ _ _ ⟨s.val % 512, by omega⟩ y).trans ?_
  refine congrArg₂ _ (congrArg (fun n => gl (x1 (ix3 0 n y))) e) (congrArg₂ _ (congrArg (fun n => glue _ (ix2 n y)) e) (congrArg (fun n => glue _ (ix2 n y)) e))

/-- The second result's block: the forward row. -/
theorem blkH_0 : blkH x0 x2 x3 x4 x5 x6 x7 x8 x9 (ix3 0 0 y) = C.F x9 4096 := by
  refine (if_pos (c := ((ix3 0 0 y : S1x2x256.Idx) 1).val = 0) rfl).trans (.trans ?_ (C.carF_v x9 512 le_rfl))
  pointwise [k0_pay15]

/-- The second result's block: the backward row. -/
theorem blkH_1 : blkH x0 x2 x3 x4 x5 x6 x7 x8 x9 (ix3 0 1 y) = C.B x9 4096 := by
  refine (if_neg (c := ((ix3 0 1 y : S1x2x256.Idx) 1).val = 0) (by show ¬ (1 = 0); decide)).trans (.trans ?_ (C.carB_v x9 512 le_rfl))
  pointwise [k0_pay16]
end Col
end

end Cert.KernelScanIdeal.Val

end
-- ==== Proof.ScanCol.lean ====
/- The columns of a point's blocks: the convolution, the gates and the decay parameters that the blocks hold are the reference's. -/
module

public import proofs.«01_k».proof.Proof.ScanBlkW
public import proofs.«01_k».proof.Proof.ScanSeq
public import proofs.«01_k».proof.Proof.RefResult

@[expose] public section

set_option maxRecDepth 16384

noncomputable section

namespace Cert.KernelScanIdeal.Val

open Cert.KernelScanIdeal Cert.KernelScanIdeal.Gen Idealize.ShloMosaic Idealize.ShloMosaic.TcCoe Idealize.SL.Sem Cert.Proof.Scan
open Cert.ReferenceScanIdeal.Value (half cvR gw Fin0 IsR alR beR staR glR yR pos refY refH)

/-- A real factor times a finite sum. -/
theorem coe_sum (a : ℝ) (h : 0 ≤ a) {n : ℕ} (f : Fin n → EReal) : (a : EReal) * ∑ i, f i = ∑ i, (a : EReal) * f i := by
  classical
  induction (Finset.univ : Finset (Fin n)) using Finset.induction with
  | empty => simp
  | insert i s hi ih => rw [Finset.sum_insert hi, Finset.sum_insert hi, coe_distrib a h, ih]

/-- A sum over a tile's columns of one head only. -/
theorem sum_head (Y : ℕ) (hY : Y < 2) (f : Fin 256 → EReal) : (∑ z : Fin 256, if z.val / 128 = Y then f z else 0) = ∑ i : Fin 128, f (⟨Y * 128 + i.val, by omega⟩ : Fin 256) := by
  refine (Fin.sum_univ_add (a := 128) (b := 128) fun z : Fin 256 => if z.val / 128 = Y then f z else 0).trans ?_
  have l : ∀ i : Fin 128, (Fin.castAdd 128 i).val / 128 = 0 := fun i => by rw [Fin.val_castAdd]; omega
  have r : ∀ i : Fin 128, (Fin.natAdd 128 i).val / 128 = 1 := fun i => by rw [Fin.val_natAdd]; omega
  simp only [l, r]
  obtain rfl | rfl : Y = 0 ∨ Y = 1 := by omega
  · rw [Finset.sum_congr rfl (fun i _ => if_pos rfl), Finset.sum_congr rfl (fun i _ => if_neg (show ¬ (1 = 0) by decide)), Finset.sum_const_zero, add_zero]
    exact Finset.sum_congr rfl fun i _ => congrArg f (Fin.ext (by rw [Fin.val_castAdd]; dsimp only; omega))
  · rw [Finset.sum_congr rfl (fun i _ => if_neg (show ¬ (0 = 1) by decide)), Finset.sum_congr rfl (fun i _ => if_pos rfl), Finset.sum_const_zero, zero_add]
    exact Finset.sum_congr rfl fun i _ => congrArg f (Fin.ext (by rw [Fin.val_natAdd]))

section
variable (a0 : FVec Ideal S4x4096x4096 .f32) (a1 : FVec Ideal S4x2048 .f32) (a2 : FVec Ideal S2048 .f32) (b : Fin 4) (T : Fin 8)

/-- A tile's column, among all channels. -/
abbrev tch (l : Fin 256) : Fin 2048 := ⟨T.val * 256 + l.val, by omega⟩

/-- The convolution of a chunk of a point's block is the convolution of the whole array there. -/
theorem cv_eq (x0 : Vec Ideal S1x4096x256 .f32) (x2 : Vec Ideal S4x256 .f32) (x3 : Vec Ideal S1x256 .f32)
    (h0 : ∀ s l, x0 (ix3 0 s l) = a0 (ix3 b s (⟨(tch T l).val + 2048, by omega⟩ : Fin 4096)))
    (h2 : ∀ n l, x2 (ix2 n l) = a1 (ix2 n (tch T l))) (h3 : ∀ l, x3 (ix2 0 l) = a2 (ix1 (tch T l))) (k : ℕ) (hk : k < 8) (r : Fin 512) (z : Fin 256) :
    cvE (cw3 x0 k) (row4 x2 0) (row4 x2 1) (row4 x2 2) (row4 x2 3) x3 r z = cvR a0 a1 a2 b (512 * k + r.val) (tch T z) := by
  have X : ∀ r : Fin 512, cw3 x0 k (ix3 0 r z) = half a0 b (512 * k + r.val) (tch T z) := fun r => h0 (⟨(512 * k + r.val) % 4096, by omega⟩ : Fin 4096) z
  have R : ∀ n : Fin 4, row4 x2 n (ix2 0 z) = a1 (ix2 n (tch T z)) := fun n => h2 n z
  unfold cvE cvR
  rw [X, X, X, X, R, R, R, R, h3]
  have hm : (512 * k + r.val) % 64 = r.val % 64 := by omega
  have t0 : (if r.val % 64 < 2 then (0 : EReal) else a1 (ix2 0 (tch T z)) * half a0 b (512 * k + (r.val + 512 - 2) % 512) (tch T z))
      = a1 (ix2 0 (tch T z)) * (if 2 ≤ (512 * k + r.val) % 64 then half a0 b (512 * k + r.val - 2) (tch T z) else 0) := by
    by_cases h : r.val % 64 < 2
    · rw [if_pos h, if_neg (by omega), mul_zero]
    · rw [if_neg h, if_pos (by omega), show 512 * k + (r.val + 512 - 2) % 512 = 512 * k + r.val - 2 by omega]
  have t1 : (if r.val % 64 < 1 then (0 : EReal) else a1 (ix2 1 (tch T z)) * half a0 b (512 * k + (r.val + 512 - 1) % 512) (tch T z))
      = a1 (ix2 1 (tch T z)) * (if 1 ≤ (512 * k + r.val) % 64 then half a0 b (512 * k + r.val - 1) (tch T z) else 0) := by
    by_cases h : r.val % 64 < 1
    · rw [if_pos h, if_neg (by omega), mul_zero]
    · rw [if_neg h, if_pos (by omega), show 512 * k + (r.val + 512 - 1) % 512 = 512 * k + r.val - 1 by omega]
  have t3 : (if r.val % 64 = 63 then (0 : EReal) else a1 (ix2 3 (tch T z)) * half a0 b (512 * k + (r.val + 512 - 511) % 512) (tch T z))
      = a1 (ix2 3 (tch T z)) * (if (512 * k + r.val) % 64 < 63 then half a0 b (512 * k + r.val + 1) (tch T z) else 0) := by
    by_cases h : r.val % 64 = 63
    · rw [if_pos h, if_neg (by omega), mul_zero]
    · rw [if_neg h, if_pos (by omega), show 512 * k + (r.val + 512 - 511) % 512 = 512 * k + r.val + 1 by omega]
  refine (congrArg₂ (fun a b : EReal => a + b) (congrArg₂ (fun a b : EReal => a + b) (congrArg (fun v : EReal => _ + v) t0) t1) t3).trans ?_
  rw [add_right_comm (a2 (ix1 (tch T z))), add_right_comm (a2 (ix1 (tch T z)) + _)]

/-- A gate of a point's block: the block-diagonal weights sum over the column's own head, and the half comes out of the sum. -/
theorem gate_eq (w : FVec Ideal S2x16x128x128 .f32) (v : FVec Ideal S2x2048 .f32) (x4 : Vec Ideal S2x1x256x256 .bf16) (x5 : Vec Ideal S2x1x256 .f32) (d : Fin 2) (y : Fin 256)
    (h4 : ∀ z, x4 (ix4 d 0 z y) = if z.val / 128 = y.val / 128 then Ideal.ofBits .f32 0x3F000000#32 * w (ix4 d (⟨(tch T y).val / 128, by omega⟩ : Fin 16) (⟨z.val % 128, by omega⟩ : Fin 128) (⟨(tch T y).val % 128, by omega⟩ : Fin 128)) else 0)
    (h5 : x5 (ix3 d 0 y) = Ideal.ofBits .f32 0x3F000000#32 * v (ix2 d (tch T y))) (X : Fin 256 → EReal) (s : ℕ) (hX : ∀ z, X z = cvR a0 a1 a2 b s (tch T z)) :
    (∑ z : Fin 256, X z * x4 (ix4 d 0 z y)) + x5 (ix3 d 0 y) = ((1 / 2 : ℝ) : EReal) * gw a0 a1 a2 w v d b s (tch T y) := by
  unfold gw
  rw [h5, c_half, coe_distrib _ (by norm_num), coe_sum _ (by norm_num)]
  refine congrArg (fun v : EReal => v + _) ?_
  refine .trans ?_ ((sum_head (y.val / 128) (by omega) fun z => X z * (((1 / 2 : ℝ) : EReal) * w (ix4 d (⟨(tch T y).val / 128, by omega⟩ : Fin 16) (⟨z.val % 128, by omega⟩ : Fin 128) (⟨(tch T y).val % 128, by omega⟩ : Fin 128)))).trans ?_)
  · refine Finset.sum_congr rfl fun z _ => ?_
    rw [h4, c_half]
    by_cases h : z.val / 128 = y.val / 128
    · rw [if_pos h, if_pos h]
    · rw [if_neg h, if_neg h, mul_zero]
  · refine Finset.sum_congr rfl fun i _ => ?_
    have hi : i.val < 128 := i.isLt
    dsimp only
    rw [hX, mul_left_comm, mul_comm (cvR _ _ _ _ _ _)]
    have e1 : (⟨(y.val / 128 * 128 + i.val) % 128, Nat.mod_lt _ (by decide)⟩ : Fin 128) = i := Fin.ext (by dsimp only; omega)
    have e2 : tch T (⟨y.val / 128 * 128 + i.val, by omega⟩ : Fin 256) = (⟨(tch T y).val / 128 * 128 + i.val, by omega⟩ : Fin 2048) := Fin.ext (by dsimp only; omega)
    exact congrArg₂ (fun (i : Fin 128) (q : Fin 2048) => ((1 / 2 : ℝ) : EReal) * (w (ix4 d _ i _) * cvR a0 a1 a2 b s q)) e1 e2
end

end Cert.KernelScanIdeal.Val

end
-- ==== Proof.ScanVal.lean ====
/- The RG-LRU call's value: the results hold the reference's gated output and last states. -/
module

public import proofs.«01_k».proof.Proof.ScanCol

@[expose] public section

set_option maxRecDepth 16384

noncomputable section

namespace Cert.KernelScanIdeal.Val

open Cert.KernelScanIdeal Cert.KernelScanIdeal.Gen Idealize.ShloMosaic Idealize.ShloMosaic.TcCoe Idealize.SL.Sem Cert.Proof.Scan
open Idealize.ShloMosaic.Pipeline (Dat)
open Cert.ReferenceScanIdeal.Value (half cvR gw Fin0 IsR alR beR staR glR yR pos refY refH)

variable (m : (ℓ : Loc nD τ sig) → Buf (Elt Ideal) ℓ) (c : Dev nD) (H : Fin0 (m ((c : Thread nD τ).loc main_arg0)) (m ((c : Thread nD τ).loc main_arg1)) (m ((c : Thread nD τ).loc main_arg2)) (m ((c : Thread nD τ).loc main_arg7)))

/-- The gate's activation, in the kernel's order and in the reference's. -/
theorem gl_eq (g : EReal) : gl g = glR g := by
  unfold gl glR
  rw [mul_assoc g g g]

include H in
/-- The convolution is finite. -/
theorem cvr (b : Fin 4) (s : ℕ) (k : Fin 2048) : cvR (m ((c : Thread nD τ).loc main_arg0)) (m ((c : Thread nD τ).loc main_arg1)) (m ((c : Thread nD τ).loc main_arg2)) b s k = ((cvR (m ((c : Thread nD τ).loc main_arg0)) (m ((c : Thread nD τ).loc main_arg1)) (m ((c : Thread nD τ).loc main_arg2)) b s k).toReal : EReal) := H.cv _ _ _ _ b s k

/-- What a point's blocks hold for a column. -/
def col (t : Fin cfg0.N) (y : Fin 256) : Col (iblk m c 0 t) (iblk m c 2 t) (iblk m c 3 t) (iblk m c 4 t) (iblk m c 5 t) (iblk m c 6 t) (iblk m c 7 t) (iblk m c 8 t) y where
  X s z := (cvR (m ((c : Thread nD τ).loc main_arg0)) (m ((c : Thread nD τ).loc main_arg1)) (m ((c : Thread nD τ).loc main_arg2)) (bat t) s (chan t z)).toReal
  G d s := gw (m ((c : Thread nD τ).loc main_arg0)) (m ((c : Thread nD τ).loc main_arg1)) (m ((c : Thread nD τ).loc main_arg2)) (m ((c : Thread nD τ).loc main_arg3)) (m ((c : Thread nD τ).loc main_arg4)) d (bat t) s (chan t y)
  I d s := gw (m ((c : Thread nD τ).loc main_arg0)) (m ((c : Thread nD τ).loc main_arg1)) (m ((c : Thread nD τ).loc main_arg2)) (m ((c : Thread nD τ).loc main_arg5)) (m ((c : Thread nD τ).loc main_arg6)) d (bat t) s (chan t y)
  l d := ((m ((c : Thread nD τ).loc main_arg7)) (ix2 d (chan t y)) : EReal).toReal
  hX k hk r z := (cv_eq (m ((c : Thread nD τ).loc main_arg0)) (m ((c : Thread nD τ).loc main_arg1)) (m ((c : Thread nD τ).loc main_arg2)) (bat t) (⟨t.val % 8, by omega⟩ : Fin 8) _ _ _ (b0 m c t) (b2 m c t) (b3 m c t) k hk r z).trans (cvr m c H _ _ _)
  hG d s hs := gate_eq (m ((c : Thread nD τ).loc main_arg0)) (m ((c : Thread nD τ).loc main_arg1)) (m ((c : Thread nD τ).loc main_arg2)) (bat t) (⟨t.val % 8, by omega⟩ : Fin 8) (m ((c : Thread nD τ).loc main_arg3)) (m ((c : Thread nD τ).loc main_arg4)) _ _ d y (fun z => b4 m c t d z y) (b5 m c t d y) _ s (fun z => (cvr m c H _ _ _).symm)
  hI d s hs := gate_eq (m ((c : Thread nD τ).loc main_arg0)) (m ((c : Thread nD τ).loc main_arg1)) (m ((c : Thread nD τ).loc main_arg2)) (bat t) (⟨t.val % 8, by omega⟩ : Fin 8) (m ((c : Thread nD τ).loc main_arg5)) (m ((c : Thread nD τ).loc main_arg6)) _ _ d y (fun z => b6 m c t d z y) (b7 m c t d y) _ s (fun z => (cvr m c H _ _ _).symm)
  hl d := (b8 m c t d y).trans (H.h7 d _).eq

/-- The forward states of a column are the reference's. -/
theorem col_F (t : Fin cfg0.N) (y : Fin 256) (n : ℕ) : (col m c H t y).F (iblk m c 9 t) n = staR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) 0 (bat t) (chan t y) n := by
  unfold Col.F
  rw [b9]
  rfl

/-- The backward states of a column are the reference's. -/
theorem col_B (t : Fin cfg0.N) (y : Fin 256) (n : ℕ) : (col m c H t y).B (iblk m c 9 t) n = staR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) 1 (bat t) (chan t y) n := by
  unfold Col.B
  rw [b9]
  rfl

include H in
/-- What a point writes of the first result. -/
theorem point10 (t : Fin cfg0.N) (s : Fin 4096) (y : Fin 256) : (outsAt0 m c t).1 (ix3 0 s y) = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb (ix3 0 s y)) := by
  rw [emb10]
  refine ((col m c H t y).blkY_v (iblk m c 1 t) (iblk m c 9 t) s).trans ?_
  rw [col_F, col_B, gl_eq, b1]
  rfl

include H in
/-- What a point writes of the second result. -/
theorem point11 (t : Fin cfg0.N) (d : Fin 2) (y : Fin 256) : (outsAt0 m c t).2 (ix3 0 d y) = refH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb (ix3 0 d y)) := by
  rw [emb11]
  obtain rfl | rfl : d = 0 ∨ d = 1 := by omega
  · refine ((col m c H t y).blkH_0 (iblk m c 9 t)).trans ?_
    rw [col_F]
    rfl
  · refine ((col m c H t y).blkH_1 (iblk m c 9 t)).trans ?_
    rw [col_B]
    rfl

include H in
/-- The first result after the run is the reference's gated output. -/
theorem final10 : (dats m 0 c).arrAt 10 (cfgs 0).N = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  obtain ⟨i, s, l, rfl⟩ : ∃ i s l, y = ix3 i s l := ⟨y 0, y 1, y 2, eq_ix3 y⟩
  obtain rfl : i = 0 := Subsingleton.elim _ _
  blk_simp
  rw [after0_10]
  exact point10 m c H t s l

include H in
/-- The second result after the run is the reference's last states. -/
theorem final11 : (dats m 0 c).arrAt 11 (cfgs 0).N = refH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  obtain ⟨i, d, l, rfl⟩ : ∃ i d l, y = ix3 i d l := ⟨y 0, y 1, y 2, eq_ix3 y⟩
  obtain rfl : i = 0 := Subsingleton.elim _ _
  blk_simp
  rw [after0_11]
  exact point11 m c H t d l

end Cert.KernelScanIdeal.Val

end
-- ==== Proof.ScanValue.lean ====
/- The value claim of the RG-LRU call. -/
module

public import proofs.«01_k».proof.Proof.ScanVal
public import proofs.«01_k».proof.Proof.ScanPre
public import proofs.«01_k».proof.Proof.Gen.Pre_finite
public import proofs.«01_k».proof.Defs

@[expose] public section

set_option maxRecDepth 16384

noncomputable section

namespace Cert.Proof

open Idealize.ShloMosaic Idealize.SL.Sem Idealize.ShloMosaic.StableHlo

section
variable (m : (ℓ : Loc Cert.KernelScanIdeal.nD Cert.KernelScanIdeal.τ Cert.KernelScanIdeal.sig) → Buf (Elt Ideal) ℓ) (m' : (ℓ : Loc Cert.ReferenceScanIdeal.nD Cert.ReferenceScanIdeal.τ Cert.ReferenceScanIdeal.sig) → Buf (Elt Ideal) ℓ)

/-- The precondition makes the kernel's arguments finite where the claim needs it. -/
theorem finK (hpre : Cert.Pre_KernelScanIdeal_finite (hPre_finite := Cert.Pre_finite.Gen.facts) m) (c : Dev Cert.KernelScanIdeal.nD) : Cert.ReferenceScanIdeal.Value.Fin0 (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg7)) :=
  Cert.ReferenceScanIdeal.Value.fin0_of (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (hpre c)

/-- The two sides' first results, on equal arguments. -/
theorem same_y (c : Dev Cert.KernelScanIdeal.nD) (H : Cert.ReferenceScanIdeal.Value.Fin0 (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg7)))
    (h0 : m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)) (h1 : m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)) (h2 : m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)) (h3 : m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)) (h4 : m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)) (h5 : m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)) (h6 : m' ((c.tc : Thread Cert.ReferenceScanIdeal.nD Cert.ReferenceScanIdeal.τ).loc Cert.ReferenceScanIdeal.main_arg6) = m ((c.tc : Thread Cert.KernelScanIdeal.nD Cert.KernelScanIdeal.τ).loc Cert.KernelScanIdeal.main_arg6)) (h7 : m' ((c.tc : Thread Cert.ReferenceScanIdeal.nD Cert.ReferenceScanIdeal.τ).loc Cert.ReferenceScanIdeal.main_arg7) = m ((c.tc : Thread Cert.KernelScanIdeal.nD Cert.KernelScanIdeal.τ).loc Cert.KernelScanIdeal.main_arg7)) (h8 : m' ((c.tc : Thread Cert.ReferenceScanIdeal.nD Cert.ReferenceScanIdeal.τ).loc Cert.ReferenceScanIdeal.main_arg8) = m ((c.tc : Thread Cert.KernelScanIdeal.nD Cert.KernelScanIdeal.τ).loc Cert.KernelScanIdeal.main_arg8)) :
    Cert.ReferenceScanIdeal.Value.out_main_v171 (Cert.ReferenceScanIdeal.Value.STEP^[4096] (entryContents (Cert.ReferenceScanIdeal.Value.preI (F := Ideal)) m' c)) = (Cert.KernelScanIdeal.Val.dats m 0 c).arrAt 10 (Cert.KernelScanIdeal.cfgs 0).N := by
  refine .trans ?_ (Cert.KernelScanIdeal.Val.final10 m c H).symm
  refine (Cert.ReferenceScanIdeal.Value.ref_y m' c (by rw [h0, h1, h2, h7]; exact H)).trans ?_
  rw [h0, h1, h2, h3, h4, h5, h6, h7, h8]

/-- The two sides' second results, on equal arguments. -/
theorem same_h (c : Dev Cert.KernelScanIdeal.nD) (H : Cert.ReferenceScanIdeal.Value.Fin0 (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg7)))
    (h0 : m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)) (h1 : m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)) (h2 : m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)) (h3 : m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)) (h4 : m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)) (h5 : m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)) (h6 : m' ((c.tc : Thread Cert.ReferenceScanIdeal.nD Cert.ReferenceScanIdeal.τ).loc Cert.ReferenceScanIdeal.main_arg6) = m ((c.tc : Thread Cert.KernelScanIdeal.nD Cert.KernelScanIdeal.τ).loc Cert.KernelScanIdeal.main_arg6)) (h7 : m' ((c.tc : Thread Cert.ReferenceScanIdeal.nD Cert.ReferenceScanIdeal.τ).loc Cert.ReferenceScanIdeal.main_arg7) = m ((c.tc : Thread Cert.KernelScanIdeal.nD Cert.KernelScanIdeal.τ).loc Cert.KernelScanIdeal.main_arg7)) (h8 : m' ((c.tc : Thread Cert.ReferenceScanIdeal.nD Cert.ReferenceScanIdeal.τ).loc Cert.ReferenceScanIdeal.main_arg8) = m ((c.tc : Thread Cert.KernelScanIdeal.nD Cert.KernelScanIdeal.τ).loc Cert.KernelScanIdeal.main_arg8)) :
    Cert.ReferenceScanIdeal.Value.out_main_v174 (Cert.ReferenceScanIdeal.Value.STEP^[4096] (entryContents (Cert.ReferenceScanIdeal.Value.preI (F := Ideal)) m' c)) = (Cert.KernelScanIdeal.Val.dats m 0 c).arrAt 11 (Cert.KernelScanIdeal.cfgs 0).N := by
  refine .trans ?_ (Cert.KernelScanIdeal.Val.final11 m c H).symm
  refine (Cert.ReferenceScanIdeal.Value.ref_h m' c (by rw [h0, h1, h2, h7]; exact H)).trans ?_
  rw [h0, h1, h2, h3, h4, h5, h6, h7, h8]
end

set_option maxHeartbeats 2000000 in
/-- On equal arguments, those of the convolution and of the decay finite, `KernelScanIdeal` and `ReferenceScanIdeal` end with equal results. -/
theorem valueKernelScan : Cert.algebraic_KernelScanIdeal_ReferenceScanIdeal_pre_finite (hKernelScanIdeal := Cert.KernelScanIdeal.Gen.facts) (hReferenceScanIdeal := Cert.ReferenceScanIdeal.Gen.facts) (hPre_finite := Cert.Pre_finite.Gen.facts) := by
  pair_intro
  · run_from Cert.KernelScanIdeal.Val.run_main m g
  · refine (θ_run Cert.ReferenceScanIdeal.defs _ _).mono (fun r h c => ?_) (Cert.ReferenceScanIdeal.Value.run m' g')
    obtain ⟨h0, h1, h2, h3, h4, h5, h6, h7, h8⟩ := hagree c
    exact ⟨(h c).1.trans (same_y m m' c (finK m hpre c) h0 h1 h2 h3 h4 h5 h6 h7 h8), (h c).2.1.trans (same_h m m' c (finK m hpre c) h0 h1 h2 h3 h4 h5 h6 h7 h8), (h c).2.2⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.KernelHyena
public import proofs.«01_k».proof.Proof.Gen.KernelHyena.Frame
public import proofs.«01_k».proof.Proof.Gen.KernelHyenaIdeal
public import proofs.«01_k».proof.Proof.Gen.KernelHyenaIdeal.Frame
public import proofs.«01_k».proof.Proof.Gen.KernelHyenaIdeal.Value
public import proofs.«01_k».proof.Proof.Gen.ReferenceHyenaIdeal
public import proofs.«01_k».proof.Proof.Gen.ReferenceHyenaIdeal.Run
public import proofs.«01_k».proof.Proof.Gen.KernelLru
public import proofs.«01_k».proof.Proof.Gen.KernelLru.Frame
public import proofs.«01_k».proof.Proof.Gen.KernelLruIdeal
public import proofs.«01_k».proof.Proof.Gen.KernelLruIdeal.Frame
public import proofs.«01_k».proof.Proof.Gen.KernelLruIdeal.Value
public import proofs.«01_k».proof.Proof.Gen.ReferenceLruIdeal
public import proofs.«01_k».proof.Proof.Gen.ReferenceLruIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.ValUp
public import proofs.«01_k».proof.Proof.ValHyena
public import proofs.«01_k».proof.Proof.ValLru
public import proofs.«01_k».proof.Proof.ValOut
public import proofs.«01_k».proof.Proof.ValNorm
public import proofs.«01_k».proof.Proof.ValMod
public import proofs.«01_k».proof.Proof.ValNormCtx
public import proofs.«01_k».proof.Proof.ValLruCtx
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelMod
public import proofs.«01_k».proof.Proof.Gen.KernelMod.Frame
public import proofs.«01_k».proof.Proof.Gen.KernelModIdeal
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.Pre_finite_mod
public import proofs.«01_k».proof.Proof.Gen.KernelNormCtx
public import proofs.«01_k».proof.Proof.Gen.KernelNormCtx.Frame
public import proofs.«01_k».proof.Proof.Gen.KernelNormCtxIdeal
public import proofs.«01_k».proof.Proof.Gen.KernelNormCtxIdeal.Frame
public import proofs.«01_k».proof.Proof.Gen.KernelNormCtxIdeal.Value
public import proofs.«01_k».proof.Proof.Gen.ReferenceNormCtxIdeal
public import proofs.«01_k».proof.Proof.Gen.ReferenceNormCtxIdeal.Run
public import proofs.«01_k».proof.Proof.Gen.KernelLruCtx
public import proofs.«01_k».proof.Proof.Gen.KernelLruCtx.Frame
public import proofs.«01_k».proof.Proof.Gen.KernelLruCtxIdeal
public import proofs.«01_k».proof.Proof.Gen.KernelLruCtxIdeal.Frame
public import proofs.«01_k».proof.Proof.Gen.KernelLruCtxIdeal.Value
public import proofs.«01_k».proof.Proof.Gen.ReferenceLruCtxIdeal
public import proofs.«01_k».proof.Proof.Gen.ReferenceLruCtxIdeal.Run
public import proofs.«01_k».proof.Proof.Gen.KernelScan
public import proofs.«01_k».proof.Proof.Gen.KernelScanIdeal
public import proofs.«01_k».proof.Proof.Gen.KernelScanIdeal.Skeleton
public import proofs.«01_k».proof.Proof.Gen.KernelScanIdeal.Loops
public import proofs.«01_k».proof.Proof.Gen.KernelScanIdeal.Launch
public import proofs.«01_k».proof.Proof.Gen.KernelScanIdeal.Points
public import proofs.«01_k».proof.Proof.Gen.KernelScanIdeal.Frame.Runs
public import proofs.«01_k».proof.Proof.Gen.ReferenceScanIdeal
public import proofs.«01_k».proof.Proof.Gen.ReferenceScanIdeal.Run
public import proofs.«01_k».proof.Proof.Gen.Pre_finite
public import proofs.«01_k».proof.Proof.ScanClaim
public import proofs.«01_k».proof.Proof.ScanValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- `Kernel` runs, keeps its arguments and leaves the machine quiescent. -/
theorem frameKernel : Cert.quiescent_Kernel (hKernel := Cert.Kernel.Gen.facts) :=
  fun m ρ _ => Cert.Kernel.Gen.frame m ρ

/-- `KernelIdeal` runs, keeps its arguments and leaves the machine quiescent. -/
theorem frameKernelIdeal : Cert.quiescent_KernelIdeal (hKernelIdeal := Cert.KernelIdeal.Gen.facts) :=
  fun m ρ _ => Cert.KernelIdeal.Gen.frame m ρ

/-- `ReferenceIdeal` runs, keeps its arguments and leaves the machine quiescent. -/
theorem frameReferenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- On equal arguments `KernelIdeal` and `ReferenceIdeal` end with equal results. -/
theorem valueKernel : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    exact (Cert.KernelIdeal.Point.final m c).symm

/-- `KernelHyena` runs, keeps its arguments and leaves the machine quiescent. -/
theorem frameKernelHyena : Cert.quiescent_KernelHyena (hKernelHyena := Cert.KernelHyena.Gen.facts) :=
  fun m ρ _ => Cert.KernelHyena.Gen.frame m ρ

/-- `KernelHyenaIdeal` runs, keeps its arguments and leaves the machine quiescent. -/
theorem frameKernelHyenaIdeal : Cert.quiescent_KernelHyenaIdeal (hKernelHyenaIdeal := Cert.KernelHyenaIdeal.Gen.facts) :=
  fun m ρ _ => Cert.KernelHyenaIdeal.Gen.frame m ρ

/-- `ReferenceHyenaIdeal` runs, keeps its arguments and leaves the machine quiescent. -/
theorem frameReferenceHyenaIdeal : Cert.quiescent_ReferenceHyenaIdeal (hReferenceHyenaIdeal := Cert.ReferenceHyenaIdeal.Gen.facts) := by
  intro m g _
  exact (θ_run Cert.ReferenceHyenaIdeal.defs _ _).mono (fun r h => ⟨fun c => (h c).2.2, sem_eq_zero_of_no_sems (by decide) r.2⟩)
    (Cert.ReferenceHyenaIdeal.Value.run m g)

/-- On equal arguments `KernelHyenaIdeal` and `ReferenceHyenaIdeal` end with equal results. -/
theorem valueKernelHyena : Cert.algebraic_KernelHyenaIdeal_ReferenceHyenaIdeal (hKernelHyenaIdeal := Cert.KernelHyenaIdeal.Gen.facts) (hReferenceHyenaIdeal := Cert.ReferenceHyenaIdeal.Gen.facts) := by
  pair_intro
  · run_from Cert.KernelHyenaIdeal.Gen.run_main m g
  · run_from Cert.ReferenceHyenaIdeal.Value.run m' g'
    · exact (Cert.KernelHyenaIdeal.Point.final13 m c).symm
    · obtain ⟨h0, h1, h2, h3, h4⟩ := hagree c
      refine Eq.trans (b := Cert.ReferenceHyenaIdeal.Value.REF2 (m' ((c.tc : Thread Cert.ReferenceHyenaIdeal.nD Cert.ReferenceHyenaIdeal.τ).loc Cert.ReferenceHyenaIdeal.main_arg0)) (m' ((c.tc : Thread Cert.ReferenceHyenaIdeal.nD Cert.ReferenceHyenaIdeal.τ).loc Cert.ReferenceHyenaIdeal.main_arg1)) (m' ((c.tc : Thread Cert.ReferenceHyenaIdeal.nD Cert.ReferenceHyenaIdeal.τ).loc Cert.ReferenceHyenaIdeal.main_arg2)) (m' ((c.tc : Thread Cert.ReferenceHyenaIdeal.nD Cert.ReferenceHyenaIdeal.τ).loc Cert.ReferenceHyenaIdeal.main_arg3)) (m' ((c.tc : Thread Cert.ReferenceHyenaIdeal.nD Cert.ReferenceHyenaIdeal.τ).loc Cert.ReferenceHyenaIdeal.main_arg4))) rfl ?_
      rw [h0, h1, h2, h3, h4]
      exact (Cert.KernelHyenaIdeal.Point.final14 m c).symm

/-- `KernelLru` runs, keeps its arguments and leaves the machine quiescent. -/
theorem frameKernelLru : Cert.quiescent_KernelLru (hKernelLru := Cert.KernelLru.Gen.facts) :=
  fun m ρ _ => Cert.KernelLru.Gen.frame m ρ

/-- `KernelLruIdeal` runs, keeps its arguments and leaves the machine quiescent. -/
theorem frameKernelLruIdeal : Cert.quiescent_KernelLruIdeal (hKernelLruIdeal := Cert.KernelLruIdeal.Gen.facts) :=
  fun m ρ _ => Cert.KernelLruIdeal.Gen.frame m ρ

/-- `ReferenceLruIdeal` runs, keeps its arguments and leaves the machine quiescent. -/
theorem frameReferenceLruIdeal : Cert.quiescent_ReferenceLruIdeal (hReferenceLruIdeal := Cert.ReferenceLruIdeal.Gen.facts) := by
  intro m g _
  exact (θ_run Cert.ReferenceLruIdeal.defs _ _).mono (fun r h => ⟨fun c => (h c).2, sem_eq_zero_of_no_sems (by decide) r.2⟩)
    (Cert.ReferenceLruIdeal.Value.run m g)

/-- On equal arguments `KernelLruIdeal` and `ReferenceLruIdeal` end with equal results. -/
theorem valueKernelLru : Cert.algebraic_KernelLruIdeal_ReferenceLruIdeal (hKernelLruIdeal := Cert.KernelLruIdeal.Gen.facts) (hReferenceLruIdeal := Cert.ReferenceLruIdeal.Gen.facts) := by
  pair_intro
  · run_from Cert.KernelLruIdeal.Gen.run_main m g
  · run_from Cert.ReferenceLruIdeal.Value.run m' g'
    exact (Cert.KernelLruIdeal.Point.final m c).symm

/-- `KernelOut` runs, keeps its arguments and leaves the machine quiescent. -/
theorem frameKernelOut : Cert.quiescent_KernelOut (hKernelOut := Cert.KernelOut.Gen.facts) :=
  fun m ρ _ => Cert.KernelOut.Gen.frame m ρ

/-- `KernelOutIdeal` runs, keeps its arguments and leaves the machine quiescent. -/
theorem frameKernelOutIdeal : Cert.quiescent_KernelOutIdeal (hKernelOutIdeal := Cert.KernelOutIdeal.Gen.facts) :=
  fun m ρ _ => Cert.KernelOutIdeal.Gen.frame m ρ

/-- `ReferenceOutIdeal` runs, keeps its arguments and leaves the machine quiescent. -/
theorem frameReferenceOutIdeal : Cert.quiescent_ReferenceOutIdeal (hReferenceOutIdeal := Cert.ReferenceOutIdeal.Gen.facts) := by
  intro m g _
  exact (θ_run Cert.ReferenceOutIdeal.defs _ _).mono (fun r h => ⟨fun c => (h c).2, sem_eq_zero_of_no_sems (by decide) r.2⟩)
    (Cert.ReferenceOutIdeal.Value.run m g)

/-- On equal arguments `KernelOutIdeal` and `ReferenceOutIdeal` end with equal results. -/
theorem valueKernelOut : Cert.algebraic_KernelOutIdeal_ReferenceOutIdeal (hKernelOutIdeal := Cert.KernelOutIdeal.Gen.facts) (hReferenceOutIdeal := Cert.ReferenceOutIdeal.Gen.facts) := by
  pair_intro
  · run_from Cert.KernelOutIdeal.Gen.run_main m g
  · run_from Cert.ReferenceOutIdeal.Value.run m' g'
    exact (Cert.KernelOutIdeal.Point.final m c).symm

/-- `KernelNorm` runs, keeps its arguments and leaves the machine quiescent. -/
theorem frameKernelNorm : Cert.quiescent_KernelNorm (hKernelNorm := Cert.KernelNorm.Gen.facts) :=
  fun m ρ _ => Cert.KernelNorm.Gen.frame m ρ

/-- `KernelNormIdeal` runs, keeps its arguments and leaves the machine quiescent. -/
theorem frameKernelNormIdeal : Cert.quiescent_KernelNormIdeal (hKernelNormIdeal := Cert.KernelNormIdeal.Gen.facts) :=
  fun m ρ _ => Cert.KernelNormIdeal.Gen.frame m ρ

/-- `ReferenceNormIdeal` runs, keeps its arguments and leaves the machine quiescent. -/
theorem frameReferenceNormIdeal : Cert.quiescent_ReferenceNormIdeal (hReferenceNormIdeal := Cert.ReferenceNormIdeal.Gen.facts) := by
  intro m g _
  exact (θ_run Cert.ReferenceNormIdeal.defs _ _).mono (fun r h => ⟨fun c => (h c).2, sem_eq_zero_of_no_sems (by decide) r.2⟩)
    (Cert.ReferenceNormIdeal.Value.run m g)

/-- On equal arguments `KernelNormIdeal` and `ReferenceNormIdeal` end with equal results. -/
theorem valueKernelNorm : Cert.algebraic_KernelNormIdeal_ReferenceNormIdeal (hKernelNormIdeal := Cert.KernelNormIdeal.Gen.facts) (hReferenceNormIdeal := Cert.ReferenceNormIdeal.Gen.facts) := by
  pair_intro
  · run_from Cert.KernelNormIdeal.Gen.run_main m g
  · run_from Cert.ReferenceNormIdeal.Value.run m' g'
    exact (Cert.KernelNormIdeal.Point.final m c).symm

/-- `KernelMod` runs, keeps its arguments and leaves the machine quiescent. -/
theorem frameKernelMod : Cert.quiescent_KernelMod (hKernelMod := Cert.KernelMod.Gen.facts) :=
  fun m ρ _ => Cert.KernelMod.Gen.frame m ρ

/-- `KernelModIdeal` runs, keeps its arguments and leaves the machine quiescent. -/
theorem frameKernelModIdeal : Cert.quiescent_KernelModIdeal (hKernelModIdeal := Cert.KernelModIdeal.Gen.facts) :=
  fun m ρ _ => Cert.KernelModIdeal.Gen.frame m ρ

/-- `KernelModIdeal` runs, keeps its arguments and leaves the machine quiescent, under the precondition of the value claim. -/
theorem frameKernelModIdealFinite : Cert.quiescent_KernelModIdeal_pre_finite_mod (hKernelModIdeal := Cert.KernelModIdeal.Gen.facts) (hPre_finite_mod := Cert.Pre_finite_mod.Gen.facts) :=
  fun m ρ _ => Cert.KernelModIdeal.Gen.frame m ρ

/-- `ReferenceModIdeal` runs, keeps its arguments and leaves the machine quiescent. -/
theorem frameReferenceModIdeal : Cert.quiescent_ReferenceModIdeal (hReferenceModIdeal := Cert.ReferenceModIdeal.Gen.facts) := by
  intro m g _
  exact (θ_run Cert.ReferenceModIdeal.defs _ _).mono (fun r h => ⟨fun c => (h c).2, sem_eq_zero_of_no_sems (by decide) r.2⟩)
    (Cert.ReferenceModIdeal.Value.run m g)

/-- `ReferenceModIdeal` runs, keeps its arguments and leaves the machine quiescent, under the precondition of the value claim. -/
theorem frameReferenceModIdealFinite : Cert.quiescent_ReferenceModIdeal_pre_finite_mod (hReferenceModIdeal := Cert.ReferenceModIdeal.Gen.facts) (hPre_finite_mod := Cert.Pre_finite_mod.Gen.facts) :=
  fun m ρ _ => frameReferenceModIdeal m ρ trivial

/-- On equal arguments, the conditioning vectors and the weights finite, `KernelModIdeal` and `ReferenceModIdeal` end with equal results. -/
theorem valueKernelMod : Cert.algebraic_KernelModIdeal_ReferenceModIdeal_pre_finite_mod (hKernelModIdeal := Cert.KernelModIdeal.Gen.facts) (hReferenceModIdeal := Cert.ReferenceModIdeal.Gen.facts) (hPre_finite_mod := Cert.Pre_finite_mod.Gen.facts) := by
  pair_intro
  · run_from Cert.KernelModIdeal.Gen.run_main m g
  · run_from Cert.ReferenceModIdeal.Value.run m' g'
    exact (Cert.KernelModIdeal.Point.final m c (Cert.KernelModIdeal.Point.fin0_of _ _ _ _ (hpre c))).symm

/-- `KernelNormCtx` runs, keeps its arguments and leaves the machine quiescent. -/
theorem frameKernelNormCtx : Cert.quiescent_KernelNormCtx (hKernelNormCtx := Cert.KernelNormCtx.Gen.facts) :=
  fun m ρ _ => Cert.KernelNormCtx.Gen.frame m ρ

/-- `KernelNormCtxIdeal` runs, keeps its arguments and leaves the machine quiescent. -/
theorem frameKernelNormCtxIdeal : Cert.quiescent_KernelNormCtxIdeal (hKernelNormCtxIdeal := Cert.KernelNormCtxIdeal.Gen.facts) :=
  fun m ρ _ => Cert.KernelNormCtxIdeal.Gen.frame m ρ

/-- `ReferenceNormCtxIdeal` runs, keeps its arguments and leaves the machine quiescent. -/
theorem frameReferenceNormCtxIdeal : Cert.quiescent_ReferenceNormCtxIdeal (hReferenceNormCtxIdeal := Cert.ReferenceNormCtxIdeal.Gen.facts) := by
  intro m g _
  exact (θ_run Cert.ReferenceNormCtxIdeal.defs _ _).mono (fun r h => ⟨fun c => (h c).2, sem_eq_zero_of_no_sems (by decide) r.2⟩)
    (Cert.ReferenceNormCtxIdeal.Value.run m g)

/-- On equal arguments `KernelNormCtxIdeal` and `ReferenceNormCtxIdeal` end with equal results. -/
theorem valueKernelNormCtx : Cert.algebraic_KernelNormCtxIdeal_ReferenceNormCtxIdeal (hKernelNormCtxIdeal := Cert.KernelNormCtxIdeal.Gen.facts) (hReferenceNormCtxIdeal := Cert.ReferenceNormCtxIdeal.Gen.facts) := by
  pair_intro
  · run_from Cert.KernelNormCtxIdeal.Gen.run_main m g
  · run_from Cert.ReferenceNormCtxIdeal.Value.run m' g'
    exact (Cert.KernelNormCtxIdeal.Point.final m c).symm

/-- `KernelLruCtx` runs, keeps its arguments and leaves the machine quiescent. -/
theorem frameKernelLruCtx : Cert.quiescent_KernelLruCtx (hKernelLruCtx := Cert.KernelLruCtx.Gen.facts) :=
  fun m ρ _ => Cert.KernelLruCtx.Gen.frame m ρ

/-- `KernelLruCtxIdeal` runs, keeps its arguments and leaves the machine quiescent. -/
theorem frameKernelLruCtxIdeal : Cert.quiescent_KernelLruCtxIdeal (hKernelLruCtxIdeal := Cert.KernelLruCtxIdeal.Gen.facts) :=
  fun m ρ _ => Cert.KernelLruCtxIdeal.Gen.frame m ρ

/-- `ReferenceLruCtxIdeal` runs, keeps its arguments and leaves the machine quiescent. -/
theorem frameReferenceLruCtxIdeal : Cert.quiescent_ReferenceLruCtxIdeal (hReferenceLruCtxIdeal := Cert.ReferenceLruCtxIdeal.Gen.facts) := by
  intro m g _
  exact (θ_run Cert.ReferenceLruCtxIdeal.defs _ _).mono (fun r h => ⟨fun c => (h c).2, sem_eq_zero_of_no_sems (by decide) r.2⟩)
    (Cert.ReferenceLruCtxIdeal.Value.run m g)

/-- On equal arguments `KernelLruCtxIdeal` and `ReferenceLruCtxIdeal` end with equal results. -/
theorem valueKernelLruCtx : Cert.algebraic_KernelLruCtxIdeal_ReferenceLruCtxIdeal (hKernelLruCtxIdeal := Cert.KernelLruCtxIdeal.Gen.facts) (hReferenceLruCtxIdeal := Cert.ReferenceLruCtxIdeal.Gen.facts) := by
  pair_intro
  · run_from Cert.KernelLruCtxIdeal.Gen.run_main m g
  · run_from Cert.ReferenceLruCtxIdeal.Value.run m' g'
    exact (Cert.KernelLruCtxIdeal.Point.final m c).symm

/-- Every claim. -/
theorem claim : Cert.Claim :=
  ⟨Cert.KernelScan.Gen.facts, Cert.KernelScanIdeal.Gen.facts, Cert.ReferenceScanIdeal.Gen.facts, Cert.Kernel.Gen.facts, Cert.KernelIdeal.Gen.facts, Cert.ReferenceIdeal.Gen.facts, Cert.KernelHyena.Gen.facts, Cert.KernelHyenaIdeal.Gen.facts, Cert.ReferenceHyenaIdeal.Gen.facts, Cert.KernelLru.Gen.facts, Cert.KernelLruIdeal.Gen.facts, Cert.ReferenceLruIdeal.Gen.facts, Cert.KernelOut.Gen.facts, Cert.KernelOutIdeal.Gen.facts, Cert.ReferenceOutIdeal.Gen.facts, Cert.KernelNorm.Gen.facts, Cert.KernelNormIdeal.Gen.facts, Cert.ReferenceNormIdeal.Gen.facts, Cert.KernelMod.Gen.facts, Cert.KernelModIdeal.Gen.facts, Cert.ReferenceModIdeal.Gen.facts, Cert.KernelNormCtx.Gen.facts, Cert.KernelNormCtxIdeal.Gen.facts, Cert.ReferenceNormCtxIdeal.Gen.facts, Cert.KernelLruCtx.Gen.facts, Cert.KernelLruCtxIdeal.Gen.facts, Cert.ReferenceLruCtxIdeal.Gen.facts, Cert.Pre_finite.Gen.facts, Cert.Pre_finite_mod.Gen.facts,
    frameKernelScan, frameKernelScanIdeal, frameKernelScanIdealFinite, frameReferenceScanIdeal, frameReferenceScanIdealFinite, frameKernel, frameKernelIdeal, frameReferenceIdeal, frameKernelHyena, frameKernelHyenaIdeal, frameReferenceHyenaIdeal, frameKernelLru, frameKernelLruIdeal, frameReferenceLruIdeal, frameKernelOut, frameKernelOutIdeal, frameReferenceOutIdeal, frameKernelNorm, frameKernelNormIdeal, frameReferenceNormIdeal, frameKernelMod, frameKernelModIdeal, frameKernelModIdealFinite, frameReferenceModIdeal, frameReferenceModIdealFinite, frameKernelNormCtx, frameKernelNormCtxIdeal, frameReferenceNormCtxIdeal, frameKernelLruCtx, frameKernelLruCtxIdeal, frameReferenceLruCtxIdeal,
    trivial, valueKernelScan, trivial, valueKernel, trivial, valueKernelHyena, trivial, valueKernelLru, trivial, valueKernelOut, trivial, valueKernelNorm, trivial, valueKernelMod, trivial, valueKernelNormCtx, trivial, valueKernelLruCtx⟩

end Cert.Proof

end
